-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_v49_7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S4x136x3072 : Shape := ⟨3, ![4, 136, 3072]⟩
abbrev S1x1024x3088 : Shape := ⟨3, ![1, 1024, 3088]⟩
abbrev S1x16x512 : Shape := ⟨3, ![1, 16, 512]⟩
abbrev S1x512 : Shape := ⟨2, ![1, 512]⟩
abbrev S1x256 : Shape := ⟨2, ![1, 256]⟩
abbrev S1x1024x1024 : Shape := ⟨3, ![1, 1024, 1024]⟩
abbrev S2x1024x4096 : Shape := ⟨3, ![2, 1024, 4096]⟩
abbrev S2x4096x1024 : Shape := ⟨3, ![2, 4096, 1024]⟩
abbrev S2x2x1024 : Shape := ⟨3, ![2, 2, 1024]⟩
abbrev S512x512 : Shape := ⟨2, ![512, 512]⟩
abbrev S512x1024 : Shape := ⟨2, ![512, 1024]⟩
abbrev S1x128x4x128x256 : Shape := ⟨5, ![1, 128, 4, 128, 256]⟩
abbrev S1024x3088 : Shape := ⟨2, ![1024, 3088]⟩
abbrev S3088x1024 : Shape := ⟨2, ![3088, 1024]⟩
abbrev S16x512 : Shape := ⟨2, ![16, 512]⟩
abbrev S_ : Shape := ⟨0, ![]⟩
abbrev S128x512 : Shape := ⟨2, ![128, 512]⟩
abbrev S1024x1024 : Shape := ⟨2, ![1024, 1024]⟩
abbrev S512 : Shape := ⟨1, ![512]⟩
abbrev S256 : Shape := ⟨1, ![256]⟩
abbrev S4x1x1024 : Shape := ⟨3, ![4, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S128x4x128x256 : Shape := ⟨4, ![128, 4, 128, 256]⟩
abbrev S4x128x256 : Shape := ⟨3, ![4, 128, 256]⟩
abbrev S256x1024 : Shape := ⟨2, ![256, 1024]⟩
abbrev S1x8x1024 : Shape := ⟨3, ![1, 8, 1024]⟩
abbrev S1x1x1024 : Shape := ⟨3, ![1, 1, 1024]⟩
abbrev S8x512 : Shape := ⟨2, ![8, 512]⟩
abbrev S8x1024 : Shape := ⟨2, ![8, 1024]⟩
abbrev S2x4x128x256 : Shape := ⟨4, ![2, 4, 128, 256]⟩
abbrev S4x128x128 : Shape := ⟨3, ![4, 128, 128]⟩
abbrev S2x4x8x128 : Shape := ⟨4, ![2, 4, 8, 128]⟩
abbrev S4x512 : Shape := ⟨2, ![4, 512]⟩
abbrev S4x256 : Shape := ⟨2, ![4, 256]⟩
abbrev S4x1024 : Shape := ⟨2, ![4, 1024]⟩
abbrev S4x128 : Shape := ⟨2, ![4, 128]⟩
abbrev S1x128 : Shape := ⟨2, ![1, 128]⟩
abbrev S4 : Shape := ⟨1, ![4]⟩
abbrev S4x1 : Shape := ⟨2, ![4, 1]⟩
abbrev S1x1x4x128 : Shape := ⟨4, ![1, 1, 4, 128]⟩
abbrev S1x4x128 : Shape := ⟨3, ![1, 4, 128]⟩
abbrev S1x1x128 : Shape := ⟨3, ![1, 1, 128]⟩
abbrev S1x4x256 : Shape := ⟨3, ![1, 4, 256]⟩
abbrev S1x1024 : Shape := ⟨2, ![1, 1024]⟩
abbrev S128x1024 : Shape := ⟨2, ![128, 1024]⟩
abbrev S256x128 : Shape := ⟨2, ![256, 128]⟩
abbrev S256x512 : Shape := ⟨2, ![256, 512]⟩
abbrev S256x256 : Shape := ⟨2, ![256, 256]⟩
abbrev S64x512 : Shape := ⟨2, ![64, 512]⟩
abbrev S124x512 : Shape := ⟨2, ![124, 512]⟩
abbrev S128x256 : Shape := ⟨2, ![128, 256]⟩
abbrev S512x256 : Shape := ⟨2, ![512, 256]⟩
abbrev S1x128x256 : Shape := ⟨3, ![1, 128, 256]⟩
abbrev S128x128 : Shape := ⟨2, ![128, 128]⟩
abbrev S64x128 : Shape := ⟨2, ![64, 128]⟩
abbrev S64x256 : Shape := ⟨2, ![64, 256]⟩
abbrev S128x1 : Shape := ⟨2, ![128, 1]⟩
abbrev S256x1 : Shape := ⟨2, ![256, 1]⟩
abbrev S1x128x128 : Shape := ⟨3, ![1, 128, 128]⟩
abbrev S1x1x128x256 : Shape := ⟨4, ![1, 1, 128, 256]⟩
abbrev S1x1x8x128 : Shape := ⟨4, ![1, 1, 8, 128]⟩
abbrev S8x128 : Shape := ⟨2, ![8, 128]⟩
abbrev S8x256 : Shape := ⟨2, ![8, 256]⟩

abbrev nBuf : Space → Nat
  | .hbm => 44
  | .vmem => 47
  | .smem => 0
  | _ => 0

abbrev bufTy : (tb : Table) → Fin (tcTables nBuf tb) → BufTy
  | .hbm, ⟨0, _⟩ => ⟨S16384x1024, .f32⟩
  | .hbm, ⟨1, _⟩ => ⟨S4x136x3072, .f32⟩
  | .hbm, ⟨2, _⟩ => ⟨S1x1024x3088, .f32⟩
  | .hbm, ⟨3, _⟩ => ⟨S1x16x512, .f32⟩
  | .hbm, ⟨4, _⟩ => ⟨S1x512, .f32⟩
  | .hbm, ⟨5, _⟩ => ⟨S1x256, .f32⟩
  | .hbm, ⟨6, _⟩ => ⟨S1x1024x1024, .f32⟩
  | .hbm, ⟨7, _⟩ => ⟨S2x1024x4096, .f32⟩
  | .hbm, ⟨8, _⟩ => ⟨S2x4096x1024, .f32⟩
  | .hbm, ⟨9, _⟩ => ⟨S2x2x1024, .f32⟩
  | .hbm, ⟨10, _⟩ => ⟨S2x2x1024, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S512x1024, .f32⟩
  | .hbm, ⟨15, _⟩ => ⟨S512x1024, .f32⟩
  | .hbm, ⟨16, _⟩ => ⟨S1x128x4x128x256, .f32⟩
  | .hbm, ⟨17, _⟩ => ⟨S1024x3088, .f32⟩
  | .hbm, ⟨18, _⟩ => ⟨S3088x1024, .f32⟩
  | .hbm, ⟨19, _⟩ => ⟨S3088x1024, .bf16⟩
  | .hbm, ⟨20, _⟩ => ⟨S16x512, .f32⟩
  | .hbm, ⟨21, _⟩ => ⟨S_, .i32⟩
  | .hbm, ⟨22, _⟩ => ⟨S_, .f32⟩
  | .hbm, ⟨23, _⟩ => ⟨S128x512, .f32⟩
  | .hbm, ⟨24, _⟩ => ⟨S128x512, .bf16⟩
  | .hbm, ⟨25, _⟩ => ⟨S1024x1024, .f32⟩
  | .hbm, ⟨26, _⟩ => ⟨S1024x1024, .bf16⟩
  | .hbm, ⟨27, _⟩ => ⟨S512, .f32⟩
  | .hbm, ⟨28, _⟩ => ⟨S1x512, .f32⟩
  | .hbm, ⟨29, _⟩ => ⟨S256, .f32⟩
  | .hbm, ⟨30, _⟩ => ⟨S1x256, .f32⟩
  | .hbm, ⟨31, _⟩ => ⟨S4x1x1024, .f32⟩
  | .hbm, ⟨32, _⟩ => ⟨S4x1x1024, .f32⟩
  | .hbm, ⟨33, _⟩ => ⟨S1x1024x4096, .f32⟩
  | .hbm, ⟨34, _⟩ => ⟨S1024x4096, .f32⟩
  | .hbm, ⟨35, _⟩ => ⟨S1024x4096, .bf16⟩
  | .hbm, ⟨36, _⟩ => ⟨S1x4096x1024, .f32⟩
  | .hbm, ⟨37, _⟩ => ⟨S4096x1024, .f32⟩
  | .hbm, ⟨38, _⟩ => ⟨S4096x1024, .bf16⟩
  | .hbm, ⟨39, _⟩ => ⟨S128x4x128x256, .f32⟩
  | .hbm, ⟨40, _⟩ => ⟨S16384x1024, .f32⟩
  | .hbm, ⟨41, _⟩ => ⟨S4x128x256, .f32⟩
  | .hbm, ⟨42, _⟩ => ⟨S512x1024, .f32⟩
  | .hbm, ⟨43, _⟩ => ⟨S128x4x128x256, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x8x1024, .f32⟩
  | .local _ .vmem, ⟨7, _⟩ => ⟨S1x8x1024, .f32⟩
  | .local _ .vmem, ⟨8, _⟩ => ⟨S1x8x1024, .f32⟩
  | .local _ .vmem, ⟨9, _⟩ => ⟨S1x8x1024, .f32⟩
  | .local _ .vmem, ⟨10, _⟩ => ⟨S3088x1024, .bf16⟩
  | .local _ .vmem, ⟨11, _⟩ => ⟨S128x512, .bf16⟩
  | .local _ .vmem, ⟨12, _⟩ => ⟨S1x512, .f32⟩
  | .local _ .vmem, ⟨13, _⟩ => ⟨S1x256, .f32⟩
  | .local _ .vmem, ⟨14, _⟩ => ⟨S1024x1024, .bf16⟩
  | .local _ .vmem, ⟨15, _⟩ => ⟨S1024x4096, .bf16⟩
  | .local _ .vmem, ⟨16, _⟩ => ⟨S4096x1024, .bf16⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S8x512, .f32⟩
  | .local _ .vmem, ⟨22, _⟩ => ⟨S8x512, .f32⟩
  | .local _ .vmem, ⟨23, _⟩ => ⟨S8x512, .f32⟩
  | .local _ .vmem, ⟨24, _⟩ => ⟨S8x512, .f32⟩
  | .local _ .vmem, ⟨25, _⟩ => ⟨S8x512, .f32⟩
  | .local _ .vmem, ⟨26, _⟩ => ⟨S8x512, .f32⟩
  | .local _ .vmem, ⟨27, _⟩ => ⟨S8x1024, .f32⟩
  | .local _ .vmem, ⟨28, _⟩ => ⟨S8x1024, .f32⟩
  | .local _ .vmem, ⟨29, _⟩ => ⟨S8x1024, .f32⟩
  | .local _ .vmem, ⟨30, _⟩ => ⟨S8x1024, .f32⟩
  | .local _ .vmem, ⟨31, _⟩ => ⟨S2x4x128x256, .f32⟩
  | .local _ .vmem, ⟨32, _⟩ => ⟨S2x4x128x256, .f32⟩
  | .local _ .vmem, ⟨33, _⟩ => ⟨S256x1024, .f32⟩
  | .local _ .vmem, ⟨34, _⟩ => ⟨S256x1024, .f32⟩
  | .local _ .vmem, ⟨35, _⟩ => ⟨S4x128x256, .f32⟩
  | .local _ .vmem, ⟨36, _⟩ => ⟨S8x1024, .f32⟩
  | .local _ .vmem, ⟨37, _⟩ => ⟨S8x1024, .f32⟩
  | .local _ .vmem, ⟨38, _⟩ => ⟨S2x4x128x256, .f32⟩
  | .local _ .vmem, ⟨39, _⟩ => ⟨S2x4x128x256, .f32⟩
  | .local _ .vmem, ⟨40, _⟩ => ⟨S256x1024, .bf16⟩
  | .local _ .vmem, ⟨41, _⟩ => ⟨S4x128x256, .f32⟩
  | .local _ .vmem, ⟨42, _⟩ => ⟨S256x1024, .f32⟩
  | .local _ .vmem, ⟨43, _⟩ => ⟨S4x128x128, .f32⟩
  | .local _ .vmem, ⟨44, _⟩ => ⟨S4x128x256, .f32⟩
  | .local _ .vmem, ⟨45, _⟩ => ⟨S2x4x8x128, .f32⟩
  | .local _ .vmem, ⟨46, _⟩ => ⟨S256x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_call0_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21_0 : Ref sig .tc := ⟨.hbm, 40, rfl⟩
abbrev main_v21_1 : Ref sig .tc := ⟨.hbm, 41, rfl⟩
abbrev main_v21_2 : Ref sig .tc := ⟨.hbm, 42, rfl⟩
abbrev main_v21_3 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg19_1 : Ref sig .tc := ⟨.vmem, 22, rfl⟩
abbrev cc0_stg20_0 : Ref sig .tc := ⟨.vmem, 23, rfl⟩
abbrev cc0_stg20_1 : Ref sig .tc := ⟨.vmem, 24, rfl⟩
abbrev cc0_stg21_0 : Ref sig .tc := ⟨.vmem, 25, rfl⟩
abbrev cc0_stg21_1 : Ref sig .tc := ⟨.vmem, 26, rfl⟩
abbrev cc0_stg22_0 : Ref sig .tc := ⟨.vmem, 27, rfl⟩
abbrev cc0_stg22_1 : Ref sig .tc := ⟨.vmem, 28, rfl⟩
abbrev cc0_stg23_0 : Ref sig .tc := ⟨.vmem, 29, rfl⟩
abbrev cc0_stg23_1 : Ref sig .tc := ⟨.vmem, 30, rfl⟩
abbrev cc0_stg24_0 : Ref sig .tc := ⟨.vmem, 31, rfl⟩
abbrev cc0_stg24_1 : Ref sig .tc := ⟨.vmem, 32, rfl⟩
abbrev cc0_stg25_0 : Ref sig .tc := ⟨.vmem, 33, rfl⟩
abbrev cc0_stg25_1 : Ref sig .tc := ⟨.vmem, 34, rfl⟩
abbrev cc0_stg26_0 : Ref sig .tc := ⟨.vmem, 35, rfl⟩
abbrev cc0_stg27_0 : Ref sig .tc := ⟨.vmem, 36, rfl⟩
abbrev cc0_stg27_1 : Ref sig .tc := ⟨.vmem, 37, rfl⟩
abbrev cc0_stg28_0 : Ref sig .tc := ⟨.vmem, 38, rfl⟩
abbrev cc0_stg28_1 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_scratch3 : Ref sig .tc := ⟨.vmem, 43, rfl⟩
abbrev cc0_scratch4 : Ref sig .tc := ⟨.vmem, 44, rfl⟩
abbrev cc0_scratch5 : Ref sig .tc := ⟨.vmem, 45, rfl⟩
abbrev cc0_scratch6 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem19_1 : DmaSem sig := 22
abbrev cc0_sem20_0 : DmaSem sig := 23
abbrev cc0_sem20_1 : DmaSem sig := 24
abbrev cc0_sem21_0 : DmaSem sig := 25
abbrev cc0_sem21_1 : DmaSem sig := 26
abbrev cc0_sem22_0 : DmaSem sig := 27
abbrev cc0_sem22_1 : DmaSem sig := 28
abbrev cc0_sem23_0 : DmaSem sig := 29
abbrev cc0_sem23_1 : DmaSem sig := 30
abbrev cc0_sem24_0 : DmaSem sig := 31
abbrev cc0_sem24_1 : DmaSem sig := 32
abbrev cc0_sem25_0 : DmaSem sig := 33
abbrev cc0_sem25_1 : DmaSem sig := 34
abbrev cc0_sem26_0 : DmaSem sig := 35
abbrev cc0_sem27_0 : DmaSem sig := 36
abbrev cc0_sem27_1 : DmaSem sig := 37
abbrev cc0_sem28_0 : DmaSem sig := 38
abbrev cc0_sem28_1 : DmaSem sig := 39

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c64_i32 : BitVec 32 := 64#32
  let v4 : BitVec 1 := Scalar.cmpi .slt arg0 c64_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c64_i32_3 : BitVec 32 := 64#32
  let v8 : BitVec 1 := Scalar.cmpi .eq arg0 c64_i32_3
  let v9 : BitVec 32 := Scalar.extui v8
  let c0_i32_4 : BitVec 32 := 0#32
  let v10 : BitVec 1 := Scalar.cmpi .ne v9 c0_i32_4
  v10

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c2_i32 : BitVec 32 := 2#32
  let c16_i32 : BitVec 32 := 16#32
  let c0_i32 : BitVec 32 := 0#32
  let c0_i32_0 : BitVec 32 := 0#32
  ![c2_i32.toNat, c16_i32.toNat, c0_i32.toNat]

def cc0_transform_3 (i : grid0.Coords) : Fin 3 → Nat :=
  let arg0 : BitVec 32 := BitVec.ofNat 32 (i 0).val
  let c2_i32 : BitVec 32 := 2#32
  let c16_i32 : BitVec 32 := 16#32
  let c1_i32 : BitVec 32 := 1#32
  let c0_i32 : BitVec 32 := 0#32
  ![c2_i32.toNat, c16_i32.toNat, c1_i32.toNat]

def cc0_transform_4 (i : grid0.Coords) : Fin 3 → Nat :=
  let arg0 : BitVec 32 := BitVec.ofNat 32 (i 0).val
  let c2_i32 : BitVec 32 := 2#32
  let c16_i32 : BitVec 32 := 16#32
  let c2_i32_0 : BitVec 32 := 2#32
  let c0_i32 : BitVec 32 := 0#32
  ![c2_i32.toNat, c16_i32.toNat, c2_i32_0.toNat]

def cc0_transform_5 (i : grid0.Coords) : Fin 3 → Nat :=
  let arg0 : BitVec 32 := BitVec.ofNat 32 (i 0).val
  let c3_i32 : BitVec 32 := 3#32
  let c16_i32 : BitVec 32 := 16#32
  let c0_i32 : BitVec 32 := 0#32
  let c0_i32_0 : BitVec 32 := 0#32
  ![c3_i32.toNat, c16_i32.toNat, c0_i32.toNat]

def cc0_transform_6 (i : grid0.Coords) : Fin 3 → Nat :=
  let arg0 : BitVec 32 := BitVec.ofNat 32 (i 0).val
  let c3_i32 : BitVec 32 := 3#32
  let c16_i32 : BitVec 32 := 16#32
  let c1_i32 : BitVec 32 := 1#32
  let c0_i32 : BitVec 32 := 0#32
  ![c3_i32.toNat, c16_i32.toNat, c1_i32.toNat]

def cc0_transform_7 (i : grid0.Coords) : Fin 3 → Nat :=
  let arg0 : BitVec 32 := BitVec.ofNat 32 (i 0).val
  let c3_i32 : BitVec 32 := 3#32
  let c16_i32 : BitVec 32 := 16#32
  let c2_i32 : BitVec 32 := 2#32
  let c0_i32 : BitVec 32 := 0#32
  ![c3_i32.toNat, c16_i32.toNat, c2_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_16 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_17 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_18 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_19 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_21 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_22 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_23 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_24 (i : grid0.Coords) : Fin 4 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_25 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_27 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_28 (i : grid0.Coords) : Fin 4 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3088x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x4096 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4096x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S8x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S8x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S8x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S8x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S8x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S2x4x128x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 1 → Memref sig .tc .vmem S4x128x256 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 2 → Memref sig .tc .vmem S8x1024 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S2x4x128x256 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]
-- ==== ReferenceIdeal.lean ====
abbrev S16384x1024 : Shape := ⟨2, ![16384, 1024]⟩
abbrev S4x136x3072 : Shape := ⟨3, ![4, 136, 3072]⟩
abbrev S1x1024x3088 : Shape := ⟨3, ![1, 1024, 3088]⟩
abbrev S1x16x512 : Shape := ⟨3, ![1, 16, 512]⟩
abbrev S1x512 : Shape := ⟨2, ![1, 512]⟩
abbrev S1x256 : Shape := ⟨2, ![1, 256]⟩
abbrev S1x1024x1024 : Shape := ⟨3, ![1, 1024, 1024]⟩
abbrev S2x1024x4096 : Shape := ⟨3, ![2, 1024, 4096]⟩
abbrev S2x4096x1024 : Shape := ⟨3, ![2, 4096, 1024]⟩
abbrev S2x2x1024 : Shape := ⟨3, ![2, 2, 1024]⟩
abbrev S512x512 : Shape := ⟨2, ![512, 512]⟩
abbrev S512x1024 : Shape := ⟨2, ![512, 1024]⟩
abbrev S1x128x4x128x256 : Shape := ⟨5, ![1, 128, 4, 128, 256]⟩
abbrev S1x1x1024 : Shape := ⟨3, ![1, 1, 1024]⟩
abbrev S1x1024 : Shape := ⟨2, ![1, 1024]⟩
abbrev S_ : Shape := ⟨0, ![]⟩
abbrev S1024x3088 : Shape := ⟨2, ![1024, 3088]⟩
abbrev S16384x3088 : Shape := ⟨2, ![16384, 3088]⟩
abbrev S16384x512 : Shape := ⟨2, ![16384, 512]⟩
abbrev S16384x16 : Shape := ⟨2, ![16384, 16]⟩
abbrev S16x512 : Shape := ⟨2, ![16, 512]⟩
abbrev S512 : Shape := ⟨1, ![512]⟩
abbrev S256x64x4x128 : Shape := ⟨4, ![256, 64, 4, 128]⟩
abbrev S256x64x4x256 : Shape := ⟨4, ![256, 64, 4, 256]⟩
abbrev S4x128x256 : Shape := ⟨3, ![4, 128, 256]⟩
abbrev S256x64x1024 : Shape := ⟨3, ![256, 64, 1024]⟩
abbrev S1x64x4x128 : Shape := ⟨4, ![1, 64, 4, 128]⟩
abbrev S64x4x128 : Shape := ⟨3, ![64, 4, 128]⟩
abbrev S1x64x4x256 : Shape := ⟨4, ![1, 64, 4, 256]⟩
abbrev S64x4x256 : Shape := ⟨3, ![64, 4, 256]⟩
abbrev S1x64x1024 : Shape := ⟨3, ![1, 64, 1024]⟩
abbrev S64x1024 : Shape := ⟨2, ![64, 1024]⟩
abbrev S256 : Shape := ⟨1, ![256]⟩
abbrev S64x64 : Shape := ⟨2, ![64, 64]⟩
abbrev S4x64x64 : Shape := ⟨3, ![4, 64, 64]⟩
abbrev S4x256x64 : Shape := ⟨3, ![4, 256, 64]⟩
abbrev S1x4x128 : Shape := ⟨3, ![1, 4, 128]⟩
abbrev S4x128 : Shape := ⟨2, ![4, 128]⟩
abbrev S4x128x1 : Shape := ⟨3, ![4, 128, 1]⟩
abbrev S64x4 : Shape := ⟨2, ![64, 4]⟩
abbrev S64x4x1 : Shape := ⟨3, ![64, 4, 1]⟩
abbrev S1x1x256 : Shape := ⟨3, ![1, 1, 256]⟩
abbrev S1024x1024 : Shape := ⟨2, ![1024, 1024]⟩
abbrev S1024 : Shape := ⟨1, ![1024]⟩
abbrev S16384 : Shape := ⟨1, ![16384]⟩
abbrev S16384x1 : Shape := ⟨2, ![16384, 1]⟩
abbrev S1x1024x4096 : Shape := ⟨3, ![1, 1024, 4096]⟩
abbrev S1024x4096 : Shape := ⟨2, ![1024, 4096]⟩
abbrev S16384x4096 : Shape := ⟨2, ![16384, 4096]⟩
abbrev S1x4096x1024 : Shape := ⟨3, ![1, 4096, 1024]⟩
abbrev S4096x1024 : Shape := ⟨2, ![4096, 1024]⟩

abbrev nBuf : Space → Nat
  | .hbm => 291
  | .vmem => 0
  | .smem => 0
  | _ => 0

abbrev hbmTy0_0 (i : Nat) : BufTy := match i % 128 with
  | 0 => ⟨S16384x1024, .f32⟩
  | 1 => ⟨S4x136x3072, .f32⟩
  | 2 => ⟨S1x1024x3088, .f32⟩
  | 3 => ⟨S1x16x512, .f32⟩
  | 4 => ⟨S1x512, .f32⟩
  | 5 => ⟨S1x256, .f32⟩
  | 6 => ⟨S1x1024x1024, .f32⟩
  | 7 => ⟨S2x1024x4096, .f32⟩
  | 8 => ⟨S2x4096x1024, .f32⟩
  | 9 => ⟨S2x2x1024, .f32⟩
  | 10 => ⟨S2x2x1024, .f32⟩
  | 11 => ⟨S512x512, .f32⟩
  | 12 => ⟨S512x512, .f32⟩
  | 13 => ⟨S512x512, .f32⟩
  | 14 => ⟨S512x1024, .f32⟩
  | 15 => ⟨S512x1024, .f32⟩
  | 16 => ⟨S1x128x4x128x256, .f32⟩
  | 17 => ⟨S1x1x1024, .f32⟩
  | 18 => ⟨S1x1024, .f32⟩
  | 19 => ⟨S_, .f32⟩
  | 20 => ⟨S1x1024, .f32⟩
  | 21 => ⟨S1x1024, .f32⟩
  | 22 => ⟨S16384x1024, .f32⟩
  | 23 => ⟨S16384x1024, .f32⟩
  | 24 => ⟨S1x1x1024, .f32⟩
  | 25 => ⟨S1x1024, .f32⟩
  | 26 => ⟨S16384x1024, .f32⟩
  | 27 => ⟨S16384x1024, .f32⟩
  | 28 => ⟨S1024x3088, .f32⟩
  | 29 => ⟨S16384x3088, .f32⟩
  | 30 => ⟨S16384x512, .f32⟩
  | 31 => ⟨S16384x512, .f32⟩
  | 32 => ⟨S16384x1024, .f32⟩
  | 33 => ⟨S16384x1024, .f32⟩
  | 34 => ⟨S16384x16, .f32⟩
  | 35 => ⟨S16x512, .f32⟩
  | 36 => ⟨S16384x512, .f32⟩
  | 37 => ⟨S512, .f32⟩
  | 38 => ⟨S1x512, .f32⟩
  | 39 => ⟨S16384x512, .f32⟩
  | 40 => ⟨S16384x512, .f32⟩
  | 41 => ⟨S16384x512, .f32⟩
  | 42 => ⟨S_, .f32⟩
  | 43 => ⟨S16384x512, .f32⟩
  | 44 => ⟨S16384x512, .f32⟩
  | 45 => ⟨S16384x512, .f32⟩
  | 46 => ⟨S16384x512, .f32⟩
  | 47 => ⟨S16384x512, .i1⟩
  | 48 => ⟨S16384x512, .f32⟩
  | 49 => ⟨S16384x512, .f32⟩
  | 50 => ⟨S16384x512, .f32⟩
  | 51 => ⟨S16384x512, .f32⟩
  | 52 => ⟨S16384x512, .f32⟩
  | 53 => ⟨S16384x512, .f32⟩
  | 54 => ⟨S16384x512, .f32⟩
  | 55 => ⟨S16384x512, .f32⟩
  | 56 => ⟨S16384x512, .f32⟩
  | 57 => ⟨S_, .f32⟩
  | 58 => ⟨S16384x512, .f32⟩
  | 59 => ⟨S16384x512, .f32⟩
  | 60 => ⟨S256x64x4x128, .f32⟩
  | 61 => ⟨S_, .f32⟩
  | 62 => ⟨S256x64x4x128, .f32⟩
  | 63 => ⟨S256x64x4x128, .f32⟩
  | 64 => ⟨S256x64x4x128, .f32⟩
  | 65 => ⟨S256x64x4x256, .f32⟩
  | 66 => ⟨S256x64x4x128, .f32⟩
  | 67 => ⟨S_, .f32⟩
  | 68 => ⟨S4x128x256, .f32⟩
  | 69 => ⟨S256x64x1024, .f32⟩
  | 70 => ⟨S_, .f32⟩
  | 71 => ⟨S256x64x1024, .f32⟩
  | 72 => ⟨S_, .i32⟩
  | 73 => ⟨S256x64x4x128, .f32⟩
  | 74 => ⟨S256x64x4x128, .f32⟩
  | 75 => ⟨S256x64x4x256, .f32⟩
  | 76 => ⟨S256x64x4x128, .f32⟩
  | 77 => ⟨S256x64x1024, .f32⟩
  | 78 => ⟨S1x256, .f32⟩
  | 79 => ⟨S_, .i32⟩
  | 80 => ⟨S4x128x256, .f32⟩
  | 81 => ⟨S256x64x1024, .f32⟩
  | 82 => ⟨S_, .i32⟩
  | 83 => ⟨S_, .i1⟩
  | 84 => ⟨S_, .i32⟩
  | 85 => ⟨S_, .i32⟩
  | 86 => ⟨S_, .i32⟩
  | 87 => ⟨S1x64x4x128, .f32⟩
  | 88 => ⟨S64x4x128, .f32⟩
  | 89 => ⟨S_, .i32⟩
  | 90 => ⟨S_, .i32⟩
  | 91 => ⟨S_, .i32⟩
  | 92 => ⟨S1x64x4x128, .f32⟩
  | 93 => ⟨S64x4x128, .f32⟩
  | 94 => ⟨S_, .i32⟩
  | 95 => ⟨S_, .i32⟩
  | 96 => ⟨S_, .i32⟩
  | 97 => ⟨S1x64x4x256, .f32⟩
  | 98 => ⟨S64x4x256, .f32⟩
  | 99 => ⟨S_, .i32⟩
  | 100 => ⟨S_, .i32⟩
  | 101 => ⟨S_, .i32⟩
  | 102 => ⟨S1x64x4x128, .f32⟩
  | 103 => ⟨S64x4x128, .f32⟩
  | 104 => ⟨S_, .i32⟩
  | 105 => ⟨S_, .i32⟩
  | 106 => ⟨S1x64x1024, .f32⟩
  | 107 => ⟨S64x1024, .f32⟩
  | 108 => ⟨S256, .f32⟩
  | 109 => ⟨S_, .f32⟩
  | 110 => ⟨S_, .f32⟩
  | 111 => ⟨S64x4x128, .f32⟩
  | 112 => ⟨S64x4x128, .f32⟩
  | 113 => ⟨S64x4x128, .f32⟩
  | 114 => ⟨S64x4x128, .f32⟩
  | 115 => ⟨S64x4x128, .f32⟩
  | 116 => ⟨S64x4x128, .f32⟩
  | 117 => ⟨S_, .i1⟩
  | 118 => ⟨S64x64, .i1⟩
  | 119 => ⟨S64x64, .i32⟩
  | 120 => ⟨S_, .i32⟩
  | 121 => ⟨S64x64, .i32⟩
  | 122 => ⟨S64x64, .i32⟩
  | 123 => ⟨S64x64, .i32⟩
  | 124 => ⟨S64x64, .i1⟩
  | 125 => ⟨S_, .i1⟩
  | 126 => ⟨S64x64, .i1⟩
  | 127 => ⟨S64x64, .i1⟩
  | _ => ⟨S16384x1024, .f32⟩

abbrev hbmTy0_1 (i : Nat) : BufTy := match i % 128 with
  | 0 => ⟨S4x64x64, .f32⟩
  | 1 => ⟨S_, .f32⟩
  | 2 => ⟨S_, .f32⟩
  | 3 => ⟨S4x64x64, .i1⟩
  | 4 => ⟨S4x64x64, .f32⟩
  | 5 => ⟨S4x64x64, .f32⟩
  | 6 => ⟨S4x256x64, .f32⟩
  | 7 => ⟨S64x4x256, .f32⟩
  | 8 => ⟨S1x4x128, .f32⟩
  | 9 => ⟨S4x128, .f32⟩
  | 10 => ⟨S1x4x128, .f32⟩
  | 11 => ⟨S64x4x128, .f32⟩
  | 12 => ⟨S64x4x128, .f32⟩
  | 13 => ⟨S64x4x128, .f32⟩
  | 14 => ⟨S64x4x128, .f32⟩
  | 15 => ⟨S4x256x64, .f32⟩
  | 16 => ⟨S64x4x256, .f32⟩
  | 17 => ⟨S64x4x256, .f32⟩
  | 18 => ⟨S4x128, .f32⟩
  | 19 => ⟨S4x128x1, .f32⟩
  | 20 => ⟨S4x128x256, .f32⟩
  | 21 => ⟨S4x128x256, .f32⟩
  | 22 => ⟨S4x128x256, .f32⟩
  | 23 => ⟨S4x128x256, .f32⟩
  | 24 => ⟨S64x4x256, .f32⟩
  | 25 => ⟨S_, .f32⟩
  | 26 => ⟨S64x4, .f32⟩
  | 27 => ⟨S64x4x1, .f32⟩
  | 28 => ⟨S_, .f32⟩
  | 29 => ⟨S64x4x1, .f32⟩
  | 30 => ⟨S64x4x1, .f32⟩
  | 31 => ⟨S_, .f32⟩
  | 32 => ⟨S64x4x1, .f32⟩
  | 33 => ⟨S64x4x1, .f32⟩
  | 34 => ⟨S64x4x1, .f32⟩
  | 35 => ⟨S64x4x256, .f32⟩
  | 36 => ⟨S64x4x256, .f32⟩
  | 37 => ⟨S1x1x256, .f32⟩
  | 38 => ⟨S64x4x256, .f32⟩
  | 39 => ⟨S64x4x256, .f32⟩
  | 40 => ⟨S64x1024, .f32⟩
  | 41 => ⟨S64x1024, .f32⟩
  | 42 => ⟨S64x1024, .f32⟩
  | 43 => ⟨S_, .f32⟩
  | 44 => ⟨S64x1024, .f32⟩
  | 45 => ⟨S64x1024, .f32⟩
  | 46 => ⟨S_, .f32⟩
  | 47 => ⟨S64x1024, .f32⟩
  | 48 => ⟨S64x1024, .f32⟩
  | 49 => ⟨S64x1024, .f32⟩
  | 50 => ⟨S64x1024, .f32⟩
  | 51 => ⟨S1x64x1024, .f32⟩
  | 52 => ⟨S_, .i32⟩
  | 53 => ⟨S_, .i32⟩
  | 54 => ⟨S256x64x1024, .f32⟩
  | 55 => ⟨S_, .i32⟩
  | 56 => ⟨S_, .i32⟩
  | 57 => ⟨S16384x1024, .f32⟩
  | 58 => ⟨S1024x1024, .f32⟩
  | 59 => ⟨S16384x1024, .f32⟩
  | 60 => ⟨S_, .f32⟩
  | 61 => ⟨S16384x1024, .f32⟩
  | 62 => ⟨S16384x1024, .f32⟩
  | 63 => ⟨S1x1x1024, .f32⟩
  | 64 => ⟨S1x1024, .f32⟩
  | 65 => ⟨S16384x1024, .f32⟩
  | 66 => ⟨S16384x1024, .f32⟩
  | 67 => ⟨S16384x1024, .f32⟩
  | 68 => ⟨S1x1x1024, .f32⟩
  | 69 => ⟨S1024, .f32⟩
  | 70 => ⟨S1x1x1024, .f32⟩
  | 71 => ⟨S1024, .f32⟩
  | 72 => ⟨S_, .f32⟩
  | 73 => ⟨S16384, .f32⟩
  | 74 => ⟨S16384x1, .f32⟩
  | 75 => ⟨S_, .f32⟩
  | 76 => ⟨S16384x1, .f32⟩
  | 77 => ⟨S16384x1, .f32⟩
  | 78 => ⟨S16384x1024, .f32⟩
  | 79 => ⟨S16384x1024, .f32⟩
  | 80 => ⟨S16384x1024, .f32⟩
  | 81 => ⟨S_, .f32⟩
  | 82 => ⟨S16384, .f32⟩
  | 83 => ⟨S16384x1, .f32⟩
  | 84 => ⟨S_, .f32⟩
  | 85 => ⟨S16384x1, .f32⟩
  | 86 => ⟨S16384x1, .f32⟩
  | 87 => ⟨S16384x1024, .f32⟩
  | 88 => ⟨S16384x1024, .f32⟩
  | 89 => ⟨S_, .f32⟩
  | 90 => ⟨S16384x1, .f32⟩
  | 91 => ⟨S16384x1, .f32⟩
  | 92 => ⟨S16384x1, .f32⟩
  | 93 => ⟨S16384x1024, .f32⟩
  | 94 => ⟨S16384x1024, .f32⟩
  | 95 => ⟨S1x1024, .f32⟩
  | 96 => ⟨S16384x1024, .f32⟩
  | 97 => ⟨S16384x1024, .f32⟩
  | 98 => ⟨S1x1024, .f32⟩
  | 99 => ⟨S16384x1024, .f32⟩
  | 100 => ⟨S16384x1024, .f32⟩
  | 101 => ⟨S1x1x1024, .f32⟩
  | 102 => ⟨S1x1024, .f32⟩
  | 103 => ⟨S_, .f32⟩
  | 104 => ⟨S1x1024, .f32⟩
  | 105 => ⟨S1x1024, .f32⟩
  | 106 => ⟨S16384x1024, .f32⟩
  | 107 => ⟨S16384x1024, .f32⟩
  | 108 => ⟨S1x1x1024, .f32⟩
  | 109 => ⟨S1x1024, .f32⟩
  | 110 => ⟨S16384x1024, .f32⟩
  | 111 => ⟨S16384x1024, .f32⟩
  | 112 => ⟨S1x1024x4096, .f32⟩
  | 113 => ⟨S1024x4096, .f32⟩
  | 114 => ⟨S16384x4096, .f32⟩
  | 115 => ⟨S_, .f32⟩
  | 116 => ⟨S16384x4096, .f32⟩
  | 117 => ⟨S16384x4096, .f32⟩
  | 118 => ⟨S16384x4096, .f32⟩
  | 119 => ⟨S1x4096x1024, .f32⟩
  | 120 => ⟨S4096x1024, .f32⟩
  | 121 => ⟨S16384x1024, .f32⟩
  | 122 => ⟨S_, .f32⟩
  | 123 => ⟨S16384x1024, .f32⟩
  | 124 => ⟨S16384x1024, .f32⟩
  | 125 => ⟨S1x1x1024, .f32⟩
  | 126 => ⟨S1x1024, .f32⟩
  | 127 => ⟨S16384x1024, .f32⟩
  | _ => ⟨S16384x1024, .f32⟩

abbrev hbmTy0_2 (i : Nat) : BufTy := match i % 128 with
  | 0 => ⟨S16384x1024, .f32⟩
  | 1 => ⟨S16384x1024, .f32⟩
  | 2 => ⟨S1x1x1024, .f32⟩
  | 3 => ⟨S1024, .f32⟩
  | 4 => ⟨S1x1x1024, .f32⟩
  | 5 => ⟨S1024, .f32⟩
  | 6 => ⟨S_, .f32⟩
  | 7 => ⟨S16384, .f32⟩
  | 8 => ⟨S16384x1, .f32⟩
  | 9 => ⟨S_, .f32⟩
  | 10 => ⟨S16384x1, .f32⟩
  | 11 => ⟨S16384x1, .f32⟩
  | 12 => ⟨S16384x1024, .f32⟩
  | 13 => ⟨S16384x1024, .f32⟩
  | 14 => ⟨S16384x1024, .f32⟩
  | 15 => ⟨S_, .f32⟩
  | 16 => ⟨S16384, .f32⟩
  | 17 => ⟨S16384x1, .f32⟩
  | 18 => ⟨S_, .f32⟩
  | 19 => ⟨S16384x1, .f32⟩
  | 20 => ⟨S16384x1, .f32⟩
  | 21 => ⟨S16384x1024, .f32⟩
  | 22 => ⟨S16384x1024, .f32⟩
  | 23 => ⟨S_, .f32⟩
  | 24 => ⟨S16384x1, .f32⟩
  | 25 => ⟨S16384x1, .f32⟩
  | 26 => ⟨S16384x1, .f32⟩
  | 27 => ⟨S16384x1024, .f32⟩
  | 28 => ⟨S16384x1024, .f32⟩
  | 29 => ⟨S1x1024, .f32⟩
  | 30 => ⟨S16384x1024, .f32⟩
  | 31 => ⟨S16384x1024, .f32⟩
  | 32 => ⟨S1x1024, .f32⟩
  | 33 => ⟨S16384x1024, .f32⟩
  | 34 => ⟨S16384x1024, .f32⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_1 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_2 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_3 : Ref sig .tc := ⟨.hbm, 67, rfl⟩
abbrev main_v46 : Ref sig .tc := ⟨.hbm, 68, rfl⟩
abbrev main_v47 : Ref sig .tc := ⟨.hbm, 69, rfl⟩
abbrev main_cst_4 : Ref sig .tc := ⟨.hbm, 70, rfl⟩
abbrev main_v48 : Ref sig .tc := ⟨.hbm, 71, rfl⟩
abbrev main_c : Ref sig .tc := ⟨.hbm, 72, rfl⟩
abbrev main_v49_0 : Ref sig .tc := ⟨.hbm, 73, rfl⟩
abbrev main_v49_1 : Ref sig .tc := ⟨.hbm, 74, rfl⟩
abbrev main_v49_2 : Ref sig .tc := ⟨.hbm, 75, rfl⟩
abbrev main_v49_3 : Ref sig .tc := ⟨.hbm, 76, rfl⟩
abbrev main_v49_4 : Ref sig .tc := ⟨.hbm, 77, rfl⟩
abbrev main_v49_5 : Ref sig .tc := ⟨.hbm, 78, rfl⟩
abbrev main_v49_6 : Ref sig .tc := ⟨.hbm, 79, rfl⟩
abbrev main_v49_7 : Ref sig .tc := ⟨.hbm, 80, rfl⟩
abbrev main_v49_8 : Ref sig .tc := ⟨.hbm, 81, rfl⟩
abbrev main_while0c_c_26 : Ref sig .tc := ⟨.hbm, 82, rfl⟩
abbrev main_while0c_v141 : Ref sig .tc := ⟨.hbm, 83, rfl⟩
abbrev main_while0b_call0_c : Ref sig .tc := ⟨.hbm, 84, rfl⟩
abbrev main_while0b_call0_c_0 : Ref sig .tc := ⟨.hbm, 85, rfl⟩
abbrev main_while0b_call0_c_1 : Ref sig .tc := ⟨.hbm, 86, rfl⟩
abbrev main_while0b_call0_v0 : Ref sig .tc := ⟨.hbm, 87, rfl⟩
abbrev main_while0b_v141 : Ref sig .tc := ⟨.hbm, 88, rfl⟩
abbrev main_while0b_call1_c : Ref sig .tc := ⟨.hbm, 89, rfl⟩
abbrev main_while0b_call1_c_0 : Ref sig .tc := ⟨.hbm, 90, rfl⟩
abbrev main_while0b_call1_c_1 : Ref sig .tc := ⟨.hbm, 91, rfl⟩
abbrev main_while0b_call1_v0 : Ref sig .tc := ⟨.hbm, 92, rfl⟩
abbrev main_while0b_v142 : Ref sig .tc := ⟨.hbm, 93, rfl⟩
abbrev main_while0b_call2_c : Ref sig .tc := ⟨.hbm, 94, rfl⟩
abbrev main_while0b_call2_c_0 : Ref sig .tc := ⟨.hbm, 95, rfl⟩
abbrev main_while0b_call2_c_1 : Ref sig .tc := ⟨.hbm, 96, rfl⟩
abbrev main_while0b_call2_v0 : Ref sig .tc := ⟨.hbm, 97, rfl⟩
abbrev main_while0b_v143 : Ref sig .tc := ⟨.hbm, 98, rfl⟩
abbrev main_while0b_call3_c : Ref sig .tc := ⟨.hbm, 99, rfl⟩
abbrev main_while0b_call3_c_0 : Ref sig .tc := ⟨.hbm, 100, rfl⟩
abbrev main_while0b_call3_c_1 : Ref sig .tc := ⟨.hbm, 101, rfl⟩
abbrev main_while0b_call3_v0 : Ref sig .tc := ⟨.hbm, 102, rfl⟩
abbrev main_while0b_v144 : Ref sig .tc := ⟨.hbm, 103, rfl⟩
abbrev main_while0b_call4_c : Ref sig .tc := ⟨.hbm, 104, rfl⟩
abbrev main_while0b_call4_c_0 : Ref sig .tc := ⟨.hbm, 105, rfl⟩
abbrev main_while0b_call4_v0 : Ref sig .tc := ⟨.hbm, 106, rfl⟩
abbrev main_while0b_v145 : Ref sig .tc := ⟨.hbm, 107, rfl⟩
abbrev main_while0b_v146 : Ref sig .tc := ⟨.hbm, 108, rfl⟩
abbrev main_while0b_call5_call0_cst : Ref sig .tc := ⟨.hbm, 109, rfl⟩
abbrev main_while0b_call5_call0_v0 : Ref sig .tc := ⟨.hbm, 110, rfl⟩
abbrev main_while0b_v147 : Ref sig .tc := ⟨.hbm, 111, rfl⟩
abbrev main_while0b_v148 : Ref sig .tc := ⟨.hbm, 112, rfl⟩
abbrev main_while0b_v149 : Ref sig .tc := ⟨.hbm, 113, rfl⟩
abbrev main_while0b_v150 : Ref sig .tc := ⟨.hbm, 114, rfl⟩
abbrev main_while0b_v151 : Ref sig .tc := ⟨.hbm, 115, rfl⟩
abbrev main_while0b_v152 : Ref sig .tc := ⟨.hbm, 116, rfl⟩
abbrev main_while0b_c_26 : Ref sig .tc := ⟨.hbm, 117, rfl⟩
abbrev main_while0b_v153 : Ref sig .tc := ⟨.hbm, 118, rfl⟩
abbrev main_while0b_call6_v0 : Ref sig .tc := ⟨.hbm, 119, rfl⟩
abbrev main_while0b_call6_c : Ref sig .tc := ⟨.hbm, 120, rfl⟩
abbrev main_while0b_call6_v1 : Ref sig .tc := ⟨.hbm, 121, rfl⟩
abbrev main_while0b_call6_v2 : Ref sig .tc := ⟨.hbm, 122, rfl⟩
abbrev main_while0b_call6_v3 : Ref sig .tc := ⟨.hbm, 123, rfl⟩
abbrev main_while0b_call6_v4 : Ref sig .tc := ⟨.hbm, 124, rfl⟩
abbrev main_while0b_call6_c_0 : Ref sig .tc := ⟨.hbm, 125, rfl⟩
abbrev main_while0b_call6_v5 : Ref sig .tc := ⟨.hbm, 126, rfl⟩
abbrev main_while0b_v154 : Ref sig .tc := ⟨.hbm, 127, rfl⟩
abbrev main_while0b_v155 : Ref sig .tc := ⟨.hbm, 128, rfl⟩
abbrev main_while0b_cst_27 : Ref sig .tc := ⟨.hbm, 129, rfl⟩
abbrev main_while0b_call7_v0 : Ref sig .tc := ⟨.hbm, 130, rfl⟩
abbrev main_while0b_call7_v1 : Ref sig .tc := ⟨.hbm, 131, rfl⟩
abbrev main_while0b_call7_v2 : Ref sig .tc := ⟨.hbm, 132, rfl⟩
abbrev main_while0b_v156 : Ref sig .tc := ⟨.hbm, 133, rfl⟩
abbrev main_while0b_v157 : Ref sig .tc := ⟨.hbm, 134, rfl⟩
abbrev main_while0b_v158 : Ref sig .tc := ⟨.hbm, 135, rfl⟩
abbrev main_while0b_v159 : Ref sig .tc := ⟨.hbm, 136, rfl⟩
abbrev main_while0b_v160 : Ref sig .tc := ⟨.hbm, 137, rfl⟩
abbrev main_while0b_v161 : Ref sig .tc := ⟨.hbm, 138, rfl⟩
abbrev main_while0b_v162 : Ref sig .tc := ⟨.hbm, 139, rfl⟩
abbrev main_while0b_v163 : Ref sig .tc := ⟨.hbm, 140, rfl⟩
abbrev main_while0b_v164 : Ref sig .tc := ⟨.hbm, 141, rfl⟩
abbrev main_while0b_v165 : Ref sig .tc := ⟨.hbm, 142, rfl⟩
abbrev main_while0b_v166 : Ref sig .tc := ⟨.hbm, 143, rfl⟩
abbrev main_while0b_v167 : Ref sig .tc := ⟨.hbm, 144, rfl⟩
abbrev main_while0b_v168 : Ref sig .tc := ⟨.hbm, 145, rfl⟩
abbrev main_while0b_v169 : Ref sig .tc := ⟨.hbm, 146, rfl⟩
abbrev main_while0b_v170 : Ref sig .tc := ⟨.hbm, 147, rfl⟩
abbrev main_while0b_v171 : Ref sig .tc := ⟨.hbm, 148, rfl⟩
abbrev main_while0b_v172 : Ref sig .tc := ⟨.hbm, 149, rfl⟩
abbrev main_while0b_v173 : Ref sig .tc := ⟨.hbm, 150, rfl⟩
abbrev main_while0b_v174 : Ref sig .tc := ⟨.hbm, 151, rfl⟩
abbrev main_while0b_v175 : Ref sig .tc := ⟨.hbm, 152, rfl⟩
abbrev main_while0b_cst_28 : Ref sig .tc := ⟨.hbm, 153, rfl⟩
abbrev main_while0b_v176 : Ref sig .tc := ⟨.hbm, 154, rfl⟩
abbrev main_while0b_v177 : Ref sig .tc := ⟨.hbm, 155, rfl⟩
abbrev main_while0b_cst_29 : Ref sig .tc := ⟨.hbm, 156, rfl⟩
abbrev main_while0b_v178 : Ref sig .tc := ⟨.hbm, 157, rfl⟩
abbrev main_while0b_v179 : Ref sig .tc := ⟨.hbm, 158, rfl⟩
abbrev main_while0b_cst_30 : Ref sig .tc := ⟨.hbm, 159, rfl⟩
abbrev main_while0b_v180 : Ref sig .tc := ⟨.hbm, 160, rfl⟩
abbrev main_while0b_v181 : Ref sig .tc := ⟨.hbm, 161, rfl⟩
abbrev main_while0b_v182 : Ref sig .tc := ⟨.hbm, 162, rfl⟩
abbrev main_while0b_v183 : Ref sig .tc := ⟨.hbm, 163, rfl⟩
abbrev main_while0b_v184 : Ref sig .tc := ⟨.hbm, 164, rfl⟩
abbrev main_while0b_v185 : Ref sig .tc := ⟨.hbm, 165, rfl⟩
abbrev main_while0b_v186 : Ref sig .tc := ⟨.hbm, 166, rfl⟩
abbrev main_while0b_v187 : Ref sig .tc := ⟨.hbm, 167, rfl⟩
abbrev main_while0b_v188 : Ref sig .tc := ⟨.hbm, 168, rfl⟩
abbrev main_while0b_call8_v0 : Ref sig .tc := ⟨.hbm, 169, rfl⟩
abbrev main_while0b_call8_v1 : Ref sig .tc := ⟨.hbm, 170, rfl⟩
abbrev main_while0b_call8_cst : Ref sig .tc := ⟨.hbm, 171, rfl⟩
abbrev main_while0b_call8_v2 : Ref sig .tc := ⟨.hbm, 172, rfl⟩
abbrev main_while0b_call8_v3 : Ref sig .tc := ⟨.hbm, 173, rfl⟩
abbrev main_while0b_call8_cst_0 : Ref sig .tc := ⟨.hbm, 174, rfl⟩
abbrev main_while0b_call8_v4 : Ref sig .tc := ⟨.hbm, 175, rfl⟩
abbrev main_while0b_call8_v5 : Ref sig .tc := ⟨.hbm, 176, rfl⟩
abbrev main_while0b_v189 : Ref sig .tc := ⟨.hbm, 177, rfl⟩
abbrev main_while0b_v190 : Ref sig .tc := ⟨.hbm, 178, rfl⟩
abbrev main_while0b_call9_v0 : Ref sig .tc := ⟨.hbm, 179, rfl⟩
abbrev main_while0b_call9_c : Ref sig .tc := ⟨.hbm, 180, rfl⟩
abbrev main_while0b_call9_c_0 : Ref sig .tc := ⟨.hbm, 181, rfl⟩
abbrev main_while0b_v191 : Ref sig .tc := ⟨.hbm, 182, rfl⟩
abbrev main_while0b_c_31 : Ref sig .tc := ⟨.hbm, 183, rfl⟩
abbrev main_while0b_v192 : Ref sig .tc := ⟨.hbm, 184, rfl⟩
abbrev main_v50 : Ref sig .tc := ⟨.hbm, 185, rfl⟩
abbrev main_v51 : Ref sig .tc := ⟨.hbm, 186, rfl⟩
abbrev main_v52 : Ref sig .tc := ⟨.hbm, 187, rfl⟩
abbrev main_cst_5 : Ref sig .tc := ⟨.hbm, 188, rfl⟩
abbrev main_v53 : Ref sig .tc := ⟨.hbm, 189, rfl⟩
abbrev main_v54 : Ref sig .tc := ⟨.hbm, 190, rfl⟩
abbrev main_v55 : Ref sig .tc := ⟨.hbm, 191, rfl⟩
abbrev main_v56 : Ref sig .tc := ⟨.hbm, 192, rfl⟩
abbrev main_v57 : Ref sig .tc := ⟨.hbm, 193, rfl⟩
abbrev main_v58 : Ref sig .tc := ⟨.hbm, 194, rfl⟩
abbrev main_v59 : Ref sig .tc := ⟨.hbm, 195, rfl⟩
abbrev main_v60 : Ref sig .tc := ⟨.hbm, 196, rfl⟩
abbrev main_v61 : Ref sig .tc := ⟨.hbm, 197, rfl⟩
abbrev main_v62 : Ref sig .tc := ⟨.hbm, 198, rfl⟩
abbrev main_v63 : Ref sig .tc := ⟨.hbm, 199, rfl⟩
abbrev main_cst_6 : Ref sig .tc := ⟨.hbm, 200, rfl⟩
abbrev main_v64 : Ref sig .tc := ⟨.hbm, 201, rfl⟩
abbrev main_v65 : Ref sig .tc := ⟨.hbm, 202, rfl⟩
abbrev main_cst_7 : Ref sig .tc := ⟨.hbm, 203, rfl⟩
abbrev main_v66 : Ref sig .tc := ⟨.hbm, 204, rfl⟩
abbrev main_v67 : Ref sig .tc := ⟨.hbm, 205, rfl⟩
abbrev main_v68 : Ref sig .tc := ⟨.hbm, 206, rfl⟩
abbrev main_v69 : Ref sig .tc := ⟨.hbm, 207, rfl⟩
abbrev main_v70 : Ref sig .tc := ⟨.hbm, 208, rfl⟩
abbrev main_cst_8 : Ref sig .tc := ⟨.hbm, 209, rfl⟩
abbrev main_v71 : Ref sig .tc := ⟨.hbm, 210, rfl⟩
abbrev main_v72 : Ref sig .tc := ⟨.hbm, 211, rfl⟩
abbrev main_cst_9 : Ref sig .tc := ⟨.hbm, 212, rfl⟩
abbrev main_v73 : Ref sig .tc := ⟨.hbm, 213, rfl⟩
abbrev main_v74 : Ref sig .tc := ⟨.hbm, 214, rfl⟩
abbrev main_v75 : Ref sig .tc := ⟨.hbm, 215, rfl⟩
abbrev main_v76 : Ref sig .tc := ⟨.hbm, 216, rfl⟩
abbrev main_cst_10 : Ref sig .tc := ⟨.hbm, 217, rfl⟩
abbrev main_v77 : Ref sig .tc := ⟨.hbm, 218, rfl⟩
abbrev main_v78 : Ref sig .tc := ⟨.hbm, 219, rfl⟩
abbrev main_v79 : Ref sig .tc := ⟨.hbm, 220, rfl⟩
abbrev main_v80 : Ref sig .tc := ⟨.hbm, 221, rfl⟩
abbrev main_v81 : Ref sig .tc := ⟨.hbm, 222, rfl⟩
abbrev main_v82 : Ref sig .tc := ⟨.hbm, 223, rfl⟩
abbrev main_v83 : Ref sig .tc := ⟨.hbm, 224, rfl⟩
abbrev main_v84 : Ref sig .tc := ⟨.hbm, 225, rfl⟩
abbrev main_v85 : Ref sig .tc := ⟨.hbm, 226, rfl⟩
abbrev main_v86 : Ref sig .tc := ⟨.hbm, 227, rfl⟩
abbrev main_v87 : Ref sig .tc := ⟨.hbm, 228, rfl⟩
abbrev main_v88 : Ref sig .tc := ⟨.hbm, 229, rfl⟩
abbrev main_v89 : Ref sig .tc := ⟨.hbm, 230, rfl⟩
abbrev main_cst_11 : Ref sig .tc := ⟨.hbm, 231, rfl⟩
abbrev main_v90 : Ref sig .tc := ⟨.hbm, 232, rfl⟩
abbrev main_v91 : Ref sig .tc := ⟨.hbm, 233, rfl⟩
abbrev main_v92 : Ref sig .tc := ⟨.hbm, 234, rfl⟩
abbrev main_v93 : Ref sig .tc := ⟨.hbm, 235, rfl⟩
abbrev main_v94 : Ref sig .tc := ⟨.hbm, 236, rfl⟩
abbrev main_v95 : Ref sig .tc := ⟨.hbm, 237, rfl⟩
abbrev main_v96 : Ref sig .tc := ⟨.hbm, 238, rfl⟩
abbrev main_v97 : Ref sig .tc := ⟨.hbm, 239, rfl⟩
abbrev main_v98 : Ref sig .tc := ⟨.hbm, 240, rfl⟩
abbrev main_v99 : Ref sig .tc := ⟨.hbm, 241, rfl⟩
abbrev main_v100 : Ref sig .tc := ⟨.hbm, 242, rfl⟩
abbrev main_call10_cst : Ref sig .tc := ⟨.hbm, 243, rfl⟩
abbrev main_call10_v0 : Ref sig .tc := ⟨.hbm, 244, rfl⟩
abbrev main_v101 : Ref sig .tc := ⟨.hbm, 245, rfl⟩
abbrev main_v102 : Ref sig .tc := ⟨.hbm, 246, rfl⟩
abbrev main_v103 : Ref sig .tc := ⟨.hbm, 247, rfl⟩
abbrev main_v104 : Ref sig .tc := ⟨.hbm, 248, rfl⟩
abbrev main_v105 : Ref sig .tc := ⟨.hbm, 249, rfl⟩
abbrev main_cst_12 : Ref sig .tc := ⟨.hbm, 250, rfl⟩
abbrev main_v106 : Ref sig .tc := ⟨.hbm, 251, rfl⟩
abbrev main_v107 : Ref sig .tc := ⟨.hbm, 252, rfl⟩
abbrev main_v108 : Ref sig .tc := ⟨.hbm, 253, rfl⟩
abbrev main_v109 : Ref sig .tc := ⟨.hbm, 254, rfl⟩
abbrev main_v110 : Ref sig .tc := ⟨.hbm, 255, rfl⟩
abbrev main_v111 : Ref sig .tc := ⟨.hbm, 256, rfl⟩
abbrev main_v112 : Ref sig .tc := ⟨.hbm, 257, rfl⟩
abbrev main_v113 : Ref sig .tc := ⟨.hbm, 258, rfl⟩
abbrev main_v114 : Ref sig .tc := ⟨.hbm, 259, rfl⟩
abbrev main_v115 : Ref sig .tc := ⟨.hbm, 260, rfl⟩
abbrev main_v116 : Ref sig .tc := ⟨.hbm, 261, rfl⟩
abbrev main_cst_13 : Ref sig .tc := ⟨.hbm, 262, rfl⟩
abbrev main_v117 : Ref sig .tc := ⟨.hbm, 263, rfl⟩
abbrev main_v118 : Ref sig .tc := ⟨.hbm, 264, rfl⟩
abbrev main_cst_14 : Ref sig .tc := ⟨.hbm, 265, rfl⟩
abbrev main_v119 : Ref sig .tc := ⟨.hbm, 266, rfl⟩
abbrev main_v120 : Ref sig .tc := ⟨.hbm, 267, rfl⟩
abbrev main_v121 : Ref sig .tc := ⟨.hbm, 268, rfl⟩
abbrev main_v122 : Ref sig .tc := ⟨.hbm, 269, rfl⟩
abbrev main_v123 : Ref sig .tc := ⟨.hbm, 270, rfl⟩
abbrev main_cst_15 : Ref sig .tc := ⟨.hbm, 271, rfl⟩
abbrev main_v124 : Ref sig .tc := ⟨.hbm, 272, rfl⟩
abbrev main_v125 : Ref sig .tc := ⟨.hbm, 273, rfl⟩
abbrev main_cst_16 : Ref sig .tc := ⟨.hbm, 274, rfl⟩
abbrev main_v126 : Ref sig .tc := ⟨.hbm, 275, rfl⟩
abbrev main_v127 : Ref sig .tc := ⟨.hbm, 276, rfl⟩
abbrev main_v128 : Ref sig .tc := ⟨.hbm, 277, rfl⟩
abbrev main_v129 : Ref sig .tc := ⟨.hbm, 278, rfl⟩
abbrev main_cst_17 : Ref sig .tc := ⟨.hbm, 279, rfl⟩
abbrev main_v130 : Ref sig .tc := ⟨.hbm, 280, rfl⟩
abbrev main_v131 : Ref sig .tc := ⟨.hbm, 281, rfl⟩
abbrev main_v132 : Ref sig .tc := ⟨.hbm, 282, rfl⟩
abbrev main_v133 : Ref sig .tc := ⟨.hbm, 283, rfl⟩
abbrev main_v134 : Ref sig .tc := ⟨.hbm, 284, rfl⟩
abbrev main_v135 : Ref sig .tc := ⟨.hbm, 285, rfl⟩
abbrev main_v136 : Ref sig .tc := ⟨.hbm, 286, rfl⟩
abbrev main_v137 : Ref sig .tc := ⟨.hbm, 287, rfl⟩
abbrev main_v138 : Ref sig .tc := ⟨.hbm, 288, rfl⟩
abbrev main_v139 : Ref sig .tc := ⟨.hbm, 289, rfl⟩
abbrev main_v140 : Ref sig .tc := ⟨.hbm, 290, rfl⟩

abbrev nD : Nat := 1
abbrev τ : Topo := Topo.v7x

variable {F : FTy → Type} [FloatOps F]

abbrev main_while0_count : Scf.Loop 32 := ⟨0#32, 256#32, 1#32⟩
-- ==== Proof.Pts.lean ====
/- Which of the three bodies a grid point takes, and which windows and scratch buffers it leaves alone there. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(Pipeline.RDat.FramePost.arr_in h c 1 rfl).trans ((hA c 1).trans (V_main_arg0 m c)),
      (Pipeline.RDat.FramePost.arr_in h c 7 rfl).trans ((hA c 7).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      (Pipeline.RDat.FramePost.arr_in h c 19 rfl).trans ((hA c 19).trans (V_main_arg11 m c)),
      (Pipeline.RDat.FramePost.arr_in h c 20 rfl).trans ((hA c 20).trans (V_main_arg12 m c)),
      (Pipeline.RDat.FramePost.arr_in h c 21 rfl).trans ((hA c 21).trans (V_main_arg13 m c)),
      (Pipeline.RDat.FramePost.arr_in h c 22 rfl).trans ((hA c 22).trans (V_main_arg14 m c)),
      (Pipeline.RDat.FramePost.arr_in h c 23 rfl).trans ((hA c 23).trans (V_main_arg15 m c)),
      ((h c).2 main_arg16 (Pipeline.mem_restRefs_of main_arg16 (by decide) (by decide))).trans (V_main_arg16 m c)⟩) h

abbrev cond0_0 (i : grid0.Coords) : Prop := k0_cond1 i = 1#1
theorem hcond0_0 : ∀ t : Fin cfg0.N, cond0_0 (grid0.coords t) ↔ t.val % 65 = 0 :=
  (fun t => by
    have ht : t.val < 65 := Nat.lt_of_lt_of_eq t.isLt N_0
    have e0 : (grid0.coords t 0).val = t.val / 1 % 65 := Pipeline.Grid.coords_val t 0 (by decide) rfl
    simp only [cond0_0, k0_cond1, e0]
    word_cmp
   : ∀ t : Fin grid0.N, cond0_0 (grid0.coords t) ↔ t.val % 65 = 0)

abbrev cond0_1 (i : grid0.Coords) : Prop := k0_cond2 i = 1#1
theorem hcond0_1 : ∀ t : Fin cfg0.N, cond0_1 (grid0.coords t) ↔ (1 ≤ t.val % 65 ∧ t.val % 65 ≤ 63) :=
  (by decide +kernel : ∀ t : Fin grid0.N, cond0_1 (grid0.coords t) ↔ (1 ≤ t.val % 65 ∧ t.val % 65 ≤ 63))

abbrev cond0_2 (i : grid0.Coords) : Prop := k0_cond3 i = 1#1
theorem hcond0_2 : ∀ t : Fin cfg0.N, cond0_2 (grid0.coords t) ↔ t.val % 65 = 64 :=
  (fun t => by
    have ht : t.val < 65 := Nat.lt_of_lt_of_eq t.isLt N_0
    have e0 : (grid0.coords t 0).val = t.val / 1 % 65 := Pipeline.Grid.coords_val t 0 (by decide) rfl
    simp only [cond0_2, k0_cond3, e0]
    word_cmp
   : ∀ t : Fin grid0.N, cond0_2 (grid0.coords t) ↔ t.val % 65 = 64)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
theorem liveAt0_14 : ∀ t : Fin cfg0.N, cfg0.idle 14 (grid0.coords t) = false := fun _ => rfl
theorem liveAt0_15 : ∀ t : Fin cfg0.N, cfg0.idle 15 (grid0.coords t) = false := fun _ => rfl
theorem liveAt0_16 : ∀ t : Fin cfg0.N, cfg0.idle 16 (grid0.coords t) = false := fun _ => rfl
theorem liveAt0_17 : ∀ t : Fin cfg0.N, cfg0.idle 17 (grid0.coords t) = false := fun _ => rfl
theorem liveAt0_18 : ∀ t : Fin cfg0.N, cfg0.idle 18 (grid0.coords t) = false := fun _ => rfl
theorem liveAt0_19 : ∀ t : Fin cfg0.N, cfg0.idle 19 (grid0.coords t) = false := fun _ => rfl
theorem liveAt0_20 : ∀ t : Fin cfg0.N, cfg0.idle 20 (grid0.coords t) = false := fun _ => rfl
theorem liveAt0_21 : ∀ t : Fin cfg0.N, cfg0.idle 21 (grid0.coords t) = false := fun _ => rfl
theorem liveAt0_22 : ∀ t : Fin cfg0.N, cfg0.idle 22 (grid0.coords t) = false := fun _ => rfl
theorem liveAt0_23 : ∀ t : Fin cfg0.N, cfg0.idle 23 (grid0.coords t) = false := fun _ => rfl
theorem liveAt0_24 : ∀ t : Fin cfg0.N, cfg0.idle 24 (grid0.coords t) = false := fun _ => rfl
theorem idleAt0_25_A : ∀ t : Fin cfg0.N, cond0_0 (grid0.coords t) → ¬cond0_1 (grid0.coords t) → ¬cond0_2 (grid0.coords t) → cfg0.idle 25 (grid0.coords t) = true := by decide +kernel
theorem noFlush0_25_A : ∀ t : Fin cfg0.N, cond0_0 (grid0.coords t) → ¬cond0_1 (grid0.coords t) → ¬cond0_2 (grid0.coords t) → (cfg0.win 25).flush t = false := by decide +kernel
theorem liveAt0_25_B : ∀ t : Fin cfg0.N, ¬cond0_0 (grid0.coords t) → cond0_1 (grid0.coords t) → ¬cond0_2 (grid0.coords t) → cfg0.idle 25 (grid0.coords t) = false := by decide +kernel
theorem liveAt0_25_C : ∀ t : Fin cfg0.N, ¬cond0_0 (grid0.coords t) → ¬cond0_1 (grid0.coords t) → cond0_2 (grid0.coords t) → cfg0.idle 25 (grid0.coords t) = false := by decide +kernel
theorem idleAt0_26_A : ∀ t : Fin cfg0.N, cond0_0 (grid0.coords t) → ¬cond0_1 (grid0.coords t) → ¬cond0_2 (grid0.coords t) → cfg0.idle 26 (grid0.coords t) = true := by decide +kernel
theorem noFlush0_26_A : ∀ t : Fin cfg0.N, cond0_0 (grid0.coords t) → ¬cond0_1 (grid0.coords t) → ¬cond0_2 (grid0.coords t) → (cfg0.win 26).flush t = false := by decide +kernel
theorem idleAt0_26_B : ∀ t : Fin cfg0.N, ¬cond0_0 (grid0.coords t) → cond0_1 (grid0.coords t) → ¬cond0_2 (grid0.coords t) → cfg0.idle 26 (grid0.coords t) = true := by decide +kernel
theorem noFlush0_26_B : ∀ t : Fin cfg0.N, ¬cond0_0 (grid0.coords t) → cond0_1 (grid0.coords t) → ¬cond0_2 (grid0.coords t) → (cfg0.win 26).flush t = false := by decide +kernel
theorem liveAt0_26_C : ∀ t : Fin cfg0.N, ¬cond0_0 (grid0.coords t) → ¬cond0_1 (grid0.coords t) → cond0_2 (grid0.coords t) → cfg0.idle 26 (grid0.coords t) = false := by decide +kernel

abbrev VO0_25 : View sig .tc .vmem S256x1024 .f32 := (Memref.whole cc0_stg25_0 : Memref sig .tc .vmem S256x1024 .f32).view
abbrev VO0_26 : View sig .tc .vmem S4x128x256 .f32 := (Memref.whole cc0_stg26_0 : Memref sig .tc .vmem S4x128x256 .f32).view
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S3088x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1024x1024 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1024x4096 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S4096x1024 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x1x1024 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x1x1024 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x1x1024 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x1x1024 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S8x512 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S8x512 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S8x512 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S8x1024 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S8x1024 .f32 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S2x4x128x256 .f32 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S256x1024 .f32 := win0_25.stage (cfg0.slots t 25)
abbrev hs0_25 (t : Fin cfg0.N) : (ms0_25 t).IsWhole := hstage0_25 ((cfg0.slots t 25).cast nbuf0_25)
abbrev ms0_26 (t : Fin cfg0.N) : Memref sig .tc .vmem S4x128x256 .f32 := win0_26.stage (cfg0.slots t 26)
abbrev hs0_26 (t : Fin cfg0.N) : (ms0_26 t).IsWhole := hstage0_26 ((cfg0.slots t 26).cast nbuf0_26)
abbrev ms0_27 (t : Fin cfg0.N) : Memref sig .tc .vmem S8x1024 .f32 := win0_27.stage (cfg0.slots t 27)
abbrev hs0_27 (t : Fin cfg0.N) : (ms0_27 t).IsWhole := hstage0_27 ((cfg0.slots t 27).cast nbuf0_27)
abbrev ms0_28 (t : Fin cfg0.N) : Memref sig .tc .vmem S2x4x128x256 .f32 := win0_28.stage (cfg0.slots t 28)
abbrev hs0_28 (t : Fin cfg0.N) : (ms0_28 t).IsWhole := hstage0_28 ((cfg0.slots t 28).cast nbuf0_28)
abbrev scM0_0 : Memref sig .tc .vmem S256x1024 .bf16 := Memref.whole cc0_scratch0
abbrev scM0_1 : Memref sig .tc .vmem S4x128x256 .f32 := Memref.whole cc0_scratch1
abbrev scM0_2 : Memref sig .tc .vmem S256x1024 .f32 := Memref.whole cc0_scratch2
abbrev scM0_3 : Memref sig .tc .vmem S4x128x128 .f32 := Memref.whole cc0_scratch3
abbrev scM0_4 : Memref sig .tc .vmem S4x128x256 .f32 := Memref.whole cc0_scratch4
abbrev scM0_5 : Memref sig .tc .vmem S2x4x8x128 .f32 := Memref.whole cc0_scratch5
abbrev scM0_6 : Memref sig .tc .vmem S256x1024 .bf16 := Memref.whole cc0_scratch6
abbrev VS0_0 : View sig .tc .vmem S256x1024 .bf16 := scM0_0.view
abbrev VS0_1 : View sig .tc .vmem S4x128x256 .f32 := scM0_1.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.KernelIdeal.Gen

end
-- ==== Proof.RunA.lean ====
/- The first grid point: the first tile of the recurrence. -/
module

public import proofs.«01_k».proof.Proof.Pts

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 0 in
noncomputable def kernelRun0_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S3088x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x4096 .bf16) (harg14 : arg14.IsWhole) (arg15 : Memref sig .tc .vmem S4096x1024 .bf16) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S8x512 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S2x4x128x256 .f32) (harg25 : arg25.IsWhole) (arg26 : Memref sig .tc .vmem S256x1024 .f32) (harg26 : arg26.IsWhole) (arg27 : Memref sig .tc .vmem S4x128x256 .f32) (harg27 : arg27.IsWhole) (arg28 : Memref sig .tc .vmem S8x1024 .f32) (harg28 : arg28.IsWhole) (arg29 : Memref sig .tc .vmem S2x4x128x256 .f32) (harg29 : arg29.IsWhole) (arg30 : Memref sig .tc .vmem S256x1024 .bf16) (harg30 : arg30.IsWhole) (arg31 : Memref sig .tc .vmem S4x128x256 .f32) (harg31 : arg31.IsWhole) (arg32 : Memref sig .tc .vmem S256x1024 .f32) (harg32 : arg32.IsWhole) (arg33 : Memref sig .tc .vmem S4x128x128 .f32) (harg33 : arg33.IsWhole) (arg34 : Memref sig .tc .vmem S4x128x256 .f32) (harg34 : arg34.IsWhole) (arg35 : Memref sig .tc .vmem S2x4x8x128 .f32) (harg35 : arg35.IsWhole) (arg36 : Memref sig .tc .vmem S256x1024 .bf16) (harg36 : arg36.IsWhole) (hc0 : cond0_0 i) (hc1 : ¬cond0_1 i) (hc2 : ¬cond0_2 i)
    (x0 : Vec F S256x1024 .f32) (x1 : Vec F S256x1024 .f32) (x2 : Vec F S1x8x1024 .f32) (x3 : Vec F S1x8x1024 .f32) (x4 : Vec F S1x8x1024 .f32) (x5 : Vec F S1x8x1024 .f32) (x6 : Vec F S1x8x1024 .f32) (x7 : Vec F S1x8x1024 .f32) (x8 : Vec F S3088x1024 .bf16) (x9 : Vec F S128x512 .bf16) (x10 : Vec F S1x512 .f32) (x11 : Vec F S1x256 .f32) (x12 : Vec F S1024x1024 .bf16) (x13 : Vec F S1024x4096 .bf16) (x14 : Vec F S4096x1024 .bf16) (x15 : Vec F S1x1x1024 .f32) (x16 : Vec F S1x1x1024 .f32) (x17 : Vec F S1x1x1024 .f32) (x18 : Vec F S1x1x1024 .f32) (x19 : Vec F S8x512 .f32) (x20 : Vec F S8x512 .f32) (x21 : Vec F S8x512 .f32) (x22 : Vec F S8x1024 .f32) (x23 : Vec F S8x1024 .f32) (x24 : Vec F S2x4x128x256 .f32) :
    Σ' (L25 : List (View.Piece (Elt F) S256x1024 .f32)), Σ' (L26 : List (View.Piece (Elt F) S4x128x256 .f32)), Σ' (LS0 : List (View.Piece (Elt F) S256x1024 .bf16)), Σ' (LS1 : List (View.Piece (Elt F) S4x128x256 .f32)), Σ' (LT2 : List (View.Piece (Elt F) S256x1024 .f32)), { LT6 : List (View.Piece (Elt F) S256x1024 .bf16) //
      ∀ (xi25 : Vec F S256x1024 .f32) (xi26 : Vec F S4x128x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare xi25 ∗ owns (c : Thread nD τ) arg27 fullShare xi26 ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare xi25 ∗ owns (c : Thread nD τ) arg27 fullShare xi26 ∗ (∃ d, owns (c : Thread nD τ) arg28 fullShare d) ∗ (∃ d, owns (c : Thread nD τ) arg29 fullShare d) ∗ (∃ f, arg30.view.loc (c : Thread nD τ) ↦[arg30.view.set]{fullShare} arg30.view.writes (Elt F) f LS0) ∗ (∃ f, arg31.view.loc (c : Thread nD τ) ↦[arg31.view.set]{fullShare} arg31.view.writes (Elt F) f LS1) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d)) -∗ K ⟨⟩))
          ⊢ wp frame (wpE (defs₀ (F := F)) Variants.none c none) E (cc0_gla_layer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K } := by
  refine ⟨[], [], ?_, ?_, [], [], fun xi25 xi26 E K => ?run⟩
  case run =>
    simp only [cc0_gla_layer_eq_skeleton]; unfold cc0_gla_layer_skel
    simp only [k0_part39_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%d27, %f27, -, H27⟩, ⟨%d28, %f28, -, H28⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hf25; obtain rfl := harg27.eq_unread hf26
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    isplitl [H25]
    · iexists _; isplitr; · ipureintro; exact harg26.read_unread _
      iexact H25
    isplitl [H26]
    · iexists _; isplitr; · ipureintro; exact harg27.read_unread _
      iexact H26
    isplitl [H27]
    · iexists _, _; isplitr; swap; · iexact H27
      ipureintro; rfl
    isplitl [H28]
    · iexists _, _; isplitr; swap; · iexact H28
      ipureintro; rfl
    isplitl [HS0]; · iexists _; iexact HS0
    isplitl [HS1]; · iexists _; iexact HS1
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.KernelIdeal.Gen

end
-- ==== Proof.RunB.lean ====
/- A grid point in the middle: a tile of the recurrence and the tail of the tile before. -/
module

public import proofs.«01_k».proof.Proof.Pts

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 0 in
noncomputable def kernelRun0_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S3088x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x4096 .bf16) (harg14 : arg14.IsWhole) (arg15 : Memref sig .tc .vmem S4096x1024 .bf16) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S8x512 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S2x4x128x256 .f32) (harg25 : arg25.IsWhole) (arg26 : Memref sig .tc .vmem S256x1024 .f32) (harg26 : arg26.IsWhole) (arg27 : Memref sig .tc .vmem S4x128x256 .f32) (harg27 : arg27.IsWhole) (arg28 : Memref sig .tc .vmem S8x1024 .f32) (harg28 : arg28.IsWhole) (arg29 : Memref sig .tc .vmem S2x4x128x256 .f32) (harg29 : arg29.IsWhole) (arg30 : Memref sig .tc .vmem S256x1024 .bf16) (harg30 : arg30.IsWhole) (arg31 : Memref sig .tc .vmem S4x128x256 .f32) (harg31 : arg31.IsWhole) (arg32 : Memref sig .tc .vmem S256x1024 .f32) (harg32 : arg32.IsWhole) (arg33 : Memref sig .tc .vmem S4x128x128 .f32) (harg33 : arg33.IsWhole) (arg34 : Memref sig .tc .vmem S4x128x256 .f32) (harg34 : arg34.IsWhole) (arg35 : Memref sig .tc .vmem S2x4x8x128 .f32) (harg35 : arg35.IsWhole) (arg36 : Memref sig .tc .vmem S256x1024 .bf16) (harg36 : arg36.IsWhole) (hc0 : ¬cond0_0 i) (hc1 : cond0_1 i) (hc2 : ¬cond0_2 i)
    (x0 : Vec F S256x1024 .f32) (x1 : Vec F S256x1024 .f32) (x2 : Vec F S1x8x1024 .f32) (x3 : Vec F S1x8x1024 .f32) (x4 : Vec F S1x8x1024 .f32) (x5 : Vec F S1x8x1024 .f32) (x6 : Vec F S1x8x1024 .f32) (x7 : Vec F S1x8x1024 .f32) (x8 : Vec F S3088x1024 .bf16) (x9 : Vec F S128x512 .bf16) (x10 : Vec F S1x512 .f32) (x11 : Vec F S1x256 .f32) (x12 : Vec F S1024x1024 .bf16) (x13 : Vec F S1024x4096 .bf16) (x14 : Vec F S4096x1024 .bf16) (x15 : Vec F S1x1x1024 .f32) (x16 : Vec F S1x1x1024 .f32) (x17 : Vec F S1x1x1024 .f32) (x18 : Vec F S1x1x1024 .f32) (x19 : Vec F S8x512 .f32) (x20 : Vec F S8x512 .f32) (x21 : Vec F S8x512 .f32) (x22 : Vec F S8x1024 .f32) (x23 : Vec F S8x1024 .f32) (x24 : Vec F S2x4x128x256 .f32) (xs0 : Vec F S256x1024 .bf16) (xs1 : Vec F S4x128x256 .f32) :
    Σ' (L25 : List (View.Piece (Elt F) S256x1024 .f32)), Σ' (L26 : List (View.Piece (Elt F) S4x128x256 .f32)), Σ' (LS0 : List (View.Piece (Elt F) S256x1024 .bf16)), Σ' (LS1 : List (View.Piece (Elt F) S4x128x256 .f32)), Σ' (LT2 : List (View.Piece (Elt F) S256x1024 .f32)), { LT6 : List (View.Piece (Elt F) S256x1024 .bf16) //
      ∀ (xi26 : Vec F S4x128x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ (∃ d, owns (c : Thread nD τ) arg26 fullShare d) ∗ owns (c : Thread nD τ) arg27 fullShare xi26 ∗ (∃ d, owns (c : Thread nD τ) arg28 fullShare d) ∗ (∃ d, owns (c : Thread nD τ) arg29 fullShare d) ∗ owns (c : Thread nD τ) arg30 fullShare xs0 ∗ owns (c : Thread nD τ) arg31 fullShare xs1 ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ (∃ f, arg26.view.loc (c : Thread nD τ) ↦[arg26.view.set]{fullShare} arg26.view.writes (Elt F) f L25) ∗ owns (c : Thread nD τ) arg27 fullShare xi26 ∗ (∃ d, owns (c : Thread nD τ) arg28 fullShare d) ∗ (∃ d, owns (c : Thread nD τ) arg29 fullShare d) ∗ (∃ f, arg30.view.loc (c : Thread nD τ) ↦[arg30.view.set]{fullShare} arg30.view.writes (Elt F) f LS0) ∗ (∃ f, arg31.view.loc (c : Thread nD τ) ↦[arg31.view.set]{fullShare} arg31.view.writes (Elt F) f LS1) ∗ (∃ f, arg32.view.loc (c : Thread nD τ) ↦[arg32.view.set]{fullShare} arg32.view.writes (Elt F) f LT2) ∗ (∃ d, owns (c : Thread nD τ) arg33 fullShare d) ∗ (∃ d, owns (c : Thread nD τ) arg34 fullShare d) ∗ (∃ d, owns (c : Thread nD τ) arg35 fullShare d) ∗ (∃ f, arg36.view.loc (c : Thread nD τ) ↦[arg36.view.set]{fullShare} arg36.view.writes (Elt F) f LT6)) -∗ K ⟨⟩))
          ⊢ wp frame (wpE (defs₀ (F := F)) Variants.none c none) E (cc0_gla_layer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K } := by
  refine ⟨?_, [], ?_, ?_, ?_, ?_, fun xi26 E K => ?run⟩
  case run =>
    simp only [cc0_gla_layer_eq_skeleton]; unfold cc0_gla_layer_skel
    simp only [k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, ⟨%f26, %hf26, H26⟩, ⟨%d27, %f27, -, H27⟩, ⟨%d28, %f28, -, H28⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg27.eq_unread hf26; obtain rfl := harg30.eq_unread hfs0; obtain rfl := harg31.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    isplitl [H25]; · iexists _; iexact H25
    isplitl [H26]
    · iexists _; isplitr; · ipureintro; exact harg27.read_unread _
      iexact H26
    isplitl [H27]
    · iexists _, _; isplitr; swap; · iexact H27
      ipureintro; rfl
    isplitl [H28]
    · iexists _, _; isplitr; swap; · iexact H28
      ipureintro; rfl
    isplitl [HS0]; · iexists _; iexact HS0
    isplitl [HS1]; · iexists _; iexact HS1
    isplitl [HS2]; · iexists _; iexact HS2
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _; iexact HS6

end Cert.KernelIdeal.Gen

end
-- ==== Proof.RunC.lean ====
/- The last grid point: the tail of the last tile, and the state handed out. -/
module

public import proofs.«01_k».proof.Proof.Pts

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 0 in
noncomputable def kernelRun0_C (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S3088x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x4096 .bf16) (harg14 : arg14.IsWhole) (arg15 : Memref sig .tc .vmem S4096x1024 .bf16) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S8x512 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S2x4x128x256 .f32) (harg25 : arg25.IsWhole) (arg26 : Memref sig .tc .vmem S256x1024 .f32) (harg26 : arg26.IsWhole) (arg27 : Memref sig .tc .vmem S4x128x256 .f32) (harg27 : arg27.IsWhole) (arg28 : Memref sig .tc .vmem S8x1024 .f32) (harg28 : arg28.IsWhole) (arg29 : Memref sig .tc .vmem S2x4x128x256 .f32) (harg29 : arg29.IsWhole) (arg30 : Memref sig .tc .vmem S256x1024 .bf16) (harg30 : arg30.IsWhole) (arg31 : Memref sig .tc .vmem S4x128x256 .f32) (harg31 : arg31.IsWhole) (arg32 : Memref sig .tc .vmem S256x1024 .f32) (harg32 : arg32.IsWhole) (arg33 : Memref sig .tc .vmem S4x128x128 .f32) (harg33 : arg33.IsWhole) (arg34 : Memref sig .tc .vmem S4x128x256 .f32) (harg34 : arg34.IsWhole) (arg35 : Memref sig .tc .vmem S2x4x8x128 .f32) (harg35 : arg35.IsWhole) (arg36 : Memref sig .tc .vmem S256x1024 .bf16) (harg36 : arg36.IsWhole) (hc0 : ¬cond0_0 i) (hc1 : ¬cond0_1 i) (hc2 : cond0_2 i)
    (x0 : Vec F S256x1024 .f32) (x1 : Vec F S256x1024 .f32) (x2 : Vec F S1x8x1024 .f32) (x3 : Vec F S1x8x1024 .f32) (x4 : Vec F S1x8x1024 .f32) (x5 : Vec F S1x8x1024 .f32) (x6 : Vec F S1x8x1024 .f32) (x7 : Vec F S1x8x1024 .f32) (x8 : Vec F S3088x1024 .bf16) (x9 : Vec F S128x512 .bf16) (x10 : Vec F S1x512 .f32) (x11 : Vec F S1x256 .f32) (x12 : Vec F S1024x1024 .bf16) (x13 : Vec F S1024x4096 .bf16) (x14 : Vec F S4096x1024 .bf16) (x15 : Vec F S1x1x1024 .f32) (x16 : Vec F S1x1x1024 .f32) (x17 : Vec F S1x1x1024 .f32) (x18 : Vec F S1x1x1024 .f32) (x19 : Vec F S8x512 .f32) (x20 : Vec F S8x512 .f32) (x21 : Vec F S8x512 .f32) (x22 : Vec F S8x1024 .f32) (x23 : Vec F S8x1024 .f32) (x24 : Vec F S2x4x128x256 .f32) (xs0 : Vec F S256x1024 .bf16) (xs1 : Vec F S4x128x256 .f32) :
    Σ' (L25 : List (View.Piece (Elt F) S256x1024 .f32)), Σ' (L26 : List (View.Piece (Elt F) S4x128x256 .f32)), Σ' (LS0 : List (View.Piece (Elt F) S256x1024 .bf16)), Σ' (LS1 : List (View.Piece (Elt F) S4x128x256 .f32)), Σ' (LT2 : List (View.Piece (Elt F) S256x1024 .f32)), { LT6 : List (View.Piece (Elt F) S256x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ owns (c : Thread nD τ) arg30 fullShare xs0 ∗ owns (c : Thread nD τ) arg31 fullShare xs1 ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ d, owns (c : Thread nD τ) arg28 fullShare d) ∗ (∃ d, owns (c : Thread nD τ) arg29 fullShare d) ∗ owns (c : Thread nD τ) arg30 fullShare xs0 ∗ owns (c : Thread nD τ) arg31 fullShare xs1 ∗ (∃ f, arg32.view.loc (c : Thread nD τ) ↦[arg32.view.set]{fullShare} arg32.view.writes (Elt F) f LT2) ∗ (∃ d, owns (c : Thread nD τ) arg33 fullShare d) ∗ (∃ d, owns (c : Thread nD τ) arg34 fullShare d) ∗ (∃ d, owns (c : Thread nD τ) arg35 fullShare d) ∗ (∃ f, arg36.view.loc (c : Thread nD τ) ↦[arg36.view.set]{fullShare} arg36.view.writes (Elt F) f LT6)) -∗ K ⟨⟩))
          ⊢ wp frame (wpE (defs₀ (F := F)) Variants.none c none) E (cc0_gla_layer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K } := by
  refine ⟨?_, ?_, [], [], ?_, ?_, fun E K => ?run⟩
  case run =>
    simp only [cc0_gla_layer_eq_skeleton]; unfold cc0_gla_layer_skel
    simp only [hc0, hc1, hc2, ↓reduceDIte, k0_part82_eq_skeleton, k0_part83_eq_skeleton, k0_part84_eq_skeleton, k0_part85_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, ⟨%d26, %f26, -, H26⟩, ⟨%d27, %f27, -, H27⟩, ⟨%d28, %f28, -, H28⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg30.eq_unread hfs0; obtain rfl := harg31.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    isplitl [H25]; · iexists _; iexact H25
    isplitl [H26]; · iexists _; iexact H26
    isplitl [H27]
    · iexists _, _; isplitr; swap; · iexact H27
      ipureintro; rfl
    isplitl [H28]
    · iexists _, _; isplitr; swap; · iexact H28
      ipureintro; rfl
    isplitl [HS0]
    · iexists _; isplitr; · ipureintro; exact harg30.read_unread _
      iexact HS0
    isplitl [HS1]
    · iexists _; isplitr; · ipureintro; exact harg31.read_unread _
      iexact HS1
    isplitl [HS2]; · iexists _; iexact HS2
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _; iexact HS6

end Cert.KernelIdeal.Gen

end
-- ==== Proof.Outs.lean ====
/- What every grid point leaves in the output windows and in the two scratch buffers that are carried on. -/
module

public import proofs.«01_k».proof.Proof.RunA
public import proofs.«01_k».proof.Proof.RunB
public import proofs.«01_k».proof.Proof.RunC

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
def out0_A_25 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S3088x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x4096 .bf16) (harg14 : arg14.IsWhole) (arg15 : Memref sig .tc .vmem S4096x1024 .bf16) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S8x512 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S2x4x128x256 .f32) (harg25 : arg25.IsWhole) (arg26 : Memref sig .tc .vmem S256x1024 .f32) (harg26 : arg26.IsWhole) (arg27 : Memref sig .tc .vmem S4x128x256 .f32) (harg27 : arg27.IsWhole) (arg28 : Memref sig .tc .vmem S8x1024 .f32) (harg28 : arg28.IsWhole) (arg29 : Memref sig .tc .vmem S2x4x128x256 .f32) (harg29 : arg29.IsWhole) (arg30 : Memref sig .tc .vmem S256x1024 .bf16) (harg30 : arg30.IsWhole) (arg31 : Memref sig .tc .vmem S4x128x256 .f32) (harg31 : arg31.IsWhole) (arg32 : Memref sig .tc .vmem S256x1024 .f32) (harg32 : arg32.IsWhole) (arg33 : Memref sig .tc .vmem S4x128x128 .f32) (harg33 : arg33.IsWhole) (arg34 : Memref sig .tc .vmem S4x128x256 .f32) (harg34 : arg34.IsWhole) (arg35 : Memref sig .tc .vmem S2x4x8x128 .f32) (harg35 : arg35.IsWhole) (arg36 : Memref sig .tc .vmem S256x1024 .bf16) (harg36 : arg36.IsWhole) (hc0 : cond0_0 i) (hc1 : ¬cond0_1 i) (hc2 : ¬cond0_2 i)
    (x0 : Vec F S256x1024 .f32) (x1 : Vec F S256x1024 .f32) (x2 : Vec F S1x8x1024 .f32) (x3 : Vec F S1x8x1024 .f32) (x4 : Vec F S1x8x1024 .f32) (x5 : Vec F S1x8x1024 .f32) (x6 : Vec F S1x8x1024 .f32) (x7 : Vec F S1x8x1024 .f32) (x8 : Vec F S3088x1024 .bf16) (x9 : Vec F S128x512 .bf16) (x10 : Vec F S1x512 .f32) (x11 : Vec F S1x256 .f32) (x12 : Vec F S1024x1024 .bf16) (x13 : Vec F S1024x4096 .bf16) (x14 : Vec F S4096x1024 .bf16) (x15 : Vec F S1x1x1024 .f32) (x16 : Vec F S1x1x1024 .f32) (x17 : Vec F S1x1x1024 .f32) (x18 : Vec F S1x1x1024 .f32) (x19 : Vec F S8x512 .f32) (x20 : Vec F S8x512 .f32) (x21 : Vec F S8x512 .f32) (x22 : Vec F S8x1024 .f32) (x23 : Vec F S8x1024 .f32) (x24 : Vec F S2x4x128x256 .f32) : Vec F S256x1024 .f32 :=
  VO0_25.read (Elt F) (VO0_25.writes (Elt F) VO0_25.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 hc2 x0 x1 x2 x3 x4 x5 x6 x7 x8 x9 x10 x11 x12 x13 x14 x15 x16 x17 x18 x19 x20 x21 x22 x23 x24).1)

def out0_A_26 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S3088x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x4096 .bf16) (harg14 : arg14.IsWhole) (arg15 : Memref sig .tc .vmem S4096x1024 .bf16) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S8x512 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S2x4x128x256 .f32) (harg25 : arg25.IsWhole) (arg26 : Memref sig .tc .vmem S256x1024 .f32) (harg26 : arg26.IsWhole) (arg27 : Memref sig .tc .vmem S4x128x256 .f32) (harg27 : arg27.IsWhole) (arg28 : Memref sig .tc .vmem S8x1024 .f32) (harg28 : arg28.IsWhole) (arg29 : Memref sig .tc .vmem S2x4x128x256 .f32) (harg29 : arg29.IsWhole) (arg30 : Memref sig .tc .vmem S256x1024 .bf16) (harg30 : arg30.IsWhole) (arg31 : Memref sig .tc .vmem S4x128x256 .f32) (harg31 : arg31.IsWhole) (arg32 : Memref sig .tc .vmem S256x1024 .f32) (harg32 : arg32.IsWhole) (arg33 : Memref sig .tc .vmem S4x128x128 .f32) (harg33 : arg33.IsWhole) (arg34 : Memref sig .tc .vmem S4x128x256 .f32) (harg34 : arg34.IsWhole) (arg35 : Memref sig .tc .vmem S2x4x8x128 .f32) (harg35 : arg35.IsWhole) (arg36 : Memref sig .tc .vmem S256x1024 .bf16) (harg36 : arg36.IsWhole) (hc0 : cond0_0 i) (hc1 : ¬cond0_1 i) (hc2 : ¬cond0_2 i)
    (x0 : Vec F S256x1024 .f32) (x1 : Vec F S256x1024 .f32) (x2 : Vec F S1x8x1024 .f32) (x3 : Vec F S1x8x1024 .f32) (x4 : Vec F S1x8x1024 .f32) (x5 : Vec F S1x8x1024 .f32) (x6 : Vec F S1x8x1024 .f32) (x7 : Vec F S1x8x1024 .f32) (x8 : Vec F S3088x1024 .bf16) (x9 : Vec F S128x512 .bf16) (x10 : Vec F S1x512 .f32) (x11 : Vec F S1x256 .f32) (x12 : Vec F S1024x1024 .bf16) (x13 : Vec F S1024x4096 .bf16) (x14 : Vec F S4096x1024 .bf16) (x15 : Vec F S1x1x1024 .f32) (x16 : Vec F S1x1x1024 .f32) (x17 : Vec F S1x1x1024 .f32) (x18 : Vec F S1x1x1024 .f32) (x19 : Vec F S8x512 .f32) (x20 : Vec F S8x512 .f32) (x21 : Vec F S8x512 .f32) (x22 : Vec F S8x1024 .f32) (x23 : Vec F S8x1024 .f32) (x24 : Vec F S2x4x128x256 .f32) : Vec F S4x128x256 .f32 :=
  VO0_26.read (Elt F) (VO0_26.writes (Elt F) VO0_26.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 hc2 x0 x1 x2 x3 x4 x5 x6 x7 x8 x9 x10 x11 x12 x13 x14 x15 x16 x17 x18 x19 x20 x21 x22 x23 x24).2.1)

theorem scover0_A_0 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S3088x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x4096 .bf16) (harg14 : arg14.IsWhole) (arg15 : Memref sig .tc .vmem S4096x1024 .bf16) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S8x512 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S2x4x128x256 .f32) (harg25 : arg25.IsWhole) (arg26 : Memref sig .tc .vmem S256x1024 .f32) (harg26 : arg26.IsWhole) (arg27 : Memref sig .tc .vmem S4x128x256 .f32) (harg27 : arg27.IsWhole) (arg28 : Memref sig .tc .vmem S8x1024 .f32) (harg28 : arg28.IsWhole) (arg29 : Memref sig .tc .vmem S2x4x128x256 .f32) (harg29 : arg29.IsWhole) (arg30 : Memref sig .tc .vmem S256x1024 .bf16) (harg30 : arg30.IsWhole) (arg31 : Memref sig .tc .vmem S4x128x256 .f32) (harg31 : arg31.IsWhole) (arg32 : Memref sig .tc .vmem S256x1024 .f32) (harg32 : arg32.IsWhole) (arg33 : Memref sig .tc .vmem S4x128x128 .f32) (harg33 : arg33.IsWhole) (arg34 : Memref sig .tc .vmem S4x128x256 .f32) (harg34 : arg34.IsWhole) (arg35 : Memref sig .tc .vmem S2x4x8x128 .f32) (harg35 : arg35.IsWhole) (arg36 : Memref sig .tc .vmem S256x1024 .bf16) (harg36 : arg36.IsWhole) (hc0 : cond0_0 i) (hc1 : ¬cond0_1 i) (hc2 : ¬cond0_2 i)
    (x0 : Vec F S256x1024 .f32) (x1 : Vec F S256x1024 .f32) (x2 : Vec F S1x8x1024 .f32) (x3 : Vec F S1x8x1024 .f32) (x4 : Vec F S1x8x1024 .f32) (x5 : Vec F S1x8x1024 .f32) (x6 : Vec F S1x8x1024 .f32) (x7 : Vec F S1x8x1024 .f32) (x8 : Vec F S3088x1024 .bf16) (x9 : Vec F S128x512 .bf16) (x10 : Vec F S1x512 .f32) (x11 : Vec F S1x256 .f32) (x12 : Vec F S1024x1024 .bf16) (x13 : Vec F S1024x4096 .bf16) (x14 : Vec F S4096x1024 .bf16) (x15 : Vec F S1x1x1024 .f32) (x16 : Vec F S1x1x1024 .f32) (x17 : Vec F S1x1x1024 .f32) (x18 : Vec F S1x1x1024 .f32) (x19 : Vec F S8x512 .f32) (x20 : Vec F S8x512 .f32) (x21 : Vec F S8x512 .f32) (x22 : Vec F S8x1024 .f32) (x23 : Vec F S8x1024 .f32) (x24 : Vec F S2x4x128x256 .f32) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 hc2 x0 x1 x2 x3 x4 x5 x6 x7 x8 x9 x10 x11 x12 x13 x14 x15 x16 x17 x18 x19 x20 x21 x22 x23 x24).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 hc2 x0 x1 x2 x3 x4 x5 x6 x7 x8 x9 x10 x11 x12 x13 x14 x15 x16 x17 x18 x19 x20 x21 x22 x23 x24).2.2.1 S256x256.size (by sl_kernel_rfl) y

def sout0_A_0 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S3088x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x4096 .bf16) (harg14 : arg14.IsWhole) (arg15 : Memref sig .tc .vmem S4096x1024 .bf16) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S8x512 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S2x4x128x256 .f32) (harg25 : arg25.IsWhole) (arg26 : Memref sig .tc .vmem S256x1024 .f32) (harg26 : arg26.IsWhole) (arg27 : Memref sig .tc .vmem S4x128x256 .f32) (harg27 : arg27.IsWhole) (arg28 : Memref sig .tc .vmem S8x1024 .f32) (harg28 : arg28.IsWhole) (arg29 : Memref sig .tc .vmem S2x4x128x256 .f32) (harg29 : arg29.IsWhole) (arg30 : Memref sig .tc .vmem S256x1024 .bf16) (harg30 : arg30.IsWhole) (arg31 : Memref sig .tc .vmem S4x128x256 .f32) (harg31 : arg31.IsWhole) (arg32 : Memref sig .tc .vmem S256x1024 .f32) (harg32 : arg32.IsWhole) (arg33 : Memref sig .tc .vmem S4x128x128 .f32) (harg33 : arg33.IsWhole) (arg34 : Memref sig .tc .vmem S4x128x256 .f32) (harg34 : arg34.IsWhole) (arg35 : Memref sig .tc .vmem S2x4x8x128 .f32) (harg35 : arg35.IsWhole) (arg36 : Memref sig .tc .vmem S256x1024 .bf16) (harg36 : arg36.IsWhole) (hc0 : cond0_0 i) (hc1 : ¬cond0_1 i) (hc2 : ¬cond0_2 i)
    (x0 : Vec F S256x1024 .f32) (x1 : Vec F S256x1024 .f32) (x2 : Vec F S1x8x1024 .f32) (x3 : Vec F S1x8x1024 .f32) (x4 : Vec F S1x8x1024 .f32) (x5 : Vec F S1x8x1024 .f32) (x6 : Vec F S1x8x1024 .f32) (x7 : Vec F S1x8x1024 .f32) (x8 : Vec F S3088x1024 .bf16) (x9 : Vec F S128x512 .bf16) (x10 : Vec F S1x512 .f32) (x11 : Vec F S1x256 .f32) (x12 : Vec F S1024x1024 .bf16) (x13 : Vec F S1024x4096 .bf16) (x14 : Vec F S4096x1024 .bf16) (x15 : Vec F S1x1x1024 .f32) (x16 : Vec F S1x1x1024 .f32) (x17 : Vec F S1x1x1024 .f32) (x18 : Vec F S1x1x1024 .f32) (x19 : Vec F S8x512 .f32) (x20 : Vec F S8x512 .f32) (x21 : Vec F S8x512 .f32) (x22 : Vec F S8x1024 .f32) (x23 : Vec F S8x1024 .f32) (x24 : Vec F S2x4x128x256 .f32) : Vec F S256x1024 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 hc2 x0 x1 x2 x3 x4 x5 x6 x7 x8 x9 x10 x11 x12 x13 x14 x15 x16 x17 x18 x19 x20 x21 x22 x23 x24).2.2.1)

theorem scover0_A_1 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S3088x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x4096 .bf16) (harg14 : arg14.IsWhole) (arg15 : Memref sig .tc .vmem S4096x1024 .bf16) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S8x512 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S2x4x128x256 .f32) (harg25 : arg25.IsWhole) (arg26 : Memref sig .tc .vmem S256x1024 .f32) (harg26 : arg26.IsWhole) (arg27 : Memref sig .tc .vmem S4x128x256 .f32) (harg27 : arg27.IsWhole) (arg28 : Memref sig .tc .vmem S8x1024 .f32) (harg28 : arg28.IsWhole) (arg29 : Memref sig .tc .vmem S2x4x128x256 .f32) (harg29 : arg29.IsWhole) (arg30 : Memref sig .tc .vmem S256x1024 .bf16) (harg30 : arg30.IsWhole) (arg31 : Memref sig .tc .vmem S4x128x256 .f32) (harg31 : arg31.IsWhole) (arg32 : Memref sig .tc .vmem S256x1024 .f32) (harg32 : arg32.IsWhole) (arg33 : Memref sig .tc .vmem S4x128x128 .f32) (harg33 : arg33.IsWhole) (arg34 : Memref sig .tc .vmem S4x128x256 .f32) (harg34 : arg34.IsWhole) (arg35 : Memref sig .tc .vmem S2x4x8x128 .f32) (harg35 : arg35.IsWhole) (arg36 : Memref sig .tc .vmem S256x1024 .bf16) (harg36 : arg36.IsWhole) (hc0 : cond0_0 i) (hc1 : ¬cond0_1 i) (hc2 : ¬cond0_2 i)
    (x0 : Vec F S256x1024 .f32) (x1 : Vec F S256x1024 .f32) (x2 : Vec F S1x8x1024 .f32) (x3 : Vec F S1x8x1024 .f32) (x4 : Vec F S1x8x1024 .f32) (x5 : Vec F S1x8x1024 .f32) (x6 : Vec F S1x8x1024 .f32) (x7 : Vec F S1x8x1024 .f32) (x8 : Vec F S3088x1024 .bf16) (x9 : Vec F S128x512 .bf16) (x10 : Vec F S1x512 .f32) (x11 : Vec F S1x256 .f32) (x12 : Vec F S1024x1024 .bf16) (x13 : Vec F S1024x4096 .bf16) (x14 : Vec F S4096x1024 .bf16) (x15 : Vec F S1x1x1024 .f32) (x16 : Vec F S1x1x1024 .f32) (x17 : Vec F S1x1x1024 .f32) (x18 : Vec F S1x1x1024 .f32) (x19 : Vec F S8x512 .f32) (x20 : Vec F S8x512 .f32) (x21 : Vec F S8x512 .f32) (x22 : Vec F S8x1024 .f32) (x23 : Vec F S8x1024 .f32) (x24 : Vec F S2x4x128x256 .f32) (y : S4x128x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 hc2 x0 x1 x2 x3 x4 x5 x6 x7 x8 x9 x10 x11 x12 x13 x14 x15 x16 x17 x18 x19 x20 x21 x22 x23 x24).2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 hc2 x0 x1 x2 x3 x4 x5 x6 x7 x8 x9 x10 x11 x12 x13 x14 x15 x16 x17 x18 x19 x20 x21 x22 x23 x24).2.2.2.1 (by sl_whole_mem) y

def sout0_A_1 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S3088x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x4096 .bf16) (harg14 : arg14.IsWhole) (arg15 : Memref sig .tc .vmem S4096x1024 .bf16) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S8x512 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S2x4x128x256 .f32) (harg25 : arg25.IsWhole) (arg26 : Memref sig .tc .vmem S256x1024 .f32) (harg26 : arg26.IsWhole) (arg27 : Memref sig .tc .vmem S4x128x256 .f32) (harg27 : arg27.IsWhole) (arg28 : Memref sig .tc .vmem S8x1024 .f32) (harg28 : arg28.IsWhole) (arg29 : Memref sig .tc .vmem S2x4x128x256 .f32) (harg29 : arg29.IsWhole) (arg30 : Memref sig .tc .vmem S256x1024 .bf16) (harg30 : arg30.IsWhole) (arg31 : Memref sig .tc .vmem S4x128x256 .f32) (harg31 : arg31.IsWhole) (arg32 : Memref sig .tc .vmem S256x1024 .f32) (harg32 : arg32.IsWhole) (arg33 : Memref sig .tc .vmem S4x128x128 .f32) (harg33 : arg33.IsWhole) (arg34 : Memref sig .tc .vmem S4x128x256 .f32) (harg34 : arg34.IsWhole) (arg35 : Memref sig .tc .vmem S2x4x8x128 .f32) (harg35 : arg35.IsWhole) (arg36 : Memref sig .tc .vmem S256x1024 .bf16) (harg36 : arg36.IsWhole) (hc0 : cond0_0 i) (hc1 : ¬cond0_1 i) (hc2 : ¬cond0_2 i)
    (x0 : Vec F S256x1024 .f32) (x1 : Vec F S256x1024 .f32) (x2 : Vec F S1x8x1024 .f32) (x3 : Vec F S1x8x1024 .f32) (x4 : Vec F S1x8x1024 .f32) (x5 : Vec F S1x8x1024 .f32) (x6 : Vec F S1x8x1024 .f32) (x7 : Vec F S1x8x1024 .f32) (x8 : Vec F S3088x1024 .bf16) (x9 : Vec F S128x512 .bf16) (x10 : Vec F S1x512 .f32) (x11 : Vec F S1x256 .f32) (x12 : Vec F S1024x1024 .bf16) (x13 : Vec F S1024x4096 .bf16) (x14 : Vec F S4096x1024 .bf16) (x15 : Vec F S1x1x1024 .f32) (x16 : Vec F S1x1x1024 .f32) (x17 : Vec F S1x1x1024 .f32) (x18 : Vec F S1x1x1024 .f32) (x19 : Vec F S8x512 .f32) (x20 : Vec F S8x512 .f32) (x21 : Vec F S8x512 .f32) (x22 : Vec F S8x1024 .f32) (x23 : Vec F S8x1024 .f32) (x24 : Vec F S2x4x128x256 .f32) : Vec F S4x128x256 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 hc2 x0 x1 x2 x3 x4 x5 x6 x7 x8 x9 x10 x11 x12 x13 x14 x15 x16 x17 x18 x19 x20 x21 x22 x23 x24).2.2.2.1)

theorem cover0_B_25 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S3088x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x4096 .bf16) (harg14 : arg14.IsWhole) (arg15 : Memref sig .tc .vmem S4096x1024 .bf16) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S8x512 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S2x4x128x256 .f32) (harg25 : arg25.IsWhole) (arg26 : Memref sig .tc .vmem S256x1024 .f32) (harg26 : arg26.IsWhole) (arg27 : Memref sig .tc .vmem S4x128x256 .f32) (harg27 : arg27.IsWhole) (arg28 : Memref sig .tc .vmem S8x1024 .f32) (harg28 : arg28.IsWhole) (arg29 : Memref sig .tc .vmem S2x4x128x256 .f32) (harg29 : arg29.IsWhole) (arg30 : Memref sig .tc .vmem S256x1024 .bf16) (harg30 : arg30.IsWhole) (arg31 : Memref sig .tc .vmem S4x128x256 .f32) (harg31 : arg31.IsWhole) (arg32 : Memref sig .tc .vmem S256x1024 .f32) (harg32 : arg32.IsWhole) (arg33 : Memref sig .tc .vmem S4x128x128 .f32) (harg33 : arg33.IsWhole) (arg34 : Memref sig .tc .vmem S4x128x256 .f32) (harg34 : arg34.IsWhole) (arg35 : Memref sig .tc .vmem S2x4x8x128 .f32) (harg35 : arg35.IsWhole) (arg36 : Memref sig .tc .vmem S256x1024 .bf16) (harg36 : arg36.IsWhole) (hc0 : ¬cond0_0 i) (hc1 : cond0_1 i) (hc2 : ¬cond0_2 i)
    (x0 : Vec F S256x1024 .f32) (x1 : Vec F S256x1024 .f32) (x2 : Vec F S1x8x1024 .f32) (x3 : Vec F S1x8x1024 .f32) (x4 : Vec F S1x8x1024 .f32) (x5 : Vec F S1x8x1024 .f32) (x6 : Vec F S1x8x1024 .f32) (x7 : Vec F S1x8x1024 .f32) (x8 : Vec F S3088x1024 .bf16) (x9 : Vec F S128x512 .bf16) (x10 : Vec F S1x512 .f32) (x11 : Vec F S1x256 .f32) (x12 : Vec F S1024x1024 .bf16) (x13 : Vec F S1024x4096 .bf16) (x14 : Vec F S4096x1024 .bf16) (x15 : Vec F S1x1x1024 .f32) (x16 : Vec F S1x1x1024 .f32) (x17 : Vec F S1x1x1024 .f32) (x18 : Vec F S1x1x1024 .f32) (x19 : Vec F S8x512 .f32) (x20 : Vec F S8x512 .f32) (x21 : Vec F S8x512 .f32) (x22 : Vec F S8x1024 .f32) (x23 : Vec F S8x1024 .f32) (x24 : Vec F S2x4x128x256 .f32) (xs0 : Vec F S256x1024 .bf16) (xs1 : Vec F S4x128x256 .f32) (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 hc2 x0 x1 x2 x3 x4 x5 x6 x7 x8 x9 x10 x11 x12 x13 x14 x15 x16 x17 x18 x19 x20 x21 x22 x23 x24 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 hc2 x0 x1 x2 x3 x4 x5 x6 x7 x8 x9 x10 x11 x12 x13 x14 x15 x16 x17 x18 x19 x20 x21 x22 x23 x24 xs0 xs1).1 S256x1024.size (by sl_kernel_rfl) y

def out0_B_25 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S3088x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x4096 .bf16) (harg14 : arg14.IsWhole) (arg15 : Memref sig .tc .vmem S4096x1024 .bf16) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S8x512 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S2x4x128x256 .f32) (harg25 : arg25.IsWhole) (arg26 : Memref sig .tc .vmem S256x1024 .f32) (harg26 : arg26.IsWhole) (arg27 : Memref sig .tc .vmem S4x128x256 .f32) (harg27 : arg27.IsWhole) (arg28 : Memref sig .tc .vmem S8x1024 .f32) (harg28 : arg28.IsWhole) (arg29 : Memref sig .tc .vmem S2x4x128x256 .f32) (harg29 : arg29.IsWhole) (arg30 : Memref sig .tc .vmem S256x1024 .bf16) (harg30 : arg30.IsWhole) (arg31 : Memref sig .tc .vmem S4x128x256 .f32) (harg31 : arg31.IsWhole) (arg32 : Memref sig .tc .vmem S256x1024 .f32) (harg32 : arg32.IsWhole) (arg33 : Memref sig .tc .vmem S4x128x128 .f32) (harg33 : arg33.IsWhole) (arg34 : Memref sig .tc .vmem S4x128x256 .f32) (harg34 : arg34.IsWhole) (arg35 : Memref sig .tc .vmem S2x4x8x128 .f32) (harg35 : arg35.IsWhole) (arg36 : Memref sig .tc .vmem S256x1024 .bf16) (harg36 : arg36.IsWhole) (hc0 : ¬cond0_0 i) (hc1 : cond0_1 i) (hc2 : ¬cond0_2 i)
    (x0 : Vec F S256x1024 .f32) (x1 : Vec F S256x1024 .f32) (x2 : Vec F S1x8x1024 .f32) (x3 : Vec F S1x8x1024 .f32) (x4 : Vec F S1x8x1024 .f32) (x5 : Vec F S1x8x1024 .f32) (x6 : Vec F S1x8x1024 .f32) (x7 : Vec F S1x8x1024 .f32) (x8 : Vec F S3088x1024 .bf16) (x9 : Vec F S128x512 .bf16) (x10 : Vec F S1x512 .f32) (x11 : Vec F S1x256 .f32) (x12 : Vec F S1024x1024 .bf16) (x13 : Vec F S1024x4096 .bf16) (x14 : Vec F S4096x1024 .bf16) (x15 : Vec F S1x1x1024 .f32) (x16 : Vec F S1x1x1024 .f32) (x17 : Vec F S1x1x1024 .f32) (x18 : Vec F S1x1x1024 .f32) (x19 : Vec F S8x512 .f32) (x20 : Vec F S8x512 .f32) (x21 : Vec F S8x512 .f32) (x22 : Vec F S8x1024 .f32) (x23 : Vec F S8x1024 .f32) (x24 : Vec F S2x4x128x256 .f32) (xs0 : Vec F S256x1024 .bf16) (xs1 : Vec F S4x128x256 .f32) : Vec F S256x1024 .f32 :=
  VO0_25.read (Elt F) (VO0_25.writes (Elt F) VO0_25.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 hc2 x0 x1 x2 x3 x4 x5 x6 x7 x8 x9 x10 x11 x12 x13 x14 x15 x16 x17 x18 x19 x20 x21 x22 x23 x24 xs0 xs1).1)

def out0_B_26 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S3088x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x4096 .bf16) (harg14 : arg14.IsWhole) (arg15 : Memref sig .tc .vmem S4096x1024 .bf16) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S8x512 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S2x4x128x256 .f32) (harg25 : arg25.IsWhole) (arg26 : Memref sig .tc .vmem S256x1024 .f32) (harg26 : arg26.IsWhole) (arg27 : Memref sig .tc .vmem S4x128x256 .f32) (harg27 : arg27.IsWhole) (arg28 : Memref sig .tc .vmem S8x1024 .f32) (harg28 : arg28.IsWhole) (arg29 : Memref sig .tc .vmem S2x4x128x256 .f32) (harg29 : arg29.IsWhole) (arg30 : Memref sig .tc .vmem S256x1024 .bf16) (harg30 : arg30.IsWhole) (arg31 : Memref sig .tc .vmem S4x128x256 .f32) (harg31 : arg31.IsWhole) (arg32 : Memref sig .tc .vmem S256x1024 .f32) (harg32 : arg32.IsWhole) (arg33 : Memref sig .tc .vmem S4x128x128 .f32) (harg33 : arg33.IsWhole) (arg34 : Memref sig .tc .vmem S4x128x256 .f32) (harg34 : arg34.IsWhole) (arg35 : Memref sig .tc .vmem S2x4x8x128 .f32) (harg35 : arg35.IsWhole) (arg36 : Memref sig .tc .vmem S256x1024 .bf16) (harg36 : arg36.IsWhole) (hc0 : ¬cond0_0 i) (hc1 : cond0_1 i) (hc2 : ¬cond0_2 i)
    (x0 : Vec F S256x1024 .f32) (x1 : Vec F S256x1024 .f32) (x2 : Vec F S1x8x1024 .f32) (x3 : Vec F S1x8x1024 .f32) (x4 : Vec F S1x8x1024 .f32) (x5 : Vec F S1x8x1024 .f32) (x6 : Vec F S1x8x1024 .f32) (x7 : Vec F S1x8x1024 .f32) (x8 : Vec F S3088x1024 .bf16) (x9 : Vec F S128x512 .bf16) (x10 : Vec F S1x512 .f32) (x11 : Vec F S1x256 .f32) (x12 : Vec F S1024x1024 .bf16) (x13 : Vec F S1024x4096 .bf16) (x14 : Vec F S4096x1024 .bf16) (x15 : Vec F S1x1x1024 .f32) (x16 : Vec F S1x1x1024 .f32) (x17 : Vec F S1x1x1024 .f32) (x18 : Vec F S1x1x1024 .f32) (x19 : Vec F S8x512 .f32) (x20 : Vec F S8x512 .f32) (x21 : Vec F S8x512 .f32) (x22 : Vec F S8x1024 .f32) (x23 : Vec F S8x1024 .f32) (x24 : Vec F S2x4x128x256 .f32) (xs0 : Vec F S256x1024 .bf16) (xs1 : Vec F S4x128x256 .f32) : Vec F S4x128x256 .f32 :=
  VO0_26.read (Elt F) (VO0_26.writes (Elt F) VO0_26.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 hc2 x0 x1 x2 x3 x4 x5 x6 x7 x8 x9 x10 x11 x12 x13 x14 x15 x16 x17 x18 x19 x20 x21 x22 x23 x24 xs0 xs1).2.1)

theorem scover0_B_0 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S3088x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x4096 .bf16) (harg14 : arg14.IsWhole) (arg15 : Memref sig .tc .vmem S4096x1024 .bf16) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S8x512 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S2x4x128x256 .f32) (harg25 : arg25.IsWhole) (arg26 : Memref sig .tc .vmem S256x1024 .f32) (harg26 : arg26.IsWhole) (arg27 : Memref sig .tc .vmem S4x128x256 .f32) (harg27 : arg27.IsWhole) (arg28 : Memref sig .tc .vmem S8x1024 .f32) (harg28 : arg28.IsWhole) (arg29 : Memref sig .tc .vmem S2x4x128x256 .f32) (harg29 : arg29.IsWhole) (arg30 : Memref sig .tc .vmem S256x1024 .bf16) (harg30 : arg30.IsWhole) (arg31 : Memref sig .tc .vmem S4x128x256 .f32) (harg31 : arg31.IsWhole) (arg32 : Memref sig .tc .vmem S256x1024 .f32) (harg32 : arg32.IsWhole) (arg33 : Memref sig .tc .vmem S4x128x128 .f32) (harg33 : arg33.IsWhole) (arg34 : Memref sig .tc .vmem S4x128x256 .f32) (harg34 : arg34.IsWhole) (arg35 : Memref sig .tc .vmem S2x4x8x128 .f32) (harg35 : arg35.IsWhole) (arg36 : Memref sig .tc .vmem S256x1024 .bf16) (harg36 : arg36.IsWhole) (hc0 : ¬cond0_0 i) (hc1 : cond0_1 i) (hc2 : ¬cond0_2 i)
    (x0 : Vec F S256x1024 .f32) (x1 : Vec F S256x1024 .f32) (x2 : Vec F S1x8x1024 .f32) (x3 : Vec F S1x8x1024 .f32) (x4 : Vec F S1x8x1024 .f32) (x5 : Vec F S1x8x1024 .f32) (x6 : Vec F S1x8x1024 .f32) (x7 : Vec F S1x8x1024 .f32) (x8 : Vec F S3088x1024 .bf16) (x9 : Vec F S128x512 .bf16) (x10 : Vec F S1x512 .f32) (x11 : Vec F S1x256 .f32) (x12 : Vec F S1024x1024 .bf16) (x13 : Vec F S1024x4096 .bf16) (x14 : Vec F S4096x1024 .bf16) (x15 : Vec F S1x1x1024 .f32) (x16 : Vec F S1x1x1024 .f32) (x17 : Vec F S1x1x1024 .f32) (x18 : Vec F S1x1x1024 .f32) (x19 : Vec F S8x512 .f32) (x20 : Vec F S8x512 .f32) (x21 : Vec F S8x512 .f32) (x22 : Vec F S8x1024 .f32) (x23 : Vec F S8x1024 .f32) (x24 : Vec F S2x4x128x256 .f32) (xs0 : Vec F S256x1024 .bf16) (xs1 : Vec F S4x128x256 .f32) (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 hc2 x0 x1 x2 x3 x4 x5 x6 x7 x8 x9 x10 x11 x12 x13 x14 x15 x16 x17 x18 x19 x20 x21 x22 x23 x24 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 hc2 x0 x1 x2 x3 x4 x5 x6 x7 x8 x9 x10 x11 x12 x13 x14 x15 x16 x17 x18 x19 x20 x21 x22 x23 x24 xs0 xs1).2.2.1 S256x256.size (by sl_kernel_rfl) y

def sout0_B_0 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S3088x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x4096 .bf16) (harg14 : arg14.IsWhole) (arg15 : Memref sig .tc .vmem S4096x1024 .bf16) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S8x512 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S2x4x128x256 .f32) (harg25 : arg25.IsWhole) (arg26 : Memref sig .tc .vmem S256x1024 .f32) (harg26 : arg26.IsWhole) (arg27 : Memref sig .tc .vmem S4x128x256 .f32) (harg27 : arg27.IsWhole) (arg28 : Memref sig .tc .vmem S8x1024 .f32) (harg28 : arg28.IsWhole) (arg29 : Memref sig .tc .vmem S2x4x128x256 .f32) (harg29 : arg29.IsWhole) (arg30 : Memref sig .tc .vmem S256x1024 .bf16) (harg30 : arg30.IsWhole) (arg31 : Memref sig .tc .vmem S4x128x256 .f32) (harg31 : arg31.IsWhole) (arg32 : Memref sig .tc .vmem S256x1024 .f32) (harg32 : arg32.IsWhole) (arg33 : Memref sig .tc .vmem S4x128x128 .f32) (harg33 : arg33.IsWhole) (arg34 : Memref sig .tc .vmem S4x128x256 .f32) (harg34 : arg34.IsWhole) (arg35 : Memref sig .tc .vmem S2x4x8x128 .f32) (harg35 : arg35.IsWhole) (arg36 : Memref sig .tc .vmem S256x1024 .bf16) (harg36 : arg36.IsWhole) (hc0 : ¬cond0_0 i) (hc1 : cond0_1 i) (hc2 : ¬cond0_2 i)
    (x0 : Vec F S256x1024 .f32) (x1 : Vec F S256x1024 .f32) (x2 : Vec F S1x8x1024 .f32) (x3 : Vec F S1x8x1024 .f32) (x4 : Vec F S1x8x1024 .f32) (x5 : Vec F S1x8x1024 .f32) (x6 : Vec F S1x8x1024 .f32) (x7 : Vec F S1x8x1024 .f32) (x8 : Vec F S3088x1024 .bf16) (x9 : Vec F S128x512 .bf16) (x10 : Vec F S1x512 .f32) (x11 : Vec F S1x256 .f32) (x12 : Vec F S1024x1024 .bf16) (x13 : Vec F S1024x4096 .bf16) (x14 : Vec F S4096x1024 .bf16) (x15 : Vec F S1x1x1024 .f32) (x16 : Vec F S1x1x1024 .f32) (x17 : Vec F S1x1x1024 .f32) (x18 : Vec F S1x1x1024 .f32) (x19 : Vec F S8x512 .f32) (x20 : Vec F S8x512 .f32) (x21 : Vec F S8x512 .f32) (x22 : Vec F S8x1024 .f32) (x23 : Vec F S8x1024 .f32) (x24 : Vec F S2x4x128x256 .f32) (xs0 : Vec F S256x1024 .bf16) (xs1 : Vec F S4x128x256 .f32) : Vec F S256x1024 .bf16 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 hc2 x0 x1 x2 x3 x4 x5 x6 x7 x8 x9 x10 x11 x12 x13 x14 x15 x16 x17 x18 x19 x20 x21 x22 x23 x24 xs0 xs1).2.2.1)

theorem scover0_B_1 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S3088x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x4096 .bf16) (harg14 : arg14.IsWhole) (arg15 : Memref sig .tc .vmem S4096x1024 .bf16) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S8x512 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S2x4x128x256 .f32) (harg25 : arg25.IsWhole) (arg26 : Memref sig .tc .vmem S256x1024 .f32) (harg26 : arg26.IsWhole) (arg27 : Memref sig .tc .vmem S4x128x256 .f32) (harg27 : arg27.IsWhole) (arg28 : Memref sig .tc .vmem S8x1024 .f32) (harg28 : arg28.IsWhole) (arg29 : Memref sig .tc .vmem S2x4x128x256 .f32) (harg29 : arg29.IsWhole) (arg30 : Memref sig .tc .vmem S256x1024 .bf16) (harg30 : arg30.IsWhole) (arg31 : Memref sig .tc .vmem S4x128x256 .f32) (harg31 : arg31.IsWhole) (arg32 : Memref sig .tc .vmem S256x1024 .f32) (harg32 : arg32.IsWhole) (arg33 : Memref sig .tc .vmem S4x128x128 .f32) (harg33 : arg33.IsWhole) (arg34 : Memref sig .tc .vmem S4x128x256 .f32) (harg34 : arg34.IsWhole) (arg35 : Memref sig .tc .vmem S2x4x8x128 .f32) (harg35 : arg35.IsWhole) (arg36 : Memref sig .tc .vmem S256x1024 .bf16) (harg36 : arg36.IsWhole) (hc0 : ¬cond0_0 i) (hc1 : cond0_1 i) (hc2 : ¬cond0_2 i)
    (x0 : Vec F S256x1024 .f32) (x1 : Vec F S256x1024 .f32) (x2 : Vec F S1x8x1024 .f32) (x3 : Vec F S1x8x1024 .f32) (x4 : Vec F S1x8x1024 .f32) (x5 : Vec F S1x8x1024 .f32) (x6 : Vec F S1x8x1024 .f32) (x7 : Vec F S1x8x1024 .f32) (x8 : Vec F S3088x1024 .bf16) (x9 : Vec F S128x512 .bf16) (x10 : Vec F S1x512 .f32) (x11 : Vec F S1x256 .f32) (x12 : Vec F S1024x1024 .bf16) (x13 : Vec F S1024x4096 .bf16) (x14 : Vec F S4096x1024 .bf16) (x15 : Vec F S1x1x1024 .f32) (x16 : Vec F S1x1x1024 .f32) (x17 : Vec F S1x1x1024 .f32) (x18 : Vec F S1x1x1024 .f32) (x19 : Vec F S8x512 .f32) (x20 : Vec F S8x512 .f32) (x21 : Vec F S8x512 .f32) (x22 : Vec F S8x1024 .f32) (x23 : Vec F S8x1024 .f32) (x24 : Vec F S2x4x128x256 .f32) (xs0 : Vec F S256x1024 .bf16) (xs1 : Vec F S4x128x256 .f32) (y : S4x128x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 hc2 x0 x1 x2 x3 x4 x5 x6 x7 x8 x9 x10 x11 x12 x13 x14 x15 x16 x17 x18 x19 x20 x21 x22 x23 x24 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 hc2 x0 x1 x2 x3 x4 x5 x6 x7 x8 x9 x10 x11 x12 x13 x14 x15 x16 x17 x18 x19 x20 x21 x22 x23 x24 xs0 xs1).2.2.2.1 S1x128x256.size (by sl_kernel_rfl) y

def sout0_B_1 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S3088x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x4096 .bf16) (harg14 : arg14.IsWhole) (arg15 : Memref sig .tc .vmem S4096x1024 .bf16) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S8x512 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S2x4x128x256 .f32) (harg25 : arg25.IsWhole) (arg26 : Memref sig .tc .vmem S256x1024 .f32) (harg26 : arg26.IsWhole) (arg27 : Memref sig .tc .vmem S4x128x256 .f32) (harg27 : arg27.IsWhole) (arg28 : Memref sig .tc .vmem S8x1024 .f32) (harg28 : arg28.IsWhole) (arg29 : Memref sig .tc .vmem S2x4x128x256 .f32) (harg29 : arg29.IsWhole) (arg30 : Memref sig .tc .vmem S256x1024 .bf16) (harg30 : arg30.IsWhole) (arg31 : Memref sig .tc .vmem S4x128x256 .f32) (harg31 : arg31.IsWhole) (arg32 : Memref sig .tc .vmem S256x1024 .f32) (harg32 : arg32.IsWhole) (arg33 : Memref sig .tc .vmem S4x128x128 .f32) (harg33 : arg33.IsWhole) (arg34 : Memref sig .tc .vmem S4x128x256 .f32) (harg34 : arg34.IsWhole) (arg35 : Memref sig .tc .vmem S2x4x8x128 .f32) (harg35 : arg35.IsWhole) (arg36 : Memref sig .tc .vmem S256x1024 .bf16) (harg36 : arg36.IsWhole) (hc0 : ¬cond0_0 i) (hc1 : cond0_1 i) (hc2 : ¬cond0_2 i)
    (x0 : Vec F S256x1024 .f32) (x1 : Vec F S256x1024 .f32) (x2 : Vec F S1x8x1024 .f32) (x3 : Vec F S1x8x1024 .f32) (x4 : Vec F S1x8x1024 .f32) (x5 : Vec F S1x8x1024 .f32) (x6 : Vec F S1x8x1024 .f32) (x7 : Vec F S1x8x1024 .f32) (x8 : Vec F S3088x1024 .bf16) (x9 : Vec F S128x512 .bf16) (x10 : Vec F S1x512 .f32) (x11 : Vec F S1x256 .f32) (x12 : Vec F S1024x1024 .bf16) (x13 : Vec F S1024x4096 .bf16) (x14 : Vec F S4096x1024 .bf16) (x15 : Vec F S1x1x1024 .f32) (x16 : Vec F S1x1x1024 .f32) (x17 : Vec F S1x1x1024 .f32) (x18 : Vec F S1x1x1024 .f32) (x19 : Vec F S8x512 .f32) (x20 : Vec F S8x512 .f32) (x21 : Vec F S8x512 .f32) (x22 : Vec F S8x1024 .f32) (x23 : Vec F S8x1024 .f32) (x24 : Vec F S2x4x128x256 .f32) (xs0 : Vec F S256x1024 .bf16) (xs1 : Vec F S4x128x256 .f32) : Vec F S4x128x256 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 hc2 x0 x1 x2 x3 x4 x5 x6 x7 x8 x9 x10 x11 x12 x13 x14 x15 x16 x17 x18 x19 x20 x21 x22 x23 x24 xs0 xs1).2.2.2.1)

theorem cover0_C_25 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S3088x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x4096 .bf16) (harg14 : arg14.IsWhole) (arg15 : Memref sig .tc .vmem S4096x1024 .bf16) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S8x512 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S2x4x128x256 .f32) (harg25 : arg25.IsWhole) (arg26 : Memref sig .tc .vmem S256x1024 .f32) (harg26 : arg26.IsWhole) (arg27 : Memref sig .tc .vmem S4x128x256 .f32) (harg27 : arg27.IsWhole) (arg28 : Memref sig .tc .vmem S8x1024 .f32) (harg28 : arg28.IsWhole) (arg29 : Memref sig .tc .vmem S2x4x128x256 .f32) (harg29 : arg29.IsWhole) (arg30 : Memref sig .tc .vmem S256x1024 .bf16) (harg30 : arg30.IsWhole) (arg31 : Memref sig .tc .vmem S4x128x256 .f32) (harg31 : arg31.IsWhole) (arg32 : Memref sig .tc .vmem S256x1024 .f32) (harg32 : arg32.IsWhole) (arg33 : Memref sig .tc .vmem S4x128x128 .f32) (harg33 : arg33.IsWhole) (arg34 : Memref sig .tc .vmem S4x128x256 .f32) (harg34 : arg34.IsWhole) (arg35 : Memref sig .tc .vmem S2x4x8x128 .f32) (harg35 : arg35.IsWhole) (arg36 : Memref sig .tc .vmem S256x1024 .bf16) (harg36 : arg36.IsWhole) (hc0 : ¬cond0_0 i) (hc1 : ¬cond0_1 i) (hc2 : cond0_2 i)
    (x0 : Vec F S256x1024 .f32) (x1 : Vec F S256x1024 .f32) (x2 : Vec F S1x8x1024 .f32) (x3 : Vec F S1x8x1024 .f32) (x4 : Vec F S1x8x1024 .f32) (x5 : Vec F S1x8x1024 .f32) (x6 : Vec F S1x8x1024 .f32) (x7 : Vec F S1x8x1024 .f32) (x8 : Vec F S3088x1024 .bf16) (x9 : Vec F S128x512 .bf16) (x10 : Vec F S1x512 .f32) (x11 : Vec F S1x256 .f32) (x12 : Vec F S1024x1024 .bf16) (x13 : Vec F S1024x4096 .bf16) (x14 : Vec F S4096x1024 .bf16) (x15 : Vec F S1x1x1024 .f32) (x16 : Vec F S1x1x1024 .f32) (x17 : Vec F S1x1x1024 .f32) (x18 : Vec F S1x1x1024 .f32) (x19 : Vec F S8x512 .f32) (x20 : Vec F S8x512 .f32) (x21 : Vec F S8x512 .f32) (x22 : Vec F S8x1024 .f32) (x23 : Vec F S8x1024 .f32) (x24 : Vec F S2x4x128x256 .f32) (xs0 : Vec F S256x1024 .bf16) (xs1 : Vec F S4x128x256 .f32) (y : S256x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 hc2 x0 x1 x2 x3 x4 x5 x6 x7 x8 x9 x10 x11 x12 x13 x14 x15 x16 x17 x18 x19 x20 x21 x22 x23 x24 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 hc2 x0 x1 x2 x3 x4 x5 x6 x7 x8 x9 x10 x11 x12 x13 x14 x15 x16 x17 x18 x19 x20 x21 x22 x23 x24 xs0 xs1).1 S256x1024.size (by sl_kernel_rfl) y

def out0_C_25 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S3088x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x4096 .bf16) (harg14 : arg14.IsWhole) (arg15 : Memref sig .tc .vmem S4096x1024 .bf16) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S8x512 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S2x4x128x256 .f32) (harg25 : arg25.IsWhole) (arg26 : Memref sig .tc .vmem S256x1024 .f32) (harg26 : arg26.IsWhole) (arg27 : Memref sig .tc .vmem S4x128x256 .f32) (harg27 : arg27.IsWhole) (arg28 : Memref sig .tc .vmem S8x1024 .f32) (harg28 : arg28.IsWhole) (arg29 : Memref sig .tc .vmem S2x4x128x256 .f32) (harg29 : arg29.IsWhole) (arg30 : Memref sig .tc .vmem S256x1024 .bf16) (harg30 : arg30.IsWhole) (arg31 : Memref sig .tc .vmem S4x128x256 .f32) (harg31 : arg31.IsWhole) (arg32 : Memref sig .tc .vmem S256x1024 .f32) (harg32 : arg32.IsWhole) (arg33 : Memref sig .tc .vmem S4x128x128 .f32) (harg33 : arg33.IsWhole) (arg34 : Memref sig .tc .vmem S4x128x256 .f32) (harg34 : arg34.IsWhole) (arg35 : Memref sig .tc .vmem S2x4x8x128 .f32) (harg35 : arg35.IsWhole) (arg36 : Memref sig .tc .vmem S256x1024 .bf16) (harg36 : arg36.IsWhole) (hc0 : ¬cond0_0 i) (hc1 : ¬cond0_1 i) (hc2 : cond0_2 i)
    (x0 : Vec F S256x1024 .f32) (x1 : Vec F S256x1024 .f32) (x2 : Vec F S1x8x1024 .f32) (x3 : Vec F S1x8x1024 .f32) (x4 : Vec F S1x8x1024 .f32) (x5 : Vec F S1x8x1024 .f32) (x6 : Vec F S1x8x1024 .f32) (x7 : Vec F S1x8x1024 .f32) (x8 : Vec F S3088x1024 .bf16) (x9 : Vec F S128x512 .bf16) (x10 : Vec F S1x512 .f32) (x11 : Vec F S1x256 .f32) (x12 : Vec F S1024x1024 .bf16) (x13 : Vec F S1024x4096 .bf16) (x14 : Vec F S4096x1024 .bf16) (x15 : Vec F S1x1x1024 .f32) (x16 : Vec F S1x1x1024 .f32) (x17 : Vec F S1x1x1024 .f32) (x18 : Vec F S1x1x1024 .f32) (x19 : Vec F S8x512 .f32) (x20 : Vec F S8x512 .f32) (x21 : Vec F S8x512 .f32) (x22 : Vec F S8x1024 .f32) (x23 : Vec F S8x1024 .f32) (x24 : Vec F S2x4x128x256 .f32) (xs0 : Vec F S256x1024 .bf16) (xs1 : Vec F S4x128x256 .f32) : Vec F S256x1024 .f32 :=
  VO0_25.read (Elt F) (VO0_25.writes (Elt F) VO0_25.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 hc2 x0 x1 x2 x3 x4 x5 x6 x7 x8 x9 x10 x11 x12 x13 x14 x15 x16 x17 x18 x19 x20 x21 x22 x23 x24 xs0 xs1).1)

theorem cover0_C_26 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S3088x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x4096 .bf16) (harg14 : arg14.IsWhole) (arg15 : Memref sig .tc .vmem S4096x1024 .bf16) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S8x512 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S2x4x128x256 .f32) (harg25 : arg25.IsWhole) (arg26 : Memref sig .tc .vmem S256x1024 .f32) (harg26 : arg26.IsWhole) (arg27 : Memref sig .tc .vmem S4x128x256 .f32) (harg27 : arg27.IsWhole) (arg28 : Memref sig .tc .vmem S8x1024 .f32) (harg28 : arg28.IsWhole) (arg29 : Memref sig .tc .vmem S2x4x128x256 .f32) (harg29 : arg29.IsWhole) (arg30 : Memref sig .tc .vmem S256x1024 .bf16) (harg30 : arg30.IsWhole) (arg31 : Memref sig .tc .vmem S4x128x256 .f32) (harg31 : arg31.IsWhole) (arg32 : Memref sig .tc .vmem S256x1024 .f32) (harg32 : arg32.IsWhole) (arg33 : Memref sig .tc .vmem S4x128x128 .f32) (harg33 : arg33.IsWhole) (arg34 : Memref sig .tc .vmem S4x128x256 .f32) (harg34 : arg34.IsWhole) (arg35 : Memref sig .tc .vmem S2x4x8x128 .f32) (harg35 : arg35.IsWhole) (arg36 : Memref sig .tc .vmem S256x1024 .bf16) (harg36 : arg36.IsWhole) (hc0 : ¬cond0_0 i) (hc1 : ¬cond0_1 i) (hc2 : cond0_2 i)
    (x0 : Vec F S256x1024 .f32) (x1 : Vec F S256x1024 .f32) (x2 : Vec F S1x8x1024 .f32) (x3 : Vec F S1x8x1024 .f32) (x4 : Vec F S1x8x1024 .f32) (x5 : Vec F S1x8x1024 .f32) (x6 : Vec F S1x8x1024 .f32) (x7 : Vec F S1x8x1024 .f32) (x8 : Vec F S3088x1024 .bf16) (x9 : Vec F S128x512 .bf16) (x10 : Vec F S1x512 .f32) (x11 : Vec F S1x256 .f32) (x12 : Vec F S1024x1024 .bf16) (x13 : Vec F S1024x4096 .bf16) (x14 : Vec F S4096x1024 .bf16) (x15 : Vec F S1x1x1024 .f32) (x16 : Vec F S1x1x1024 .f32) (x17 : Vec F S1x1x1024 .f32) (x18 : Vec F S1x1x1024 .f32) (x19 : Vec F S8x512 .f32) (x20 : Vec F S8x512 .f32) (x21 : Vec F S8x512 .f32) (x22 : Vec F S8x1024 .f32) (x23 : Vec F S8x1024 .f32) (x24 : Vec F S2x4x128x256 .f32) (xs0 : Vec F S256x1024 .bf16) (xs1 : Vec F S4x128x256 .f32) (y : S4x128x256.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 hc2 x0 x1 x2 x3 x4 x5 x6 x7 x8 x9 x10 x11 x12 x13 x14 x15 x16 x17 x18 x19 x20 x21 x22 x23 x24 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 hc2 x0 x1 x2 x3 x4 x5 x6 x7 x8 x9 x10 x11 x12 x13 x14 x15 x16 x17 x18 x19 x20 x21 x22 x23 x24 xs0 xs1).2.1 S4x128x256.size (by sl_kernel_rfl) y

def out0_C_26 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S3088x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x4096 .bf16) (harg14 : arg14.IsWhole) (arg15 : Memref sig .tc .vmem S4096x1024 .bf16) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S8x512 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S2x4x128x256 .f32) (harg25 : arg25.IsWhole) (arg26 : Memref sig .tc .vmem S256x1024 .f32) (harg26 : arg26.IsWhole) (arg27 : Memref sig .tc .vmem S4x128x256 .f32) (harg27 : arg27.IsWhole) (arg28 : Memref sig .tc .vmem S8x1024 .f32) (harg28 : arg28.IsWhole) (arg29 : Memref sig .tc .vmem S2x4x128x256 .f32) (harg29 : arg29.IsWhole) (arg30 : Memref sig .tc .vmem S256x1024 .bf16) (harg30 : arg30.IsWhole) (arg31 : Memref sig .tc .vmem S4x128x256 .f32) (harg31 : arg31.IsWhole) (arg32 : Memref sig .tc .vmem S256x1024 .f32) (harg32 : arg32.IsWhole) (arg33 : Memref sig .tc .vmem S4x128x128 .f32) (harg33 : arg33.IsWhole) (arg34 : Memref sig .tc .vmem S4x128x256 .f32) (harg34 : arg34.IsWhole) (arg35 : Memref sig .tc .vmem S2x4x8x128 .f32) (harg35 : arg35.IsWhole) (arg36 : Memref sig .tc .vmem S256x1024 .bf16) (harg36 : arg36.IsWhole) (hc0 : ¬cond0_0 i) (hc1 : ¬cond0_1 i) (hc2 : cond0_2 i)
    (x0 : Vec F S256x1024 .f32) (x1 : Vec F S256x1024 .f32) (x2 : Vec F S1x8x1024 .f32) (x3 : Vec F S1x8x1024 .f32) (x4 : Vec F S1x8x1024 .f32) (x5 : Vec F S1x8x1024 .f32) (x6 : Vec F S1x8x1024 .f32) (x7 : Vec F S1x8x1024 .f32) (x8 : Vec F S3088x1024 .bf16) (x9 : Vec F S128x512 .bf16) (x10 : Vec F S1x512 .f32) (x11 : Vec F S1x256 .f32) (x12 : Vec F S1024x1024 .bf16) (x13 : Vec F S1024x4096 .bf16) (x14 : Vec F S4096x1024 .bf16) (x15 : Vec F S1x1x1024 .f32) (x16 : Vec F S1x1x1024 .f32) (x17 : Vec F S1x1x1024 .f32) (x18 : Vec F S1x1x1024 .f32) (x19 : Vec F S8x512 .f32) (x20 : Vec F S8x512 .f32) (x21 : Vec F S8x512 .f32) (x22 : Vec F S8x1024 .f32) (x23 : Vec F S8x1024 .f32) (x24 : Vec F S2x4x128x256 .f32) (xs0 : Vec F S256x1024 .bf16) (xs1 : Vec F S4x128x256 .f32) : Vec F S4x128x256 .f32 :=
  VO0_26.read (Elt F) (VO0_26.writes (Elt F) VO0_26.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 hc2 x0 x1 x2 x3 x4 x5 x6 x7 x8 x9 x10 x11 x12 x13 x14 x15 x16 x17 x18 x19 x20 x21 x22 x23 x24 xs0 xs1).2.1)

def sout0_C_0 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S3088x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x4096 .bf16) (harg14 : arg14.IsWhole) (arg15 : Memref sig .tc .vmem S4096x1024 .bf16) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S8x512 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S2x4x128x256 .f32) (harg25 : arg25.IsWhole) (arg26 : Memref sig .tc .vmem S256x1024 .f32) (harg26 : arg26.IsWhole) (arg27 : Memref sig .tc .vmem S4x128x256 .f32) (harg27 : arg27.IsWhole) (arg28 : Memref sig .tc .vmem S8x1024 .f32) (harg28 : arg28.IsWhole) (arg29 : Memref sig .tc .vmem S2x4x128x256 .f32) (harg29 : arg29.IsWhole) (arg30 : Memref sig .tc .vmem S256x1024 .bf16) (harg30 : arg30.IsWhole) (arg31 : Memref sig .tc .vmem S4x128x256 .f32) (harg31 : arg31.IsWhole) (arg32 : Memref sig .tc .vmem S256x1024 .f32) (harg32 : arg32.IsWhole) (arg33 : Memref sig .tc .vmem S4x128x128 .f32) (harg33 : arg33.IsWhole) (arg34 : Memref sig .tc .vmem S4x128x256 .f32) (harg34 : arg34.IsWhole) (arg35 : Memref sig .tc .vmem S2x4x8x128 .f32) (harg35 : arg35.IsWhole) (arg36 : Memref sig .tc .vmem S256x1024 .bf16) (harg36 : arg36.IsWhole) (hc0 : ¬cond0_0 i) (hc1 : ¬cond0_1 i) (hc2 : cond0_2 i)
    (x0 : Vec F S256x1024 .f32) (x1 : Vec F S256x1024 .f32) (x2 : Vec F S1x8x1024 .f32) (x3 : Vec F S1x8x1024 .f32) (x4 : Vec F S1x8x1024 .f32) (x5 : Vec F S1x8x1024 .f32) (x6 : Vec F S1x8x1024 .f32) (x7 : Vec F S1x8x1024 .f32) (x8 : Vec F S3088x1024 .bf16) (x9 : Vec F S128x512 .bf16) (x10 : Vec F S1x512 .f32) (x11 : Vec F S1x256 .f32) (x12 : Vec F S1024x1024 .bf16) (x13 : Vec F S1024x4096 .bf16) (x14 : Vec F S4096x1024 .bf16) (x15 : Vec F S1x1x1024 .f32) (x16 : Vec F S1x1x1024 .f32) (x17 : Vec F S1x1x1024 .f32) (x18 : Vec F S1x1x1024 .f32) (x19 : Vec F S8x512 .f32) (x20 : Vec F S8x512 .f32) (x21 : Vec F S8x512 .f32) (x22 : Vec F S8x1024 .f32) (x23 : Vec F S8x1024 .f32) (x24 : Vec F S2x4x128x256 .f32) (xs0 : Vec F S256x1024 .bf16) (xs1 : Vec F S4x128x256 .f32) : Vec F S256x1024 .bf16 := xs0

def sout0_C_1 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S3088x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x4096 .bf16) (harg14 : arg14.IsWhole) (arg15 : Memref sig .tc .vmem S4096x1024 .bf16) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S8x512 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S2x4x128x256 .f32) (harg25 : arg25.IsWhole) (arg26 : Memref sig .tc .vmem S256x1024 .f32) (harg26 : arg26.IsWhole) (arg27 : Memref sig .tc .vmem S4x128x256 .f32) (harg27 : arg27.IsWhole) (arg28 : Memref sig .tc .vmem S8x1024 .f32) (harg28 : arg28.IsWhole) (arg29 : Memref sig .tc .vmem S2x4x128x256 .f32) (harg29 : arg29.IsWhole) (arg30 : Memref sig .tc .vmem S256x1024 .bf16) (harg30 : arg30.IsWhole) (arg31 : Memref sig .tc .vmem S4x128x256 .f32) (harg31 : arg31.IsWhole) (arg32 : Memref sig .tc .vmem S256x1024 .f32) (harg32 : arg32.IsWhole) (arg33 : Memref sig .tc .vmem S4x128x128 .f32) (harg33 : arg33.IsWhole) (arg34 : Memref sig .tc .vmem S4x128x256 .f32) (harg34 : arg34.IsWhole) (arg35 : Memref sig .tc .vmem S2x4x8x128 .f32) (harg35 : arg35.IsWhole) (arg36 : Memref sig .tc .vmem S256x1024 .bf16) (harg36 : arg36.IsWhole) (hc0 : ¬cond0_0 i) (hc1 : ¬cond0_1 i) (hc2 : cond0_2 i)
    (x0 : Vec F S256x1024 .f32) (x1 : Vec F S256x1024 .f32) (x2 : Vec F S1x8x1024 .f32) (x3 : Vec F S1x8x1024 .f32) (x4 : Vec F S1x8x1024 .f32) (x5 : Vec F S1x8x1024 .f32) (x6 : Vec F S1x8x1024 .f32) (x7 : Vec F S1x8x1024 .f32) (x8 : Vec F S3088x1024 .bf16) (x9 : Vec F S128x512 .bf16) (x10 : Vec F S1x512 .f32) (x11 : Vec F S1x256 .f32) (x12 : Vec F S1024x1024 .bf16) (x13 : Vec F S1024x4096 .bf16) (x14 : Vec F S4096x1024 .bf16) (x15 : Vec F S1x1x1024 .f32) (x16 : Vec F S1x1x1024 .f32) (x17 : Vec F S1x1x1024 .f32) (x18 : Vec F S1x1x1024 .f32) (x19 : Vec F S8x512 .f32) (x20 : Vec F S8x512 .f32) (x21 : Vec F S8x512 .f32) (x22 : Vec F S8x1024 .f32) (x23 : Vec F S8x1024 .f32) (x24 : Vec F S2x4x128x256 .f32) (xs0 : Vec F S256x1024 .bf16) (xs1 : Vec F S4x128x256 .f32) : Vec F S4x128x256 .f32 := xs1

end Cert.KernelIdeal.Gen

end
-- ==== Proof.Sweep.lean ====
/- What is in the two output windows and in the two carried scratch buffers after every grid point, and the proof data of the sweep. -/
module

public import proofs.«01_k».proof.Proof.Outs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
def outsAt0 (c : Dev nD) : (n : ℕ) → n < cfg0.N → Vec F S256x1024 .f32 × Vec F S4x128x256 .f32 × Vec F S256x1024 .bf16 × Vec F S4x128x256 .f32
  | 0, hn => (out0_A_25 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) (ms0_27 ⟨0, hn⟩) (hs0_27 ⟨0, hn⟩) (ms0_28 ⟨0, hn⟩) (hs0_28 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩) (iblk m c 23 ⟨0, hn⟩) (iblk m c 24 ⟨0, hn⟩), out0_A_26 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) (ms0_27 ⟨0, hn⟩) (hs0_27 ⟨0, hn⟩) (ms0_28 ⟨0, hn⟩) (hs0_28 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩) (iblk m c 23 ⟨0, hn⟩) (iblk m c 24 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) (ms0_27 ⟨0, hn⟩) (hs0_27 ⟨0, hn⟩) (ms0_28 ⟨0, hn⟩) (hs0_28 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩) (iblk m c 23 ⟨0, hn⟩) (iblk m c 24 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) (ms0_27 ⟨0, hn⟩) (hs0_27 ⟨0, hn⟩) (ms0_28 ⟨0, hn⟩) (hs0_28 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩) (iblk m c 23 ⟨0, hn⟩) (iblk m c 24 ⟨0, hn⟩))
  | n + 1, hn =>
    if h0 : (n + 1) % 65 = 0 then
      if h1 : (1 ≤ (n + 1) % 65 ∧ (n + 1) % 65 ≤ 63) then
        False.elim (by have hN : n + 1 < 65 := lt_of_lt_of_eq hn (show cfg0.N = 65 from N_0); omega)
      else
        if h2 : (n + 1) % 65 = 64 then
          False.elim (by have hN : n + 1 < 65 := lt_of_lt_of_eq hn (show cfg0.N = 65 from N_0); omega)
        else
          (out0_A_25 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩), out0_A_26 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩))
    else
      if h1 : (1 ≤ (n + 1) % 65 ∧ (n + 1) % 65 ≤ 63) then
        if h2 : (n + 1) % 65 = 64 then
          False.elim (by have hN : n + 1 < 65 := lt_of_lt_of_eq hn (show cfg0.N = 65 from N_0); omega)
        else
          (out0_B_25 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩) (outsAt0 c n (Nat.lt_of_succ_lt hn)).2.2.1 (outsAt0 c n (Nat.lt_of_succ_lt hn)).2.2.2, out0_B_26 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩) (outsAt0 c n (Nat.lt_of_succ_lt hn)).2.2.1 (outsAt0 c n (Nat.lt_of_succ_lt hn)).2.2.2)
      else
        if h2 : (n + 1) % 65 = 64 then
          (out0_C_25 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩) (outsAt0 c n (Nat.lt_of_succ_lt hn)).2.2.1 (outsAt0 c n (Nat.lt_of_succ_lt hn)).2.2.2, out0_C_26 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩) (outsAt0 c n (Nat.lt_of_succ_lt hn)).2.2.1 (outsAt0 c n (Nat.lt_of_succ_lt hn)).2.2.2)
        else
          False.elim (by have hN : n + 1 < 65 := lt_of_lt_of_eq hn (show cfg0.N = 65 from N_0); omega)

theorem outsAt0_A (c : Dev nD) (t : Fin cfg0.N) (h0 : t.val % 65 = 0) (h1 : ¬(1 ≤ t.val % 65 ∧ t.val % 65 ≤ 63)) (h2 : ¬t.val % 65 = 64) :
    outsAt0 m c t.val t.isLt = (out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t), out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)) := by
  obtain ⟨n, hn⟩ := t
  cases n with
  | zero => exact rfl
  | succ n => exact (dif_pos h0).trans ((dif_neg h1).trans ((dif_neg h2).trans rfl))

theorem outsAt0_B (c : Dev nD) (t : Fin cfg0.N) (h0 : ¬t.val % 65 = 0) (h1 : (1 ≤ t.val % 65 ∧ t.val % 65 ≤ 63)) (h2 : ¬t.val % 65 = 64) :
    outsAt0 m c t.val t.isLt = (out0_B_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

theorem outsAt0_C (c : Dev nD) (t : Fin cfg0.N) (h0 : ¬t.val % 65 = 0) (h1 : ¬(1 ≤ t.val % 65 ∧ t.val % 65 ≤ 63)) (h2 : t.val % 65 = 64) :
    outsAt0 m c t.val t.isLt = (out0_C_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (outsAt0 m c (t.val - 1) (Nat.lt_of_le_of_lt (Nat.sub_le _ _) t.isLt)).2.2.1 (outsAt0 m c (t.val - 1) (Nat.lt_of_le_of_lt (Nat.sub_le _ _) t.isLt)).2.2.2, out0_C_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  cases n with
  | zero => exact absurd rfl hz
  | succ n => rfl

def forgets0 : Fin 29 → Bool := fun w => w.val == 27 || w.val == 28
theorem forgets0_25 : forgets0 (25 : Fin 29) = false := by decide
theorem forgets0_26 : forgets0 (26 : Fin 29) = false := by decide

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => (outsAt0 m c t.val t.isLt).1
    | ⟨26, _⟩ => (outsAt0 m c t.val t.isLt).2.1
    | ⟨27, h⟩ => Pipeline.Dat.unnamed (cfg := cfg0) ⟨27, h⟩ t
    | ⟨28, h⟩ => Pipeline.Dat.unnamed (cfg := cfg0) ⟨28, h⟩ t
    | ⟨_ + 29, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = (outsAt0 m c t.val t.isLt).1 := by dsimp only [dats]
theorem after0_26 (c : Dev nD) (t : Fin cfg0.N) : (dats m 0 c).after 26 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare d)
    ∗ (∃ d, owns (c : Thread nD τ) (ms0_28 t) fullShare d))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t
    ∗ (∃ d, owns (c : Thread nD τ) (ms0_27 t) fullShare d)
    ∗ (∃ d, owns (c : Thread nD τ) (ms0_28 t) fullShare d))

end Cert.KernelIdeal.Gen

end
-- ==== Proof.Body.lean ====
/- The body meets its obligation at every grid point. -/
module

public import proofs.«01_k».proof.Proof.Sweep

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 43200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24]
  rw [show (dats m 0 c).owesAt () t.succ = (dats m 0 c).owesAt () t.castSucc from rfl]
  rw [show (dats m 0 c).Φ t.succ = PhiS m c (t.val + 1) t.isLt from rfl, PhiS_succ]
  have hN : t.val < 65 := lt_of_lt_of_eq t.isLt (show cfg0.N = 65 from N_0)
  by_cases h0 : t.val % 65 = 0
  · by_cases h1 : (1 ≤ t.val % 65 ∧ t.val % 65 ≤ 63)
    · exfalso; omega
    · by_cases h2 : t.val % 65 = 64
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        rw [show (dats m 0 c).leavesExact 14 t = owns (c : Thread nD τ) (ms0_14 t) fullShare ((dats m 0 c).after 14 t) from by
      unfold Dat.leavesExact; rw [liveAt0_14 t], after0_14]
        rw [show (dats m 0 c).leavesExact 15 t = owns (c : Thread nD τ) (ms0_15 t) fullShare ((dats m 0 c).after 15 t) from by
      unfold Dat.leavesExact; rw [liveAt0_15 t], after0_15]
        rw [show (dats m 0 c).leavesExact 16 t = owns (c : Thread nD τ) (ms0_16 t) fullShare ((dats m 0 c).after 16 t) from by
      unfold Dat.leavesExact; rw [liveAt0_16 t], after0_16]
        rw [show (dats m 0 c).leavesExact 17 t = owns (c : Thread nD τ) (ms0_17 t) fullShare ((dats m 0 c).after 17 t) from by
      unfold Dat.leavesExact; rw [liveAt0_17 t], after0_17]
        rw [show (dats m 0 c).leavesExact 18 t = owns (c : Thread nD τ) (ms0_18 t) fullShare ((dats m 0 c).after 18 t) from by
      unfold Dat.leavesExact; rw [liveAt0_18 t], after0_18]
        rw [show (dats m 0 c).leavesExact 19 t = owns (c : Thread nD τ) (ms0_19 t) fullShare ((dats m 0 c).after 19 t) from by
      unfold Dat.leavesExact; rw [liveAt0_19 t], after0_19]
        rw [show (dats m 0 c).leavesExact 20 t = owns (c : Thread nD τ) (ms0_20 t) fullShare ((dats m 0 c).after 20 t) from by
      unfold Dat.leavesExact; rw [liveAt0_20 t], after0_20]
        rw [show (dats m 0 c).leavesExact 21 t = owns (c : Thread nD τ) (ms0_21 t) fullShare ((dats m 0 c).after 21 t) from by
      unfold Dat.leavesExact; rw [liveAt0_21 t], after0_21]
        rw [show (dats m 0 c).leavesExact 22 t = owns (c : Thread nD τ) (ms0_22 t) fullShare ((dats m 0 c).after 22 t) from by
      unfold Dat.leavesExact; rw [liveAt0_22 t], after0_22]
        rw [show (dats m 0 c).leavesExact 23 t = owns (c : Thread nD τ) (ms0_23 t) fullShare ((dats m 0 c).after 23 t) from by
      unfold Dat.leavesExact; rw [liveAt0_23 t], after0_23]
        rw [show (dats m 0 c).leavesExact 24 t = owns (c : Thread nD τ) (ms0_24 t) fullShare ((dats m 0 c).after 24 t) from by
      unfold Dat.leavesExact; rw [liveAt0_24 t], after0_24]
        rw [Dat.leavesExact_idle (dats m 0 c) 25 t (idleAt0_25_A t ((hcond0_0 t).mpr h0) (fun h => h1 ((hcond0_1 t).mp h)) (fun h => h2 ((hcond0_2 t).mp h))) (noFlush0_25_A t ((hcond0_0 t).mpr h0) (fun h => h1 ((hcond0_1 t).mp h)) (fun h => h2 ((hcond0_2 t).mp h)))]
        rw [Dat.leavesExact_idle (dats m 0 c) 26 t (idleAt0_26_A t ((hcond0_0 t).mpr h0) (fun h => h1 ((hcond0_1 t).mp h)) (fun h => h2 ((hcond0_2 t).mp h))) (noFlush0_26_A t ((hcond0_0 t).mpr h0) (fun h => h1 ((hcond0_1 t).mp h)) (fun h => h2 ((hcond0_2 t).mp h)))]
        by_cases hz : t.val = 0
        · rw [PhiS_castSucc m c t, PhiS_zero m c _ _ hz, PhiA0_eq]
          rw [outsAt0_A m c t h0 h1 h2]
          unfold sout0_A_0 sout0_A_1; (try dsimp only)
          iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
          iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).2.2.2.2.2.2 _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          isplitl [H19]; · iexact H19
          isplitl [H20]; · iexact H20
          isplitl [H21]; · iexact H21
          isplitl [H22]; · iexact H22
          isplitl [H23]; · iexact H23
          isplitl [H24]; · iexact H24
          isplitl [H25]; · iexact H25
          isplitl [H26]; · iexact H26
          isplitl [H27]; · iexists _; iexact H27
          isplitl [H28]; · iexists _; iexact H28
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          iintro ⟨H0, H1, H2, H3, H4, H5, H6, H7, H8, H9, H10, H11, H12, H13, H14, H15, H16, H17, H18, H19, H20, H21, H22, H23, H24, H25, H26, H27, H28, ⟨%es0, HS0⟩, ⟨%es1, HS1⟩, HS2, HS3, HS4, HS5, HS6⟩
          isplitl [HS0 HS1 HS2 HS3 HS4 HS5 HS6 Hg]
          · isplitl [HS0 HS1 HS2 HS3 HS4 HS5 HS6]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS2]
              · iexact HS2
              isplitl [HS3]
              · iexact HS3
              isplitl [HS4]
              · iexact HS4
              isplitl [HS5]
              · iexact HS5
              iexact HS6
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          isplitl [H19]; · iexact H19
          isplitl [H20]; · iexact H20
          isplitl [H21]; · iexact H21
          isplitl [H22]; · iexact H22
          isplitl [H23]; · iexact H23
          isplitl [H24]; · iexact H24
          isplitl [H25]; · iexists _; iexact H25
          isplitl [H26]; · iexists _; iexact H26
          isplitl [H27]; · iexact H27
          iexact H28
        · exfalso; have hN : t.val < 65 := lt_of_lt_of_eq t.isLt (show cfg0.N = 65 from N_0); omega
  · by_cases h1 : (1 ≤ t.val % 65 ∧ t.val % 65 ≤ 63)
    · by_cases h2 : t.val % 65 = 64
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        rw [show (dats m 0 c).leavesExact 14 t = owns (c : Thread nD τ) (ms0_14 t) fullShare ((dats m 0 c).after 14 t) from by
      unfold Dat.leavesExact; rw [liveAt0_14 t], after0_14]
        rw [show (dats m 0 c).leavesExact 15 t = owns (c : Thread nD τ) (ms0_15 t) fullShare ((dats m 0 c).after 15 t) from by
      unfold Dat.leavesExact; rw [liveAt0_15 t], after0_15]
        rw [show (dats m 0 c).leavesExact 16 t = owns (c : Thread nD τ) (ms0_16 t) fullShare ((dats m 0 c).after 16 t) from by
      unfold Dat.leavesExact; rw [liveAt0_16 t], after0_16]
        rw [show (dats m 0 c).leavesExact 17 t = owns (c : Thread nD τ) (ms0_17 t) fullShare ((dats m 0 c).after 17 t) from by
      unfold Dat.leavesExact; rw [liveAt0_17 t], after0_17]
        rw [show (dats m 0 c).leavesExact 18 t = owns (c : Thread nD τ) (ms0_18 t) fullShare ((dats m 0 c).after 18 t) from by
      unfold Dat.leavesExact; rw [liveAt0_18 t], after0_18]
        rw [show (dats m 0 c).leavesExact 19 t = owns (c : Thread nD τ) (ms0_19 t) fullShare ((dats m 0 c).after 19 t) from by
      unfold Dat.leavesExact; rw [liveAt0_19 t], after0_19]
        rw [show (dats m 0 c).leavesExact 20 t = owns (c : Thread nD τ) (ms0_20 t) fullShare ((dats m 0 c).after 20 t) from by
      unfold Dat.leavesExact; rw [liveAt0_20 t], after0_20]
        rw [show (dats m 0 c).leavesExact 21 t = owns (c : Thread nD τ) (ms0_21 t) fullShare ((dats m 0 c).after 21 t) from by
      unfold Dat.leavesExact; rw [liveAt0_21 t], after0_21]
        rw [show (dats m 0 c).leavesExact 22 t = owns (c : Thread nD τ) (ms0_22 t) fullShare ((dats m 0 c).after 22 t) from by
      unfold Dat.leavesExact; rw [liveAt0_22 t], after0_22]
        rw [show (dats m 0 c).leavesExact 23 t = owns (c : Thread nD τ) (ms0_23 t) fullShare ((dats m 0 c).after 23 t) from by
      unfold Dat.leavesExact; rw [liveAt0_23 t], after0_23]
        rw [show (dats m 0 c).leavesExact 24 t = owns (c : Thread nD τ) (ms0_24 t) fullShare ((dats m 0 c).after 24 t) from by
      unfold Dat.leavesExact; rw [liveAt0_24 t], after0_24]
        rw [show (dats m 0 c).leavesExact 25 t = owns (c : Thread nD τ) (ms0_25 t) fullShare ((dats m 0 c).after 25 t) from by
      unfold Dat.leavesExact; rw [liveAt0_25_B t (fun h => h0 ((hcond0_0 t).mp h)) ((hcond0_1 t).mpr h1) (fun h => h2 ((hcond0_2 t).mp h))], after0_25]
        rw [Dat.leavesExact_idle (dats m 0 c) 26 t (idleAt0_26_B t (fun h => h0 ((hcond0_0 t).mp h)) ((hcond0_1 t).mpr h1) (fun h => h2 ((hcond0_2 t).mp h))) (noFlush0_26_B t (fun h => h0 ((hcond0_0 t).mp h)) ((hcond0_1 t).mpr h1) (fun h => h2 ((hcond0_2 t).mp h)))]
        by_cases hz : t.val = 0
        · exfalso; have hN : t.val < 65 := lt_of_lt_of_eq t.isLt (show cfg0.N = 65 from N_0); omega
        · rw [PhiS_castSucc m c t, PhiS_pos m c _ _ hz]
          rw [outsAt0_B m c t h0 h1 h2]
          unfold out0_B_25 sout0_B_0 sout0_B_1; (try dsimp only)
          iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
          iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) _ _).2.2.2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          isplitl [H19]; · iexact H19
          isplitl [H20]; · iexact H20
          isplitl [H21]; · iexact H21
          isplitl [H22]; · iexact H22
          isplitl [H23]; · iexact H23
          isplitl [H24]; · iexact H24
          isplitl [H25]; · iexists _; iexact H25
          isplitl [H26]; · iexact H26
          isplitl [H27]; · iexists _; iexact H27
          isplitl [H28]; · iexists _; iexact H28
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          iintro ⟨H0, H1, H2, H3, H4, H5, H6, H7, H8, H9, H10, H11, H12, H13, H14, H15, H16, H17, H18, H19, H20, H21, H22, H23, H24, ⟨%e25, H25⟩, H26, H27, H28, ⟨%es0, HS0⟩, ⟨%es1, HS1⟩, ⟨%fT2, HS2⟩, HS3, HS4, HS5, ⟨%fT6, HS6⟩⟩
          isplitl [HS0 HS1 HS2 HS3 HS4 HS5 HS6 Hg]
          · isplitl [HS0 HS1 HS2 HS3 HS4 HS5 HS6]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS2]
              · iexists _; unfold owns; iexists _; isplitr
                swap; · iexact HS2
                ipureintro; rfl
              isplitl [HS3]
              · iexact HS3
              isplitl [HS4]
              · iexact HS4
              isplitl [HS5]
              · iexact HS5
              iexists _; unfold owns; iexists _; isplitr
              swap; · iexact HS6
              ipureintro; rfl
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          isplitl [H19]; · iexact H19
          isplitl [H20]; · iexact H20
          isplitl [H21]; · iexact H21
          isplitl [H22]; · iexact H22
          isplitl [H23]; · iexact H23
          isplitl [H24]; · iexact H24
          isplitl [H25]
          · unfold owns; iexists _; isplitr
            swap; · iexact H25
            ipureintro; exact View.read_writes_of_cover _ _ _ _ _ (cover0_B_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H26]; · iexists _; iexact H26
          isplitl [H27]; · iexact H27
          iexact H28
    · by_cases h2 : t.val % 65 = 64
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        rw [show (dats m 0 c).leavesExact 14 t = owns (c : Thread nD τ) (ms0_14 t) fullShare ((dats m 0 c).after 14 t) from by
      unfold Dat.leavesExact; rw [liveAt0_14 t], after0_14]
        rw [show (dats m 0 c).leavesExact 15 t = owns (c : Thread nD τ) (ms0_15 t) fullShare ((dats m 0 c).after 15 t) from by
      unfold Dat.leavesExact; rw [liveAt0_15 t], after0_15]
        rw [show (dats m 0 c).leavesExact 16 t = owns (c : Thread nD τ) (ms0_16 t) fullShare ((dats m 0 c).after 16 t) from by
      unfold Dat.leavesExact; rw [liveAt0_16 t], after0_16]
        rw [show (dats m 0 c).leavesExact 17 t = owns (c : Thread nD τ) (ms0_17 t) fullShare ((dats m 0 c).after 17 t) from by
      unfold Dat.leavesExact; rw [liveAt0_17 t], after0_17]
        rw [show (dats m 0 c).leavesExact 18 t = owns (c : Thread nD τ) (ms0_18 t) fullShare ((dats m 0 c).after 18 t) from by
      unfold Dat.leavesExact; rw [liveAt0_18 t], after0_18]
        rw [show (dats m 0 c).leavesExact 19 t = owns (c : Thread nD τ) (ms0_19 t) fullShare ((dats m 0 c).after 19 t) from by
      unfold Dat.leavesExact; rw [liveAt0_19 t], after0_19]
        rw [show (dats m 0 c).leavesExact 20 t = owns (c : Thread nD τ) (ms0_20 t) fullShare ((dats m 0 c).after 20 t) from by
      unfold Dat.leavesExact; rw [liveAt0_20 t], after0_20]
        rw [show (dats m 0 c).leavesExact 21 t = owns (c : Thread nD τ) (ms0_21 t) fullShare ((dats m 0 c).after 21 t) from by
      unfold Dat.leavesExact; rw [liveAt0_21 t], after0_21]
        rw [show (dats m 0 c).leavesExact 22 t = owns (c : Thread nD τ) (ms0_22 t) fullShare ((dats m 0 c).after 22 t) from by
      unfold Dat.leavesExact; rw [liveAt0_22 t], after0_22]
        rw [show (dats m 0 c).leavesExact 23 t = owns (c : Thread nD τ) (ms0_23 t) fullShare ((dats m 0 c).after 23 t) from by
      unfold Dat.leavesExact; rw [liveAt0_23 t], after0_23]
        rw [show (dats m 0 c).leavesExact 24 t = owns (c : Thread nD τ) (ms0_24 t) fullShare ((dats m 0 c).after 24 t) from by
      unfold Dat.leavesExact; rw [liveAt0_24 t], after0_24]
        rw [show (dats m 0 c).leavesExact 25 t = owns (c : Thread nD τ) (ms0_25 t) fullShare ((dats m 0 c).after 25 t) from by
      unfold Dat.leavesExact; rw [liveAt0_25_C t (fun h => h0 ((hcond0_0 t).mp h)) (fun h => h1 ((hcond0_1 t).mp h)) ((hcond0_2 t).mpr h2)], after0_25]
        rw [show (dats m 0 c).leavesExact 26 t = owns (c : Thread nD τ) (ms0_26 t) fullShare ((dats m 0 c).after 26 t) from by
      unfold Dat.leavesExact; rw [liveAt0_26_C t (fun h => h0 ((hcond0_0 t).mp h)) (fun h => h1 ((hcond0_1 t).mp h)) ((hcond0_2 t).mpr h2)], after0_26]
        by_cases hz : t.val = 0
        · exfalso; have hN : t.val < 65 := lt_of_lt_of_eq t.isLt (show cfg0.N = 65 from N_0); omega
        · rw [PhiS_castSucc m c t, PhiS_pos m c _ _ hz]
          rw [outsAt0_C m c t h0 h1 h2]
          unfold out0_C_25 out0_C_26 sout0_C_0 sout0_C_1; (try dsimp only)
          iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
          iapply ((kernelRun0_C c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) _ _).2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          isplitl [H19]; · iexact H19
          isplitl [H20]; · iexact H20
          isplitl [H21]; · iexact H21
          isplitl [H22]; · iexact H22
          isplitl [H23]; · iexact H23
          isplitl [H24]; · iexact H24
          isplitl [H25]; · iexists _; iexact H25
          isplitl [H26]; · iexists _; iexact H26
          isplitl [H27]; · iexists _; iexact H27
          isplitl [H28]; · iexists _; iexact H28
          isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          iintro ⟨H0, H1, H2, H3, H4, H5, H6, H7, H8, H9, H10, H11, H12, H13, H14, H15, H16, H17, H18, H19, H20, H21, H22, H23, H24, ⟨%e25, H25⟩, ⟨%e26, H26⟩, H27, H28, HS0, HS1, ⟨%fT2, HS2⟩, HS3, HS4, HS5, ⟨%fT6, HS6⟩⟩
          isplitl [HS0 HS1 HS2 HS3 HS4 HS5 HS6 Hg]
          · isplitl [HS0 HS1 HS2 HS3 HS4 HS5 HS6]
            · isplitl [HS0]
              · iexact HS0
              isplitl [HS1]
              · iexact HS1
              isplitl [HS2]
              · iexists _; unfold owns; iexists _; isplitr
                swap; · iexact HS2
                ipureintro; rfl
              isplitl [HS3]
              · iexact HS3
              isplitl [HS4]
              · iexact HS4
              isplitl [HS5]
              · iexact HS5
              iexists _; unfold owns; iexists _; isplitr
              swap; · iexact HS6
              ipureintro; rfl
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          isplitl [H19]; · iexact H19
          isplitl [H20]; · iexact H20
          isplitl [H21]; · iexact H21
          isplitl [H22]; · iexact H22
          isplitl [H23]; · iexact H23
          isplitl [H24]; · iexact H24
          isplitl [H25]
          · unfold owns; iexists _; isplitr
            swap; · iexact H25
            ipureintro; exact View.read_writes_of_cover _ _ _ _ _ (cover0_C_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H26]
          · unfold owns; iexists _; isplitr
            swap; · iexact H26
            ipureintro; exact View.read_writes_of_cover _ _ _ _ _ (cover0_C_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H27]; · iexact H27
          iexact H28
      · exfalso; omega

end Cert.KernelIdeal.Gen

end
-- ==== Proof.Main.lean ====
/- The whole program, from the body's obligation at every grid point. -/
module

public import proofs.«01_k».proof.Proof.Body
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6⟩, Hg⟩
  isplitl [HS0 HS1 HS2 HS3 HS4 HS5 HS6]
  · isplitl [HS0]
    · iexists _; iexact HS0
    isplitl [HS1]
    · iexists _; iexact HS1
    isplitl [HS2]
    · iexact HS2
    isplitl [HS3]
    · iexact HS3
    isplitl [HS4]
    · iexact HS4
    isplitl [HS5]
    · iexact HS5
    iexact HS6
  iexact Hg

theorem hout (c : Dev nD) : (dats m 0 c).Φ (Fin.last cfg0.N) ⊢ Pipeline.ΦA spec0 c :=
  Phi_out m c _ (by rw [Fin.val_last]; have : cfg0.N = 65 := N_0; omega)

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_ofR m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (unchanged m ρ) ((θ_run defs _ _).mono (fun _ h => h.2) (run_main_quiescent m ρ))

end Cert.KernelIdeal.Gen

end
-- ==== Proof.Blocks.lean ====
/- What the two output arrays hold at the end: the blocks the grid points wrote back. -/
module

public import proofs.«01_k».proof.Proof.Main
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem finalR_out0 (r : PUnit × MemSt nD τ sig (Elt F)) (h : Pipeline.RDat.FramePost (cfgs 0) (fun c => (dats m 0 c).toRForget forgets0) (V m) r) (c : Dev nD) (w : Fin 29) (hw : forgets0 w = false) :
    r.2.mem ((cfg0.spec w).arr.view.loc (c : Thread nD τ)) = (dats m 0 c).arrAt w cfg0.N :=
  ((dats m 0 c).toRForget_arrAt_iff hw _ _).mp ((h c).1 w)

theorem post25 (r : PUnit × MemSt nD τ sig (Elt F)) (h : Pipeline.RDat.FramePost (cfgs 0) (fun c => (dats m 0 c).toRForget forgets0) (V m) r) (c : Dev nD) :
    r.2.mem ((c : Thread nD τ).loc main_v21_0) = (dats m 0 c).arrAt 25 cfg0.N :=
  finalR_out0 m r h c 25 forgets0_25

theorem post26 (r : PUnit × MemSt nD τ sig (Elt F)) (h : Pipeline.RDat.FramePost (cfgs 0) (fun c => (dats m 0 c).toRForget forgets0) (V m) r) (c : Dev nD) :
    r.2.mem ((c : Thread nD τ).loc main_v21_1) = (dats m 0 c).arrAt 26 cfg0.N :=
  finalR_out0 m r h c 26 forgets0_26

theorem kept_main_arg0 (r : PUnit × MemSt nD τ sig (Elt F)) (h : Pipeline.RDat.FramePost (cfgs 0) (fun c => (dats m 0 c).toRForget forgets0) (V m) r) (c : Dev nD) :
    r.2.mem ((c : Thread nD τ).loc main_arg0) = m ((c : Thread nD τ).loc main_arg0) :=
  (Pipeline.RDat.FramePost.arr_in h c 1 rfl).trans ((A_eq m c 1).trans (V_main_arg0 m c))

theorem kept_main_arg1 (r : PUnit × MemSt nD τ sig (Elt F)) (h : Pipeline.RDat.FramePost (cfgs 0) (fun c => (dats m 0 c).toRForget forgets0) (V m) r) (c : Dev nD) :
    r.2.mem ((c : Thread nD τ).loc main_arg1) = m ((c : Thread nD τ).loc main_arg1) :=
  (Pipeline.RDat.FramePost.arr_in h c 7 rfl).trans ((A_eq m c 7).trans (V_main_arg1 m c))

theorem kept_main_arg2 (r : PUnit × MemSt nD τ sig (Elt F)) (h : Pipeline.RDat.FramePost (cfgs 0) (fun c => (dats m 0 c).toRForget forgets0) (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.RDat.FramePost (cfgs 0) (fun c => (dats m 0 c).toRForget forgets0) (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.RDat.FramePost (cfgs 0) (fun c => (dats m 0 c).toRForget forgets0) (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.RDat.FramePost (cfgs 0) (fun c => (dats m 0 c).toRForget forgets0) (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.RDat.FramePost (cfgs 0) (fun c => (dats m 0 c).toRForget forgets0) (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.RDat.FramePost (cfgs 0) (fun c => (dats m 0 c).toRForget forgets0) (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.RDat.FramePost (cfgs 0) (fun c => (dats m 0 c).toRForget forgets0) (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

theorem kept_main_arg9 (r : PUnit × MemSt nD τ sig (Elt F)) (h : Pipeline.RDat.FramePost (cfgs 0) (fun c => (dats m 0 c).toRForget forgets0) (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

theorem kept_main_arg10 (r : PUnit × MemSt nD τ sig (Elt F)) (h : Pipeline.RDat.FramePost (cfgs 0) (fun c => (dats m 0 c).toRForget forgets0) (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

theorem kept_main_arg11 (r : PUnit × MemSt nD τ sig (Elt F)) (h : Pipeline.RDat.FramePost (cfgs 0) (fun c => (dats m 0 c).toRForget forgets0) (V m) r) (c : Dev nD) :
    r.2.mem ((c : Thread nD τ).loc main_arg11) = m ((c : Thread nD τ).loc main_arg11) :=
  (Pipeline.RDat.FramePost.arr_in h c 19 rfl).trans ((A_eq m c 19).trans (V_main_arg11 m c))

theorem kept_main_arg12 (r : PUnit × MemSt nD τ sig (Elt F)) (h : Pipeline.RDat.FramePost (cfgs 0) (fun c => (dats m 0 c).toRForget forgets0) (V m) r) (c : Dev nD) :
    r.2.mem ((c : Thread nD τ).loc main_arg12) = m ((c : Thread nD τ).loc main_arg12) :=
  (Pipeline.RDat.FramePost.arr_in h c 20 rfl).trans ((A_eq m c 20).trans (V_main_arg12 m c))

theorem kept_main_arg13 (r : PUnit × MemSt nD τ sig (Elt F)) (h : Pipeline.RDat.FramePost (cfgs 0) (fun c => (dats m 0 c).toRForget forgets0) (V m) r) (c : Dev nD) :
    r.2.mem ((c : Thread nD τ).loc main_arg13) = m ((c : Thread nD τ).loc main_arg13) :=
  (Pipeline.RDat.FramePost.arr_in h c 21 rfl).trans ((A_eq m c 21).trans (V_main_arg13 m c))

theorem kept_main_arg14 (r : PUnit × MemSt nD τ sig (Elt F)) (h : Pipeline.RDat.FramePost (cfgs 0) (fun c => (dats m 0 c).toRForget forgets0) (V m) r) (c : Dev nD) :
    r.2.mem ((c : Thread nD τ).loc main_arg14) = m ((c : Thread nD τ).loc main_arg14) :=
  (Pipeline.RDat.FramePost.arr_in h c 22 rfl).trans ((A_eq m c 22).trans (V_main_arg14 m c))

theorem kept_main_arg15 (r : PUnit × MemSt nD τ sig (Elt F)) (h : Pipeline.RDat.FramePost (cfgs 0) (fun c => (dats m 0 c).toRForget forgets0) (V m) r) (c : Dev nD) :
    r.2.mem ((c : Thread nD τ).loc main_arg15) = m ((c : Thread nD τ).loc main_arg15) :=
  (Pipeline.RDat.FramePost.arr_in h c 23 rfl).trans ((A_eq m c 23).trans (V_main_arg15 m c))

theorem kept_main_arg16 (r : PUnit × MemSt nD τ sig (Elt F)) (h : Pipeline.RDat.FramePost (cfgs 0) (fun c => (dats m 0 c).toRForget forgets0) (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

theorem run_blocks : θ_run defs (onTc (τ := τ) (main (F := F))) ⟨m, fun _ => 0, ρ⟩ fun r => ∀ c : Dev nD,
      r.2.mem ((c : Thread nD τ).loc main_v21_0) = (dats m 0 c).arrAt 25 cfg0.N
      ∧ r.2.mem ((c : Thread nD τ).loc main_v21_1) = (dats m 0 c).arrAt 26 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨post25 m r h c,
      post26 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c⟩)
    (run_main m ρ)

end Cert.KernelIdeal.Value

end
-- ==== Proof.Same.lean ====
/- The two programs of the kernel have one text: their body tables are equal, so a run of the one at any float values is a run of
   the other. -/
module

public import proofs.«01_k».proof.Kernel
public import proofs.«01_k».proof.KernelIdeal
public import proofs.«01_k».proof.Proof.Gen.Kernel
public import proofs.«01_k».proof.Proof.Gen.KernelIdeal
public import Idealize.ShloMosaic.PureOps.BitExact

@[expose] public section

noncomputable section

namespace Cert.Same

open Idealize.ShloMosaic Idealize.SL.Sem

set_option maxHeartbeats 0 in
theorem tables : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => exact rfl
  | ⟨_ + 1, h⟩, _ => exact absurd h (Nat.not_lt.2 (Nat.le_add_left _ _))

set_option maxHeartbeats 0 in
theorem defs : Cert.Kernel.defs (F := Bits) = Cert.KernelIdeal.defs (F := Bits) :=
  congrArg (Pipeline.defs (Cert.KernelIdeal.pcfgs (F := Bits))) tables

end Cert.Same

end
-- ==== Proof.Pieces.lean ====
module
public import proofs.«01_k».proof.Proof.Gen.KernelIdeal.Skeleton
public import Idealize.ShloMosaic.Lib.Pipeline.Value
public import Idealize.ShloMosaic.Lib.Pipeline.FrameBody
public import Idealize.ShloMosaic.Lib.Pointwise
@[expose] public section
noncomputable section
namespace Cert.KernelIdeal.Tile
open Idealize.ShloMosaic Cert.KernelIdeal.Gen
variable {Val : EltTy → Type} {e : EltTy} [∀ e, Nonempty (Val e)]

/-- A head of the state. -/
def headOf (s : S4x128x256.Idx → Val e) (h : Fin 4) : S1x128x256.Idx → Val e := fun j => s (ix3 h (j 1) (j 2))

def heads4 (w0 w1 w2 w3 : S1x128x256.Idx → Val e) : S4x128x256.Idx → Val e := fun j =>
  (![w0, w1, w2, w3] (j 0)) (ix3 0 (j 1) (j 2))

def cols4 (w0 w1 w2 w3 : S256x256.Idx → Val e) : S256x1024.Idx → Val e := fun j =>
  (![w0, w1, w2, w3] ⟨(j 1).val / 256, by have : (j 1).val < 1024 := (j 1).isLt; omega⟩) (ix2 (j 0) ⟨(j 1).val % 256, Nat.mod_lt _ (by decide)⟩)

theorem not_mem_head {a : ℕ} {y : S4x128x256.Idx} (inb) (h : (y 0).val ≠ a) :
    y ∉ (Rect.unit (s := S4x128x256) ![a, 0, 0] ![1, 128, 256] inb).set := by
  rw [Rect.mem_set_unit]; intro hy; have := hy 0; simp at this; omega

theorem not_mem_col {a : ℕ} {y : S256x1024.Idx} (inb) (h : ¬ (a ≤ (y 1).val ∧ (y 1).val < a + 256)) :
    y ∉ (Rect.unit (s := S256x1024) ![0, a] ![256, 256] inb).set := by
  rw [Rect.mem_set_unit]; intro hy; exact h (hy 1)

theorem canon_head {a : ℕ} (inb) (w : S1x128x256.Idx → Val e) (L) (y : S4x128x256.Idx) (h : (y 0).val = a) :
    View.canon ((⟨Rect.unit (s := S4x128x256) ![a, 0, 0] ![1, 128, 256] inb, w⟩ : View.Piece Val S4x128x256 e) :: L) y = w (ix3 0 (y 1) (y 2)) := by
  have e : y = (Rect.unit (s := S4x128x256) ![a, 0, 0] ![1, 128, 256] inb).emb (ix3 0 (y 1) (y 2)) := by
    funext k; apply Fin.ext; rw [Rect.emb_apply]; fin_cases k
    · simp [h, ix3]
    · simp [ix3]
    · simp [ix3]
  conv_lhs => rw [e]
  exact View.canon_cons_emb _ _ _ _

theorem canon_col {a : ℕ} (inb) (w : S256x256.Idx → Val e) (L) (y : S256x1024.Idx) (h : a ≤ (y 1).val ∧ (y 1).val < a + 256) :
    View.canon ((⟨Rect.unit (s := S256x1024) ![0, a] ![256, 256] inb, w⟩ : View.Piece Val S256x1024 e) :: L) y
      = w (ix2 (y 0) ⟨(y 1).val - a, by omega⟩) := by
  have e : y = (Rect.unit (s := S256x1024) ![0, a] ![256, 256] inb).emb (ix2 (y 0) ⟨(y 1).val - a, by omega⟩) := by
    funext k; apply Fin.ext; rw [Rect.emb_apply]; fin_cases k
    · simp [ix2]
    · simp [ix2]; omega
  conv_lhs => rw [e]
  exact View.canon_cons_emb _ _ _ _

theorem skip_head {a : ℕ} (inb) (w : S1x128x256.Idx → Val e) (L) (y : S4x128x256.Idx) (h : (y 0).val ≠ a) :
    View.canon ((⟨Rect.unit (s := S4x128x256) ![a, 0, 0] ![1, 128, 256] inb, w⟩ : View.Piece Val S4x128x256 e) :: L) y = View.canon L y :=
  View.canon_cons_of_not_mem _ _ (not_mem_head inb h)

theorem skip_col {a : ℕ} (inb) (w : S256x256.Idx → Val e) (L) (y : S256x1024.Idx) (h : ¬ (a ≤ (y 1).val ∧ (y 1).val < a + 256)) :
    View.canon ((⟨Rect.unit (s := S256x1024) ![0, a] ![256, 256] inb, w⟩ : View.Piece Val S256x1024 e) :: L) y = View.canon L y :=
  View.canon_cons_of_not_mem _ _ (not_mem_col inb h)

theorem canon_heads (w0 w1 w2 w3 : S1x128x256.Idx → Val e) (L) :
    View.canon ((⟨Rect.unit (s := S4x128x256) ![3, 0, 0] ![1, 128, 256] inb_S4x128x256_S1x128x256_3_0_0, w3⟩ : View.Piece Val S4x128x256 e) ::
      ⟨Rect.unit ![2, 0, 0] ![1, 128, 256] inb_S4x128x256_S1x128x256_2_0_0, w2⟩ ::
      ⟨Rect.unit ![1, 0, 0] ![1, 128, 256] inb_S4x128x256_S1x128x256_1_0_0, w1⟩ ::
      ⟨Rect.unit ![0, 0, 0] ![1, 128, 256] inb_S4x128x256_S1x128x256_0_0_0, w0⟩ :: L) = heads4 w0 w1 w2 w3 := by
  funext y
  have hy : (y 0).val < 4 := (y 0).isLt
  have key : ∀ n : Fin 4, (y 0).val = n.val → (![w0, w1, w2, w3] n) (ix3 0 (y 1) (y 2)) = heads4 w0 w1 w2 w3 y := by
    intro n h
    have h1 : y 0 = n := Fin.ext h
    unfold heads4; rw [h1]
  by_cases h3 : (y 0).val = 3
  · rw [canon_head _ _ _ _ h3]; exact key ⟨3, by decide⟩ h3
  rw [skip_head _ _ _ _ h3]
  by_cases h2 : (y 0).val = 2
  · rw [canon_head _ _ _ _ h2]; exact key ⟨2, by decide⟩ h2
  rw [skip_head _ _ _ _ h2]
  by_cases h1 : (y 0).val = 1
  · rw [canon_head _ _ _ _ h1]; exact key ⟨1, by decide⟩ h1
  rw [skip_head _ _ _ _ h1]
  have h0 : (y 0).val = 0 := by omega
  rw [canon_head _ _ _ _ h0]; exact key ⟨0, by decide⟩ h0

theorem canon_cols (w0 w1 w2 w3 : S256x256.Idx → Val e) (L) :
    View.canon ((⟨Rect.unit (s := S256x1024) ![0, 768] ![256, 256] inb_S256x1024_S256x256_0_768, w3⟩ : View.Piece Val S256x1024 e) ::
      ⟨Rect.unit ![0, 512] ![256, 256] inb_S256x1024_S256x256_0_512, w2⟩ ::
      ⟨Rect.unit ![0, 256] ![256, 256] inb_S256x1024_S256x256_0_256, w1⟩ ::
      ⟨Rect.unit ![0, 0] ![256, 256] inb_S256x1024_S256x256_0_0, w0⟩ :: L) = cols4 w0 w1 w2 w3 := by
  funext y
  have hy : (y 1).val < 1024 := (y 1).isLt
  have key : ∀ (n : Fin 4) (a : ℕ) (ha : a = 256 * n.val) (h : a ≤ (y 1).val ∧ (y 1).val < a + 256) ,
      (![w0, w1, w2, w3] n) (ix2 (y 0) ⟨(y 1).val - a, by omega⟩) = cols4 w0 w1 w2 w3 y := by
    intro n a ha h
    have h1 : (⟨(y 1).val / 256, by omega⟩ : Fin 4) = n := Fin.ext (by simp; omega)
    have h2 : (⟨(y 1).val - a, by omega⟩ : Fin 256) = ⟨(y 1).val % 256, Nat.mod_lt _ (by decide)⟩ := Fin.ext (by simp; omega)
    unfold cols4; rw [h1, h2]
  by_cases h3 : 768 ≤ (y 1).val
  · rw [canon_col _ _ _ _ (by omega)]; exact key ⟨3, by decide⟩ 768 rfl (by omega)
  rw [skip_col _ _ _ _ (by omega)]
  by_cases h2 : 512 ≤ (y 1).val
  · rw [canon_col _ _ _ _ (by omega)]; exact key ⟨2, by decide⟩ 512 rfl (by omega)
  rw [skip_col _ _ _ _ (by omega)]
  by_cases h1 : 256 ≤ (y 1).val
  · rw [canon_col _ _ _ _ (by omega)]; exact key ⟨1, by decide⟩ 256 rfl (by omega)
  rw [skip_col _ _ _ _ (by omega)]
  rw [canon_col _ _ _ _ (by omega)]; exact key ⟨0, by decide⟩ 0 rfl (by omega)

omit [∀ e, Nonempty (Val e)] in
theorem ld_head {h : Fin 4} (inb) (s : S4x128x256.Idx → Val e) :
    View.ld s (Rect.unit (s := S4x128x256) ![h.val, 0, 0] ![1, 128, 256] inb) = headOf s h := by
  funext j
  refine congrArg s ?_
  have h0 : (j 0).val = 0 := by have := (j 0).isLt; simp at this; omega
  funext k; apply Fin.ext; fin_cases k
  · simp [ix3, h0]
  · simp [ix3]
  · simp [ix3]

theorem readCov_skip {sig : RefSig} {κ : Kind} {sp : Space} (v : View sig κ sp S4x128x256 e) {a b : ℕ} (hab : a ≠ b)
    (ia ib) (w : S1x128x256.Idx → Val e) (L) :
    v.readCov ((⟨Rect.unit (s := S4x128x256) ![a, 0, 0] ![1, 128, 256] ia, w⟩ : View.Piece Val S4x128x256 e) :: L)
      (Rect.unit (s := S4x128x256) ![b, 0, 0] ![1, 128, 256] ib).toLoadRect
    = v.readCov L (Rect.unit (s := S4x128x256) ![b, 0, 0] ![1, 128, 256] ib).toLoadRect := by
  rw [View.readCov_eq_canon', View.readCov_eq_canon']
  funext j
  refine View.canon_cons_of_not_mem _ _ (not_mem_head ia ?_)
  have h0 : (j 0).val < 1 := (j 0).isLt
  show b + 1 * (j 0).val ≠ a
  omega

theorem readCov_fill {sig : RefSig} {κ : Kind} {sp : Space} (v : View sig κ sp S4x128x256 e) {b : ℕ} (ia)
    (ib) (w : S4x128x256.Idx → Val e) (L) :
    v.readCov ((⟨Rect.unit (s := S4x128x256) ![0, 0, 0] ![4, 128, 256] ia, w⟩ : View.Piece Val S4x128x256 e) :: L)
      (Rect.unit (s := S4x128x256) ![b, 0, 0] ![1, 128, 256] ib).toLoadRect
    = View.ld w (Rect.unit (s := S4x128x256) ![b, 0, 0] ![1, 128, 256] ib) := by
  rw [View.readCov_eq_canon']
  rw [View.canon_cons_unit_zero (S := S4x128x256) (by funext k; fin_cases k <;> rfl) ia w L]

theorem readCov_full {sig : RefSig} {κ : Kind} {sp : Space} (v : View sig κ sp S256x1024 e) (inb)
    (w : S256x1024.Idx → Val e) (L) :
    v.readCov ((⟨Rect.unit (s := S256x1024) ![0, 0] ![256, 1024] inb, w⟩ : View.Piece Val S256x1024 e) :: L)
      (Rect.unit (s := S256x1024) ![0, 0] ![256, 1024] inb).toLoadRect = w :=
  View.readCov_cons_toLoadRect _ _ _ _

theorem canon_full (w : S256x1024.Idx → Val e) (L) (inb) :
    View.canon ((⟨Rect.unit (s := S256x1024) ![0, 0] ![256, 1024] inb, w⟩ : View.Piece Val S256x1024 e) :: L) = w :=
  View.canon_cons_unit_zero (S := S256x1024) (by funext k; fin_cases k <;> rfl) inb w L

theorem canon_full3 (w : S4x128x256.Idx → Val e) (L) (inb) :
    View.canon ((⟨Rect.unit (s := S4x128x256) ![0, 0, 0] ![4, 128, 256] inb, w⟩ : View.Piece Val S4x128x256 e) :: L) = w :=
  View.canon_cons_unit_zero (S := S4x128x256) (by funext k; fin_cases k <;> rfl) inb w L

omit [∀ e, Nonempty (Val e)] in
theorem ldA (X : S256x1024.Idx → Val e) (inb) : View.ld X (Rect.unit (s := S256x1024) ![0, 0] ![256, 1024] inb) = X :=
  View.ld_unit_zero (S := S256x1024) (by funext k; fin_cases k <;> rfl) inb X
omit [∀ e, Nonempty (Val e)] in
theorem ldB (X : S128x512.Idx → Val e) (inb) : View.ld X (Rect.unit (s := S128x512) ![0, 0] ![128, 512] inb) = X :=
  View.ld_unit_zero (S := S128x512) (by funext k; fin_cases k <;> rfl) inb X
omit [∀ e, Nonempty (Val e)] in
theorem ldC (X : S1x512.Idx → Val e) (inb) : View.ld X (Rect.unit (s := S1x512) ![0, 0] ![1, 512] inb) = X :=
  View.ld_unit_zero (S := S1x512) (by funext k; fin_cases k <;> rfl) inb X
omit [∀ e, Nonempty (Val e)] in
theorem ldD (X : S1x256.Idx → Val e) (inb) : View.ld X (Rect.unit (s := S1x256) ![0, 0] ![1, 256] inb) = X :=
  View.ld_unit_zero (S := S1x256) (by funext k; fin_cases k <;> rfl) inb X
omit [∀ e, Nonempty (Val e)] in
theorem ldE (X : S1024x1024.Idx → Val e) (inb) : View.ld X (Rect.unit (s := S1024x1024) ![0, 0] ![1024, 1024] inb) = X :=
  View.ld_unit_zero (S := S1024x1024) (by funext k; fin_cases k <;> rfl) inb X
omit [∀ e, Nonempty (Val e)] in
theorem ldF (X : S1x1x1024.Idx → Val e) (inb) : View.ld X (Rect.unit (s := S1x1x1024) ![0, 0, 0] ![1, 1, 1024] inb) = X :=
  View.ld_unit_zero (S := S1x1x1024) (by funext k; fin_cases k <;> rfl) inb X
omit [∀ e, Nonempty (Val e)] in
theorem ldG (X : S4x128x256.Idx → Val e) (inb) : View.ld X (Rect.unit (s := S4x128x256) ![0, 0, 0] ![4, 128, 256] inb) = X :=
  View.ld_unit_zero (S := S4x128x256) (by funext k; fin_cases k <;> rfl) inb X

omit [∀ e, Nonempty (Val e)] in
theorem ld_head0 (s : S4x128x256.Idx → Val e) : View.ld s (Rect.unit (s := S4x128x256) ![0, 0, 0] ![1, 128, 256]
    inb_S4x128x256_S1x128x256_0_0_0) = headOf s 0 := ld_head (h := 0) _ s
omit [∀ e, Nonempty (Val e)] in
theorem ld_head1 (s : S4x128x256.Idx → Val e) : View.ld s (Rect.unit (s := S4x128x256) ![1, 0, 0] ![1, 128, 256]
    inb_S4x128x256_S1x128x256_1_0_0) = headOf s 1 := ld_head (h := 1) _ s
omit [∀ e, Nonempty (Val e)] in
theorem ld_head2 (s : S4x128x256.Idx → Val e) : View.ld s (Rect.unit (s := S4x128x256) ![2, 0, 0] ![1, 128, 256]
    inb_S4x128x256_S1x128x256_2_0_0) = headOf s 2 := ld_head (h := 2) _ s
omit [∀ e, Nonempty (Val e)] in
theorem ld_head3 (s : S4x128x256.Idx → Val e) : View.ld s (Rect.unit (s := S4x128x256) ![3, 0, 0] ![1, 128, 256]
    inb_S4x128x256_S1x128x256_3_0_0) = headOf s 3 := ld_head (h := 3) _ s

end Cert.KernelIdeal.Tile
end
end
-- ==== Proof.Tile.lean ====
/- One tile of the layer as a few vector functions: the projections, the decays inside the tile, one head's attention
   and state, the gated output, and the layer's tail on the tile before. Both of the body's copies are read as these. -/
module

public import proofs.«01_k».proof.Proof.Gen.KernelIdeal.Skeleton
public import proofs.«01_k».proof.Proof.Pieces

@[expose] public section

noncomputable section

namespace Cert.KernelIdeal.Tile

open Idealize.ShloMosaic Cert.KernelIdeal.Gen

variable {F : FTy → Type} [FloatOps F]

/-! ## Projections -/

/-- The normed input scaled and shifted. -/
def hin (x : Vec F S256x1024 .f32) (sh sc : Vec F S1x1x1024 .f32) : FVec F S256x1024 .bf16 :=
  truncf .bf16 (addf (mulf x (broadcastTo S256x1024 (addf (broadcast S1x1024 (Scalar.ofBits .f32 0x3F800000#32))
    (shapeCast S1x1024 sc shapeCasts_S1x1x1024_S1x1024)) broadcasts_S1x1024_S256x1024))
    (broadcastTo S256x1024 (shapeCast S1x1024 sh shapeCasts_S1x1x1024_S1x1024) broadcasts_S1x1024_S256x1024)) bitsLt_bf16_f32

def proj5 (h : FVec F S256x1024 .bf16) (w : Vec F S512x1024 .bf16) : FVec F S256x512 .f32 :=
  matmul dot_S256x1024_S512x1024_S256x512_1_1_0_0_n_n none h (shapeCast S512x1024 w shapeCasts_S512x1024_S512x1024)
    (constant S256x512 .f32 0x00000000#32)

def qv (h : FVec F S256x1024 .bf16) (w : Vec F S512x1024 .bf16) : FVec F S256x512 .f32 :=
  mulf (proj5 h w) (broadcast S256x512 (Scalar.ofBits .f32 0x3DB504F3#32))

def proj10 (h : FVec F S256x1024 .bf16) (w : Vec F S1024x1024 .bf16) : FVec F S256x1024 .bf16 :=
  truncf .bf16 (matmul dot_S256x1024_S1024x1024_S256x1024_1_1_0_0_n_n none h
    (shapeCast S1024x1024 w shapeCasts_S1024x1024_S1024x1024) (constant S256x1024 .f32 0x00000000#32)) bitsLt_bf16_f32

/-- The gate's argument. -/
def prev (h : FVec F S256x1024 .bf16) (w : Vec F S128x1024 .bf16) (wu : Vec F S128x512 .bf16) (bg : Vec F S1x512 .f32) :
    FVec F S256x512 .f32 :=
  addf (matmul dot_S256x128_S128x512_S256x512_1_0_0_1_n_n none
      (truncf .bf16 (matmul dot_S256x1024_S128x1024_S256x128_1_1_0_0_n_n none h
        (shapeCast S128x1024 w shapeCasts_S128x1024_S128x1024) (constant S256x128 .f32 0x00000000#32)) bitsLt_bf16_f32)
      (shapeCast S128x512 wu shapeCasts_S128x512_S128x512) (constant S256x512 .f32 0x00000000#32))
    (broadcastTo S256x512 (shapeCast S1x512 bg shapeCasts_S1x512_S1x512) broadcasts_S1x512_S256x512)

/-- The log of the decay: a sixteenth of the log of the logistic function. -/
def lgv (p : FVec F S256x512 .f32) : FVec F S256x512 .f32 :=
  divf (subf (minimumf p (broadcast S256x512 (Scalar.ofBits .f32 0x00000000#32)))
      (log1p (exp (subf (broadcast S256x512 (Scalar.ofBits .f32 0x00000000#32)) (absf p)))))
    (broadcast S256x512 (Scalar.ofBits .f32 0x41800000#32))

/-! ## The decays inside the tile -/

/-- Whether a column is in the row's chunk and not after it. -/
def mask : IVec S256x256 1 :=
  k0_pay129 (iota .tc S256x256 32 [0] iota_S256x256_d0_w32) (iota .tc S256x256 32 [1] iota_S256x256_d1_w32)
    (k0_pay126 (iota .tc S256x256 32 [0] iota_S256x256_d0_w32)) k0_pay127 k0_pay128 1#32

/-- The chunk of a column. -/
def chunkOf : IVec S128x256 32 := k0_pay141 (iota .tc S128x256 32 [1] iota_S128x256_d1_w32) 64#32 k0_pay139 k0_pay140

/-- The sum of the logs over the chunk up to the row. -/
def bv (lg : FVec F S256x512 .f32) : FVec F S256x512 .f32 :=
  addf
    (matmul dot_S256x256_S256x512_S256x512_1_0_0_1_n_n none
      (truncf .bf16 (select mask (broadcast S256x256 (Scalar.ofBits .f32 0x3F800000#32))
        (broadcast S256x256 (Scalar.ofBits .f32 0x00000000#32))) bitsLt_bf16_f32)
      (truncf .bf16 lg bitsLt_bf16_f32) (constant S256x512 .f32 0x00000000#32))
    (matmul dot_S256x256_S256x512_S256x512_1_0_0_1_n_n none
      (truncf .bf16 (select mask (broadcast S256x256 (Scalar.ofBits .f32 0x3F800000#32))
        (broadcast S256x256 (Scalar.ofBits .f32 0x00000000#32))) bitsLt_bf16_f32)
      (truncf .bf16 (subf lg (extf .f32 (truncf .bf16 lg bitsLt_bf16_f32) bitsLt_bf16_f32)) bitsLt_bf16_f32)
      (constant S256x512 .f32 0x00000000#32))

def qdv (q b : FVec F S256x512 .f32) : FVec F S256x512 .bf16 := truncf .bf16 (mulf q (exp b)) bitsLt_bf16_f32

def kdv (k b : FVec F S256x512 .f32) : FVec F S256x512 .bf16 :=
  truncf .bf16 (mulf k (exp (subf (broadcast S256x512 (Scalar.ofBits .f32 0x00000000#32)) b))) bitsLt_bf16_f32

/-- The sum over the whole chunk, at each of its rows. -/
def endsv (b : FVec F S256x512 .f32) : FVec F S256x512 .f32 :=
  concatenate S256x512 0 [
    ⟨S64x512, broadcastTo S64x512 (shapeCast S1x512 (extractStridedSlice S1x512 ![63, 0] b slices_S256x512_o63_0_S1x512) shapeCasts_S1x512_S1x512) broadcasts_S1x512_S64x512⟩,
    ⟨S64x512, broadcastTo S64x512 (shapeCast S1x512 (extractStridedSlice S1x512 ![127, 0] b slices_S256x512_o127_0_S1x512) shapeCasts_S1x512_S1x512) broadcasts_S1x512_S64x512⟩,
    ⟨S64x512, broadcastTo S64x512 (shapeCast S1x512 (extractStridedSlice S1x512 ![191, 0] b slices_S256x512_o191_0_S1x512) shapeCasts_S1x512_S1x512) broadcasts_S1x512_S64x512⟩,
    ⟨S64x512, broadcastTo S64x512 (shapeCast S1x512 (extractStridedSlice S1x512 ![255, 0] b slices_S256x512_o255_0_S1x512) shapeCasts_S1x512_S1x512) broadcasts_S1x512_S64x512⟩]
    concatenates_S64x512_S64x512_S64x512_S64x512_S256x512_d0

def kdecv (k b : FVec F S256x512 .f32) : FVec F S256x512 .f32 := mulf k (exp (subf (endsv b) b))

/-- The decay over each whole chunk, one row per chunk. -/
def decv (b : FVec F S256x512 .f32) : FVec F S128x512 .f32 :=
  concatenate S128x512 0 [
    ⟨S1x512, exp (extractStridedSlice S1x512 ![63, 0] b slices_S256x512_o63_0_S1x512)⟩,
    ⟨S1x512, exp (extractStridedSlice S1x512 ![127, 0] b slices_S256x512_o127_0_S1x512)⟩,
    ⟨S1x512, exp (extractStridedSlice S1x512 ![191, 0] b slices_S256x512_o191_0_S1x512)⟩,
    ⟨S1x512, exp (extractStridedSlice S1x512 ![255, 0] b slices_S256x512_o255_0_S1x512)⟩,
    ⟨S124x512, broadcast S124x512 (Scalar.ofBits .f32 0x00000000#32)⟩]
    concatenates_S1x512_S1x512_S1x512_S1x512_S124x512_S128x512_d0

/-! ## One head -/

/-- Where a head's columns lie: `ko` among the keys' and `vo` among the values'. -/
structure HeadAt (ko vo : ℕ) : Prop where
  k : S256x512.Slices ![0, ko] S256x128
  k0 : S256x512.Slices ![0, ko] S64x128
  k1 : S256x512.Slices ![64, ko] S64x128
  k2 : S256x512.Slices ![128, ko] S64x128
  k3 : S256x512.Slices ![192, ko] S64x128
  d : S128x512.Slices ![0, ko] S128x128
  v : S256x1024.Slices ![0, vo] S256x256

theorem head0 : HeadAt 0 0 := ⟨slices_S256x512_o0_0_S256x128, by decide, by decide, by decide, by decide, by decide, by decide⟩
theorem head1 : HeadAt 128 256 := ⟨slices_S256x512_o0_128_S256x128, by decide, by decide, by decide, by decide, by decide, by decide⟩
theorem head2 : HeadAt 256 512 := ⟨slices_S256x512_o0_256_S256x128, by decide, by decide, by decide, by decide, by decide, by decide⟩
theorem head3 : HeadAt 384 768 := ⟨slices_S256x512_o0_384_S256x128, by decide, by decide, by decide, by decide, by decide, by decide⟩

section
variable {ko vo : ℕ} (H : HeadAt ko vo)
include H

/-- The attention inside the chunks. -/
def intra (qd kd : FVec F S256x512 .bf16) (v : FVec F S256x1024 .bf16) : FVec F S256x256 .f32 :=
  matmul dot_S256x256_S256x256_S256x256_1_0_0_1_n_n none
    (truncf .bf16 (select mask
      (matmul dot_S256x128_S256x128_S256x256_1_1_0_0_n_n none (extractStridedSlice S256x128 ![0, ko] qd H.k)
        (extractStridedSlice S256x128 ![0, ko] kd H.k) (constant S256x256 .f32 0x00000000#32))
      (broadcast S256x256 (Scalar.ofBits .f32 0x00000000#32))) bitsLt_bf16_f32)
    (extractStridedSlice S256x256 ![0, vo] v H.v) (constant S256x256 .f32 0x00000000#32)

def kT (kdec : FVec F S256x512 .f32) : FVec F S128x256 .bf16 :=
  truncf .bf16 (transpose S128x256 [1, 0] (extractStridedSlice S256x128 ![0, ko] kdec H.k) transposes_S256x128_p1_0_S128x256) bitsLt_bf16_f32

def kTc (kdec : FVec F S256x512 .f32) (n : BitVec 32) : FVec F S128x256 .bf16 :=
  select (cmpi .eq chunkOf (broadcast S128x256 n)) (kT H kdec) (broadcast S128x256 (Scalar.ofBits .bf16 0x0000#16))

/-- What each chunk adds to the state, one chunk below another. -/
def upd (kdec : FVec F S256x512 .f32) (v : FVec F S256x1024 .bf16) : FVec F S512x256 .f32 :=
  matmul dot_S512x256_S256x256_S512x256_1_0_0_1_n_n none
    (concatenate S512x256 0 [⟨S128x256, kTc H kdec 0#32⟩, ⟨S128x256, kTc H kdec 1#32⟩, ⟨S128x256, kTc H kdec 2#32⟩,
      ⟨S128x256, kTc H kdec 3#32⟩] concatenates_S128x256_S128x256_S128x256_S128x256_S512x256_d0)
    (extractStridedSlice S256x256 ![0, vo] v H.v) (constant S512x256 .f32 0x00000000#32)

def decT (dec : FVec F S128x512 .f32) : FVec F S128x128 .f32 :=
  transpose S128x128 [1, 0] (extractStridedSlice S128x128 ![0, ko] dec H.d) transposes_S128x128_p1_0_S128x128
end

/-- The state after one chunk. -/
def stepv (dt : FVec F S128x128 .f32) (u : FVec F S512x256 .f32) (s : FVec F S128x256 .f32) (n uo : ℕ)
    (hn : S128x128.Slices ![0, n] S128x1) (hu : S512x256.Slices ![uo, 0] S128x256) : FVec F S128x256 .f32 :=
  addf (mulf (broadcastTo S128x256 (extractStridedSlice S128x1 ![0, n] dt hn) broadcasts_S128x1_S128x256) s)
    (extractStridedSlice S128x256 ![uo, 0] u hu)

/-- What a state adds to a chunk's output. -/
def inter (qd : FVec F S256x512 .bf16) (s : FVec F S128x256 .f32) (ro ko : ℕ) (h : S256x512.Slices ![ro, ko] S64x128) : FVec F S64x256 .f32 :=
  matmul dot_S64x128_S128x256_S64x256_1_0_0_1_n_n none (extractStridedSlice S64x128 ![ro, ko] qd h)
    (truncf .bf16 s bitsLt_bf16_f32) (constant S64x256 .f32 0x00000000#32)

def st0 (s : Vec F S1x128x256 .f32) : FVec F S128x256 .f32 := shapeCast S128x256 s shapeCasts_S1x128x256_S128x256
def st1 (dt : FVec F S128x128 .f32) (u : FVec F S512x256 .f32) (s : FVec F S128x256 .f32) :=
  stepv dt u s 0 0 slices_S128x128_o0_0_S128x1 slices_S512x256_o0_0_S128x256
def st2 (dt : FVec F S128x128 .f32) (u : FVec F S512x256 .f32) (s : FVec F S128x256 .f32) :=
  stepv dt u (st1 dt u s) 1 128 slices_S128x128_o0_1_S128x1 slices_S512x256_o128_0_S128x256
def st3 (dt : FVec F S128x128 .f32) (u : FVec F S512x256 .f32) (s : FVec F S128x256 .f32) :=
  stepv dt u (st2 dt u s) 2 256 slices_S128x128_o0_2_S128x1 slices_S512x256_o256_0_S128x256
def st4 (dt : FVec F S128x128 .f32) (u : FVec F S512x256 .f32) (s : FVec F S128x256 .f32) :=
  stepv dt u (st3 dt u s) 3 384 slices_S128x128_o0_3_S128x1 slices_S512x256_o384_0_S128x256

section
variable {ko vo : ℕ} (H : HeadAt ko vo)
include H

/-- A head's output before its norm. -/
def outv (qd kd : FVec F S256x512 .bf16) (v : FVec F S256x1024 .bf16) (dt : FVec F S128x128 .f32) (u : FVec F S512x256 .f32)
    (s : FVec F S128x256 .f32) : FVec F S256x256 .f32 :=
  addf (intra H qd kd v)
    (concatenate S256x256 0 [⟨S64x256, inter qd s 0 ko H.k0⟩, ⟨S64x256, inter qd (st1 dt u s) 64 ko H.k1⟩,
      ⟨S64x256, inter qd (st2 dt u s) 128 ko H.k2⟩, ⟨S64x256, inter qd (st3 dt u s) 192 ko H.k3⟩]
      concatenates_S64x256_S64x256_S64x256_S64x256_S256x256_d0)

/-- The head's output normed, scaled and gated. -/
def gatedv (o : FVec F S256x256 .f32) (r : FVec F S256x1024 .bf16) (ng : Vec F S1x256 .f32) : FVec F S256x256 .bf16 :=
  shapeCast S256x256 (truncf .bf16 (mulf
    (mulf (mulf o (broadcastTo S256x256 (rsqrt (addf (divf (shapeCast S256x1
        (multiReduction .add [1] S256 (mulf o o) 0x00000000#32 reduces_S256x256_S256 (.inl rfl) rfl) shapeCasts_S256_S256x1)
        (broadcast S256x1 (Scalar.ofBits .f32 0x43800000#32))) (broadcast S256x1 (Scalar.ofBits .f32 0x3727C5AC#32))))
        broadcasts_S256x1_S256x256))
      (broadcastTo S256x256 (shapeCast S1x256 ng shapeCasts_S1x256_S1x256) broadcasts_S1x256_S256x256))
    (mulf (extf .f32 (extractStridedSlice S256x256 ![0, vo] r H.v) bitsLt_bf16_f32)
      (logistic (extf .f32 (extractStridedSlice S256x256 ![0, vo] r H.v) bitsLt_bf16_f32)))) bitsLt_bf16_f32) shapeCasts_S256x256_S256x256
end

/-! ## A head of a tile, from what the tile reads -/

section
variable {ko vo : ℕ} (H : HeadAt ko vo) (x : Vec F S256x1024 .f32) (sh sc : Vec F S1x1x1024 .f32) (wq wk : Vec F S512x1024 .bf16)
  (wv wr : Vec F S1024x1024 .bf16) (wg : Vec F S128x1024 .bf16) (wu : Vec F S128x512 .bf16) (bg : Vec F S1x512 .f32) (ng : Vec F S1x256 .f32)
include H

def tB : FVec F S256x512 .f32 := bv (lgv (prev (hin x sh sc) wg wu bg))

def tileState (s : Vec F S1x128x256 .f32) : FVec F S1x128x256 .f32 :=
  shapeCast S1x128x256 (st4 (decT H (decv (tB x sh sc wg wu bg)))
    (upd H (kdecv (proj5 (hin x sh sc) wk) (tB x sh sc wg wu bg)) (proj10 (hin x sh sc) wv)) (st0 s)) shapeCasts_S128x256_S1x128x256

def tileOut (s : Vec F S1x128x256 .f32) : FVec F S256x256 .bf16 :=
  gatedv H (outv H (qdv (qv (hin x sh sc) wq) (tB x sh sc wg wu bg)) (kdv (proj5 (hin x sh sc) wk) (tB x sh sc wg wu bg))
    (proj10 (hin x sh sc) wv) (decT H (decv (tB x sh sc wg wu bg)))
    (upd H (kdecv (proj5 (hin x sh sc) wk) (tB x sh sc wg wu bg)) (proj10 (hin x sh sc) wv)) (st0 s)) (proj10 (hin x sh sc) wr) ng
end

/-! ## The tail of the layer -/

/-- A residual and its layer norm. -/
def resln (x : FVec F S256x1024 .f32) (g : Vec F S1x1x1024 .f32) (y : FVec F S256x1024 .f32) (w b : Vec F S1x1x1024 .f32) : FVec F S256x1024 .f32 :=
  let z := addf (mulf (broadcast S256x1024 (Scalar.ofBits .f32 0x3FB504F3#32)) x)
    (mulf (broadcastTo S256x1024 (shapeCast S1x1024 g shapeCasts_S1x1x1024_S1x1024) broadcasts_S1x1024_S256x1024) y)
  let d := subf z (broadcastTo S256x1024 (divf (shapeCast S256x1 (multiReduction .add [1] S256 z 0x00000000#32 reduces_S256x1024_S256 (.inl rfl) rfl)
    shapeCasts_S256_S256x1) (broadcast S256x1 (Scalar.ofBits .f32 0x44800000#32))) broadcasts_S256x1_S256x1024)
  addf (mulf (mulf d (broadcastTo S256x1024 (rsqrt (addf (divf (shapeCast S256x1
      (multiReduction .add [1] S256 (mulf d d) 0x00000000#32 reduces_S256x1024_S256 (.inl rfl) rfl) shapeCasts_S256_S256x1)
      (broadcast S256x1 (Scalar.ofBits .f32 0x44800000#32))) (broadcast S256x1 (Scalar.ofBits .f32 0x3727C5AC#32)))) broadcasts_S256x1_S256x1024))
    (broadcastTo S256x1024 (shapeCast S1x1024 w shapeCasts_S1x1x1024_S1x1024) broadcasts_S1x1024_S256x1024))
    (broadcastTo S256x1024 (shapeCast S1x1024 b shapeCasts_S1x1x1024_S1x1024) broadcasts_S1x1024_S256x1024)

/-- The product of a tile's rows with a matrix. -/
def mul10 (h : FVec F S256x1024 .bf16) (w : Vec F S1024x1024 .bf16) : FVec F S256x1024 .f32 :=
  matmul dot_S256x1024_S1024x1024_S256x1024_1_0_0_1_n_n none h (shapeCast S1024x1024 w shapeCasts_S1024x1024_S1024x1024)
    (constant S256x1024 .f32 0x00000000#32)

/-- One part of the perceptron's hidden columns. -/
def mlpPart (h : FVec F S256x1024 .bf16) (w1 w2 : Vec F S1024x1024 .bf16) : FVec F S256x1024 .f32 :=
  mul10 (truncf .bf16 (mulf (maximumf (mul10 h w1) (broadcast S256x1024 (Scalar.ofBits .f32 0x00000000#32)))
    (maximumf (mul10 h w1) (broadcast S256x1024 (Scalar.ofBits .f32 0x00000000#32)))) bitsLt_bf16_f32) w2

def x1v (x : Vec F S256x1024 .f32) (g : Vec F S1x1x1024 .f32) (o : Vec F S256x1024 .bf16) (wo : Vec F S1024x1024 .bf16)
    (w b : Vec F S1x1x1024 .f32) : FVec F S256x1024 .f32 := resln x g (mul10 o wo) w b

def cast10 {φ : FTy} (x : FVec F S256x1024 φ) : FVec F S256x1024 φ := shapeCast S256x1024 x shapeCasts_S256x1024_S256x1024

def mlpIn (x1 : FVec F S256x1024 .f32) (sh sc : Vec F S1x1x1024 .f32) : FVec F S256x1024 .bf16 := cast10 (hin x1 sh sc)

def accv (h : FVec F S256x1024 .bf16) (a0 a1 a2 a3 b0 b1 b2 b3 : Vec F S1024x1024 .bf16) : FVec F S256x1024 .f32 :=
  cast10 (addf (cast10 (addf (cast10 (addf (cast10 (mlpPart h a0 b0)) (mlpPart h a1 b1))) (mlpPart h a2 b2))) (mlpPart h a3 b3))

/-- The layer's result on a tile. -/
def tailv (x : Vec F S256x1024 .f32) (g : Vec F S1x1x1024 .f32) (o : Vec F S256x1024 .bf16) (wo : Vec F S1024x1024 .bf16)
    (w b : Vec F S1x1x1024 .f32) (sh sc g2 : Vec F S1x1x1024 .f32) (a0 a1 a2 a3 b0 b1 b2 b3 : Vec F S1024x1024 .bf16)
    (w' b' : Vec F S1x1x1024 .f32) : FVec F S256x1024 .f32 :=
  resln (x1v x g o wo w b) g2 (accv (mlpIn (x1v x g o wo w b) sh sc) a0 a1 a2 a3 b0 b1 b2 b3) w' b'

/-! ## A grid point's results, from its windows' blocks -/

/-- The first row of an eight-row block. -/
def row8 (x : Vec F S1x8x1024 .f32) : Vec F S1x1x1024 .f32 := View.ld x (Rect.unit ![0, 0, 0] ![1, 1, 1024] inb_S1x8x1024_S1x1x1024_0_0_0)

def tileS (x : Vec F S256x1024 .f32) (sh sc : Vec F S1x8x1024 .f32) (w : Vec F S3088x1024 .bf16) (wu : Vec F S128x512 .bf16)
    (bg : Vec F S1x512 .f32) (s : Vec F S4x128x256 .f32) : Vec F S4x128x256 .f32 :=
  heads4 (Val := Elt F) (e := .f32)
    (tileState head0 x (row8 sh) (row8 sc) (View.ld w (Rect.unit ![512, 0] ![512, 1024] inb_S3088x1024_S512x1024_512_0)) (View.ld w (Rect.unit ![1024, 0] ![1024, 1024] inb_S3088x1024_S1024x1024_1024_0)) (View.ld w (Rect.unit ![2960, 0] ![128, 1024] inb_S3088x1024_S128x1024_2960_0)) wu bg (headOf s 0))
    (tileState head1 x (row8 sh) (row8 sc) (View.ld w (Rect.unit ![512, 0] ![512, 1024] inb_S3088x1024_S512x1024_512_0)) (View.ld w (Rect.unit ![1024, 0] ![1024, 1024] inb_S3088x1024_S1024x1024_1024_0)) (View.ld w (Rect.unit ![2960, 0] ![128, 1024] inb_S3088x1024_S128x1024_2960_0)) wu bg (headOf s 1))
    (tileState head2 x (row8 sh) (row8 sc) (View.ld w (Rect.unit ![512, 0] ![512, 1024] inb_S3088x1024_S512x1024_512_0)) (View.ld w (Rect.unit ![1024, 0] ![1024, 1024] inb_S3088x1024_S1024x1024_1024_0)) (View.ld w (Rect.unit ![2960, 0] ![128, 1024] inb_S3088x1024_S128x1024_2960_0)) wu bg (headOf s 2))
    (tileState head3 x (row8 sh) (row8 sc) (View.ld w (Rect.unit ![512, 0] ![512, 1024] inb_S3088x1024_S512x1024_512_0)) (View.ld w (Rect.unit ![1024, 0] ![1024, 1024] inb_S3088x1024_S1024x1024_1024_0)) (View.ld w (Rect.unit ![2960, 0] ![128, 1024] inb_S3088x1024_S128x1024_2960_0)) wu bg (headOf s 3))

def tileO (x : Vec F S256x1024 .f32) (sh sc : Vec F S1x8x1024 .f32) (w : Vec F S3088x1024 .bf16) (wu : Vec F S128x512 .bf16)
    (bg : Vec F S1x512 .f32) (ng : Vec F S1x256 .f32) (s : Vec F S4x128x256 .f32) : Vec F S256x1024 .bf16 :=
  cols4 (Val := Elt F) (e := .bf16)
    (tileOut head0 x (row8 sh) (row8 sc) (View.ld w (Rect.unit ![0, 0] ![512, 1024] inb_S3088x1024_S512x1024_0_0)) (View.ld w (Rect.unit ![512, 0] ![512, 1024] inb_S3088x1024_S512x1024_512_0)) (View.ld w (Rect.unit ![1024, 0] ![1024, 1024] inb_S3088x1024_S1024x1024_1024_0)) (View.ld w (Rect.unit ![2048, 0] ![1024, 1024] inb_S3088x1024_S1024x1024_2048_0)) (View.ld w (Rect.unit ![2960, 0] ![128, 1024] inb_S3088x1024_S128x1024_2960_0)) wu bg ng (headOf s 0))
    (tileOut head1 x (row8 sh) (row8 sc) (View.ld w (Rect.unit ![0, 0] ![512, 1024] inb_S3088x1024_S512x1024_0_0)) (View.ld w (Rect.unit ![512, 0] ![512, 1024] inb_S3088x1024_S512x1024_512_0)) (View.ld w (Rect.unit ![1024, 0] ![1024, 1024] inb_S3088x1024_S1024x1024_1024_0)) (View.ld w (Rect.unit ![2048, 0] ![1024, 1024] inb_S3088x1024_S1024x1024_2048_0)) (View.ld w (Rect.unit ![2960, 0] ![128, 1024] inb_S3088x1024_S128x1024_2960_0)) wu bg ng (headOf s 1))
    (tileOut head2 x (row8 sh) (row8 sc) (View.ld w (Rect.unit ![0, 0] ![512, 1024] inb_S3088x1024_S512x1024_0_0)) (View.ld w (Rect.unit ![512, 0] ![512, 1024] inb_S3088x1024_S512x1024_512_0)) (View.ld w (Rect.unit ![1024, 0] ![1024, 1024] inb_S3088x1024_S1024x1024_1024_0)) (View.ld w (Rect.unit ![2048, 0] ![1024, 1024] inb_S3088x1024_S1024x1024_2048_0)) (View.ld w (Rect.unit ![2960, 0] ![128, 1024] inb_S3088x1024_S128x1024_2960_0)) wu bg ng (headOf s 2))
    (tileOut head3 x (row8 sh) (row8 sc) (View.ld w (Rect.unit ![0, 0] ![512, 1024] inb_S3088x1024_S512x1024_0_0)) (View.ld w (Rect.unit ![512, 0] ![512, 1024] inb_S3088x1024_S512x1024_512_0)) (View.ld w (Rect.unit ![1024, 0] ![1024, 1024] inb_S3088x1024_S1024x1024_1024_0)) (View.ld w (Rect.unit ![2048, 0] ![1024, 1024] inb_S3088x1024_S1024x1024_2048_0)) (View.ld w (Rect.unit ![2960, 0] ![128, 1024] inb_S3088x1024_S128x1024_2960_0)) wu bg ng (headOf s 3))

def tileY (x : Vec F S256x1024 .f32) (g : Vec F S1x8x1024 .f32) (o : Vec F S256x1024 .bf16) (wo : Vec F S1024x1024 .bf16)
    (w b : Vec F S1x1x1024 .f32) (sh sc g2 : Vec F S1x8x1024 .f32) (w1 : Vec F S1024x4096 .bf16) (w2 : Vec F S4096x1024 .bf16)
    (w' b' : Vec F S1x1x1024 .f32) : Vec F S256x1024 .f32 :=
  tailv x (row8 g) o wo w b (row8 sh) (row8 sc) (row8 g2) (View.ld w1 (Rect.unit ![0, 0] ![1024, 1024] inb_S1024x4096_S1024x1024_0_0)) (View.ld w1 (Rect.unit ![0, 1024] ![1024, 1024] inb_S1024x4096_S1024x1024_0_1024)) (View.ld w1 (Rect.unit ![0, 2048] ![1024, 1024] inb_S1024x4096_S1024x1024_0_2048)) (View.ld w1 (Rect.unit ![0, 3072] ![1024, 1024] inb_S1024x4096_S1024x1024_0_3072))
    (View.ld w2 (Rect.unit ![0, 0] ![1024, 1024] inb_S4096x1024_S1024x1024_0_0)) (View.ld w2 (Rect.unit ![1024, 0] ![1024, 1024] inb_S4096x1024_S1024x1024_1024_0)) (View.ld w2 (Rect.unit ![2048, 0] ![1024, 1024] inb_S4096x1024_S1024x1024_2048_0)) (View.ld w2 (Rect.unit ![3072, 0] ![1024, 1024] inb_S4096x1024_S1024x1024_3072_0)) w' b'

end Cert.KernelIdeal.Tile

end
-- ==== Proof.Reads.lean ====
module
public import proofs.«01_k».proof.Proof.Outs
public import proofs.«01_k».proof.Proof.Tile
@[expose] public section
set_option maxRecDepth 16384
noncomputable section
namespace Cert.KernelIdeal.Gen
open Idealize.ShloMosaic Idealize.ShloMosaic.TcCoe Idealize.ShloMosaic.Tactic
open Idealize.SL.Sem
variable {F : FTy → Type} [FloatOps F]
set_option maxHeartbeats 0
theorem st_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S3088x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x4096 .bf16) (harg14 : arg14.IsWhole) (arg15 : Memref sig .tc .vmem S4096x1024 .bf16) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S8x512 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S2x4x128x256 .f32) (harg25 : arg25.IsWhole) (arg26 : Memref sig .tc .vmem S256x1024 .f32) (harg26 : arg26.IsWhole) (arg27 : Memref sig .tc .vmem S4x128x256 .f32) (harg27 : arg27.IsWhole) (arg28 : Memref sig .tc .vmem S8x1024 .f32) (harg28 : arg28.IsWhole) (arg29 : Memref sig .tc .vmem S2x4x128x256 .f32) (harg29 : arg29.IsWhole) (arg30 : Memref sig .tc .vmem S256x1024 .bf16) (harg30 : arg30.IsWhole) (arg31 : Memref sig .tc .vmem S4x128x256 .f32) (harg31 : arg31.IsWhole) (arg32 : Memref sig .tc .vmem S256x1024 .f32) (harg32 : arg32.IsWhole) (arg33 : Memref sig .tc .vmem S4x128x128 .f32) (harg33 : arg33.IsWhole) (arg34 : Memref sig .tc .vmem S4x128x256 .f32) (harg34 : arg34.IsWhole) (arg35 : Memref sig .tc .vmem S2x4x8x128 .f32) (harg35 : arg35.IsWhole) (arg36 : Memref sig .tc .vmem S256x1024 .bf16) (harg36 : arg36.IsWhole) (hc0 : cond0_0 i) (hc1 : ¬cond0_1 i) (hc2 : ¬cond0_2 i)
    (x0 : Vec F S256x1024 .f32) (x1 : Vec F S256x1024 .f32) (x2 : Vec F S1x8x1024 .f32) (x3 : Vec F S1x8x1024 .f32) (x4 : Vec F S1x8x1024 .f32) (x5 : Vec F S1x8x1024 .f32) (x6 : Vec F S1x8x1024 .f32) (x7 : Vec F S1x8x1024 .f32) (x8 : Vec F S3088x1024 .bf16) (x9 : Vec F S128x512 .bf16) (x10 : Vec F S1x512 .f32) (x11 : Vec F S1x256 .f32) (x12 : Vec F S1024x1024 .bf16) (x13 : Vec F S1024x4096 .bf16) (x14 : Vec F S4096x1024 .bf16) (x15 : Vec F S1x1x1024 .f32) (x16 : Vec F S1x1x1024 .f32) (x17 : Vec F S1x1x1024 .f32) (x18 : Vec F S1x1x1024 .f32) (x19 : Vec F S8x512 .f32) (x20 : Vec F S8x512 .f32) (x21 : Vec F S8x512 .f32) (x22 : Vec F S8x1024 .f32) (x23 : Vec F S8x1024 .f32) (x24 : Vec F S2x4x128x256 .f32) : sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 hc2 x0 x1 x2 x3 x4 x5 x6 x7 x8 x9 x10 x11 x12 x13 x14 x15 x16 x17 x18 x19 x20 x21 x22 x23 x24 =
  Tile.tileS x0 x2 x3 x8 x9 x10 (broadcast S4x128x256 (Scalar.ofBits .f32 0x00000000#32)) := by
  unfold sout0_A_1; rw [View.read_writes_junk_eq_canon]
  unfold kernelRun0_A; dsimp only; sl_unfold_words; simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread]
  simp only [Tile.readCov_skip _ (show 0 ≠ 1 by decide), Tile.readCov_skip _ (show 0 ≠ 2 by decide), Tile.readCov_skip _ (show 0 ≠ 3 by decide), Tile.readCov_skip _ (show 1 ≠ 2 by decide), Tile.readCov_skip _ (show 1 ≠ 3 by decide), Tile.readCov_skip _ (show 2 ≠ 3 by decide), Tile.readCov_fill]
  refine (Tile.canon_heads _ _ _ _ _).trans ?_
  simp only [Tile.ldA, Tile.ldB, Tile.ldC, Tile.ldD, Tile.ldE, Tile.ldF, Tile.ldG, Tile.ld_head0, Tile.ld_head1, Tile.ld_head2, Tile.ld_head3]
  rfl

theorem os_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S3088x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x4096 .bf16) (harg14 : arg14.IsWhole) (arg15 : Memref sig .tc .vmem S4096x1024 .bf16) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S8x512 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S2x4x128x256 .f32) (harg25 : arg25.IsWhole) (arg26 : Memref sig .tc .vmem S256x1024 .f32) (harg26 : arg26.IsWhole) (arg27 : Memref sig .tc .vmem S4x128x256 .f32) (harg27 : arg27.IsWhole) (arg28 : Memref sig .tc .vmem S8x1024 .f32) (harg28 : arg28.IsWhole) (arg29 : Memref sig .tc .vmem S2x4x128x256 .f32) (harg29 : arg29.IsWhole) (arg30 : Memref sig .tc .vmem S256x1024 .bf16) (harg30 : arg30.IsWhole) (arg31 : Memref sig .tc .vmem S4x128x256 .f32) (harg31 : arg31.IsWhole) (arg32 : Memref sig .tc .vmem S256x1024 .f32) (harg32 : arg32.IsWhole) (arg33 : Memref sig .tc .vmem S4x128x128 .f32) (harg33 : arg33.IsWhole) (arg34 : Memref sig .tc .vmem S4x128x256 .f32) (harg34 : arg34.IsWhole) (arg35 : Memref sig .tc .vmem S2x4x8x128 .f32) (harg35 : arg35.IsWhole) (arg36 : Memref sig .tc .vmem S256x1024 .bf16) (harg36 : arg36.IsWhole) (hc0 : cond0_0 i) (hc1 : ¬cond0_1 i) (hc2 : ¬cond0_2 i)
    (x0 : Vec F S256x1024 .f32) (x1 : Vec F S256x1024 .f32) (x2 : Vec F S1x8x1024 .f32) (x3 : Vec F S1x8x1024 .f32) (x4 : Vec F S1x8x1024 .f32) (x5 : Vec F S1x8x1024 .f32) (x6 : Vec F S1x8x1024 .f32) (x7 : Vec F S1x8x1024 .f32) (x8 : Vec F S3088x1024 .bf16) (x9 : Vec F S128x512 .bf16) (x10 : Vec F S1x512 .f32) (x11 : Vec F S1x256 .f32) (x12 : Vec F S1024x1024 .bf16) (x13 : Vec F S1024x4096 .bf16) (x14 : Vec F S4096x1024 .bf16) (x15 : Vec F S1x1x1024 .f32) (x16 : Vec F S1x1x1024 .f32) (x17 : Vec F S1x1x1024 .f32) (x18 : Vec F S1x1x1024 .f32) (x19 : Vec F S8x512 .f32) (x20 : Vec F S8x512 .f32) (x21 : Vec F S8x512 .f32) (x22 : Vec F S8x1024 .f32) (x23 : Vec F S8x1024 .f32) (x24 : Vec F S2x4x128x256 .f32) : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 hc2 x0 x1 x2 x3 x4 x5 x6 x7 x8 x9 x10 x11 x12 x13 x14 x15 x16 x17 x18 x19 x20 x21 x22 x23 x24 =
  Tile.tileO x0 x2 x3 x8 x9 x10 x11 (broadcast S4x128x256 (Scalar.ofBits .f32 0x00000000#32)) := by
  unfold sout0_A_0; rw [View.read_writes_junk_eq_canon]
  unfold kernelRun0_A; dsimp only; sl_unfold_words; simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread]
  simp only [Tile.readCov_skip _ (show 0 ≠ 1 by decide), Tile.readCov_skip _ (show 0 ≠ 2 by decide), Tile.readCov_skip _ (show 0 ≠ 3 by decide), Tile.readCov_skip _ (show 1 ≠ 2 by decide), Tile.readCov_skip _ (show 1 ≠ 3 by decide), Tile.readCov_skip _ (show 2 ≠ 3 by decide), Tile.readCov_fill]
  refine (Tile.canon_cols _ _ _ _ _).trans ?_
  simp only [Tile.ldA, Tile.ldB, Tile.ldC, Tile.ldD, Tile.ldE, Tile.ldF, Tile.ldG, Tile.ld_head0, Tile.ld_head1, Tile.ld_head2, Tile.ld_head3]
  rfl

theorem st_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S3088x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x4096 .bf16) (harg14 : arg14.IsWhole) (arg15 : Memref sig .tc .vmem S4096x1024 .bf16) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S8x512 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S2x4x128x256 .f32) (harg25 : arg25.IsWhole) (arg26 : Memref sig .tc .vmem S256x1024 .f32) (harg26 : arg26.IsWhole) (arg27 : Memref sig .tc .vmem S4x128x256 .f32) (harg27 : arg27.IsWhole) (arg28 : Memref sig .tc .vmem S8x1024 .f32) (harg28 : arg28.IsWhole) (arg29 : Memref sig .tc .vmem S2x4x128x256 .f32) (harg29 : arg29.IsWhole) (arg30 : Memref sig .tc .vmem S256x1024 .bf16) (harg30 : arg30.IsWhole) (arg31 : Memref sig .tc .vmem S4x128x256 .f32) (harg31 : arg31.IsWhole) (arg32 : Memref sig .tc .vmem S256x1024 .f32) (harg32 : arg32.IsWhole) (arg33 : Memref sig .tc .vmem S4x128x128 .f32) (harg33 : arg33.IsWhole) (arg34 : Memref sig .tc .vmem S4x128x256 .f32) (harg34 : arg34.IsWhole) (arg35 : Memref sig .tc .vmem S2x4x8x128 .f32) (harg35 : arg35.IsWhole) (arg36 : Memref sig .tc .vmem S256x1024 .bf16) (harg36 : arg36.IsWhole) (hc0 : ¬cond0_0 i) (hc1 : cond0_1 i) (hc2 : ¬cond0_2 i)
    (x0 : Vec F S256x1024 .f32) (x1 : Vec F S256x1024 .f32) (x2 : Vec F S1x8x1024 .f32) (x3 : Vec F S1x8x1024 .f32) (x4 : Vec F S1x8x1024 .f32) (x5 : Vec F S1x8x1024 .f32) (x6 : Vec F S1x8x1024 .f32) (x7 : Vec F S1x8x1024 .f32) (x8 : Vec F S3088x1024 .bf16) (x9 : Vec F S128x512 .bf16) (x10 : Vec F S1x512 .f32) (x11 : Vec F S1x256 .f32) (x12 : Vec F S1024x1024 .bf16) (x13 : Vec F S1024x4096 .bf16) (x14 : Vec F S4096x1024 .bf16) (x15 : Vec F S1x1x1024 .f32) (x16 : Vec F S1x1x1024 .f32) (x17 : Vec F S1x1x1024 .f32) (x18 : Vec F S1x1x1024 .f32) (x19 : Vec F S8x512 .f32) (x20 : Vec F S8x512 .f32) (x21 : Vec F S8x512 .f32) (x22 : Vec F S8x1024 .f32) (x23 : Vec F S8x1024 .f32) (x24 : Vec F S2x4x128x256 .f32) (xs0 : Vec F S256x1024 .bf16) (xs1 : Vec F S4x128x256 .f32) : sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 hc2 x0 x1 x2 x3 x4 x5 x6 x7 x8 x9 x10 x11 x12 x13 x14 x15 x16 x17 x18 x19 x20 x21 x22 x23 x24 xs0 xs1 =
  Tile.tileS x0 x2 x3 x8 x9 x10 xs1 := by
  unfold sout0_B_1; rw [View.read_writes_junk_eq_canon]
  unfold kernelRun0_B; dsimp only; sl_unfold_words; simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread]
  refine (Tile.canon_heads _ _ _ _ _).trans ?_
  simp only [Tile.ldA, Tile.ldB, Tile.ldC, Tile.ldD, Tile.ldE, Tile.ldF, Tile.ldG, Tile.ld_head0, Tile.ld_head1, Tile.ld_head2, Tile.ld_head3]
  rfl

theorem os_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S3088x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x4096 .bf16) (harg14 : arg14.IsWhole) (arg15 : Memref sig .tc .vmem S4096x1024 .bf16) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S8x512 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S2x4x128x256 .f32) (harg25 : arg25.IsWhole) (arg26 : Memref sig .tc .vmem S256x1024 .f32) (harg26 : arg26.IsWhole) (arg27 : Memref sig .tc .vmem S4x128x256 .f32) (harg27 : arg27.IsWhole) (arg28 : Memref sig .tc .vmem S8x1024 .f32) (harg28 : arg28.IsWhole) (arg29 : Memref sig .tc .vmem S2x4x128x256 .f32) (harg29 : arg29.IsWhole) (arg30 : Memref sig .tc .vmem S256x1024 .bf16) (harg30 : arg30.IsWhole) (arg31 : Memref sig .tc .vmem S4x128x256 .f32) (harg31 : arg31.IsWhole) (arg32 : Memref sig .tc .vmem S256x1024 .f32) (harg32 : arg32.IsWhole) (arg33 : Memref sig .tc .vmem S4x128x128 .f32) (harg33 : arg33.IsWhole) (arg34 : Memref sig .tc .vmem S4x128x256 .f32) (harg34 : arg34.IsWhole) (arg35 : Memref sig .tc .vmem S2x4x8x128 .f32) (harg35 : arg35.IsWhole) (arg36 : Memref sig .tc .vmem S256x1024 .bf16) (harg36 : arg36.IsWhole) (hc0 : ¬cond0_0 i) (hc1 : cond0_1 i) (hc2 : ¬cond0_2 i)
    (x0 : Vec F S256x1024 .f32) (x1 : Vec F S256x1024 .f32) (x2 : Vec F S1x8x1024 .f32) (x3 : Vec F S1x8x1024 .f32) (x4 : Vec F S1x8x1024 .f32) (x5 : Vec F S1x8x1024 .f32) (x6 : Vec F S1x8x1024 .f32) (x7 : Vec F S1x8x1024 .f32) (x8 : Vec F S3088x1024 .bf16) (x9 : Vec F S128x512 .bf16) (x10 : Vec F S1x512 .f32) (x11 : Vec F S1x256 .f32) (x12 : Vec F S1024x1024 .bf16) (x13 : Vec F S1024x4096 .bf16) (x14 : Vec F S4096x1024 .bf16) (x15 : Vec F S1x1x1024 .f32) (x16 : Vec F S1x1x1024 .f32) (x17 : Vec F S1x1x1024 .f32) (x18 : Vec F S1x1x1024 .f32) (x19 : Vec F S8x512 .f32) (x20 : Vec F S8x512 .f32) (x21 : Vec F S8x512 .f32) (x22 : Vec F S8x1024 .f32) (x23 : Vec F S8x1024 .f32) (x24 : Vec F S2x4x128x256 .f32) (xs0 : Vec F S256x1024 .bf16) (xs1 : Vec F S4x128x256 .f32) : sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 hc2 x0 x1 x2 x3 x4 x5 x6 x7 x8 x9 x10 x11 x12 x13 x14 x15 x16 x17 x18 x19 x20 x21 x22 x23 x24 xs0 xs1 =
  Tile.tileO x0 x2 x3 x8 x9 x10 x11 xs1 := by
  unfold sout0_B_0; rw [View.read_writes_junk_eq_canon]
  unfold kernelRun0_B; dsimp only; sl_unfold_words; simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread]
  refine (Tile.canon_cols _ _ _ _ _).trans ?_
  simp only [Tile.ldA, Tile.ldB, Tile.ldC, Tile.ldD, Tile.ldE, Tile.ldF, Tile.ldG, Tile.ld_head0, Tile.ld_head1, Tile.ld_head2, Tile.ld_head3]
  rfl

theorem y_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S3088x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x4096 .bf16) (harg14 : arg14.IsWhole) (arg15 : Memref sig .tc .vmem S4096x1024 .bf16) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S8x512 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S2x4x128x256 .f32) (harg25 : arg25.IsWhole) (arg26 : Memref sig .tc .vmem S256x1024 .f32) (harg26 : arg26.IsWhole) (arg27 : Memref sig .tc .vmem S4x128x256 .f32) (harg27 : arg27.IsWhole) (arg28 : Memref sig .tc .vmem S8x1024 .f32) (harg28 : arg28.IsWhole) (arg29 : Memref sig .tc .vmem S2x4x128x256 .f32) (harg29 : arg29.IsWhole) (arg30 : Memref sig .tc .vmem S256x1024 .bf16) (harg30 : arg30.IsWhole) (arg31 : Memref sig .tc .vmem S4x128x256 .f32) (harg31 : arg31.IsWhole) (arg32 : Memref sig .tc .vmem S256x1024 .f32) (harg32 : arg32.IsWhole) (arg33 : Memref sig .tc .vmem S4x128x128 .f32) (harg33 : arg33.IsWhole) (arg34 : Memref sig .tc .vmem S4x128x256 .f32) (harg34 : arg34.IsWhole) (arg35 : Memref sig .tc .vmem S2x4x8x128 .f32) (harg35 : arg35.IsWhole) (arg36 : Memref sig .tc .vmem S256x1024 .bf16) (harg36 : arg36.IsWhole) (hc0 : ¬cond0_0 i) (hc1 : cond0_1 i) (hc2 : ¬cond0_2 i)
    (x0 : Vec F S256x1024 .f32) (x1 : Vec F S256x1024 .f32) (x2 : Vec F S1x8x1024 .f32) (x3 : Vec F S1x8x1024 .f32) (x4 : Vec F S1x8x1024 .f32) (x5 : Vec F S1x8x1024 .f32) (x6 : Vec F S1x8x1024 .f32) (x7 : Vec F S1x8x1024 .f32) (x8 : Vec F S3088x1024 .bf16) (x9 : Vec F S128x512 .bf16) (x10 : Vec F S1x512 .f32) (x11 : Vec F S1x256 .f32) (x12 : Vec F S1024x1024 .bf16) (x13 : Vec F S1024x4096 .bf16) (x14 : Vec F S4096x1024 .bf16) (x15 : Vec F S1x1x1024 .f32) (x16 : Vec F S1x1x1024 .f32) (x17 : Vec F S1x1x1024 .f32) (x18 : Vec F S1x1x1024 .f32) (x19 : Vec F S8x512 .f32) (x20 : Vec F S8x512 .f32) (x21 : Vec F S8x512 .f32) (x22 : Vec F S8x1024 .f32) (x23 : Vec F S8x1024 .f32) (x24 : Vec F S2x4x128x256 .f32) (xs0 : Vec F S256x1024 .bf16) (xs1 : Vec F S4x128x256 .f32) : out0_B_25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 hc2 x0 x1 x2 x3 x4 x5 x6 x7 x8 x9 x10 x11 x12 x13 x14 x15 x16 x17 x18 x19 x20 x21 x22 x23 x24 xs0 xs1 =
  Tile.tileY x1 x4 xs0 x12 x15 x16 x5 x6 x7 x13 x14 x17 x18 := by
  unfold out0_B_25; rw [View.read_writes_junk_eq_canon]
  unfold kernelRun0_B; dsimp only; sl_unfold_words; simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread]
  simp only [Tile.readCov_full]
  refine (Tile.canon_full _ _ _).trans ?_
  simp only [Tile.ldA, Tile.ldB, Tile.ldC, Tile.ldD, Tile.ldE, Tile.ldF, Tile.ldG, Tile.ld_head0, Tile.ld_head1, Tile.ld_head2, Tile.ld_head3]
  rfl

theorem y_C (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S3088x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x4096 .bf16) (harg14 : arg14.IsWhole) (arg15 : Memref sig .tc .vmem S4096x1024 .bf16) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S8x512 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S2x4x128x256 .f32) (harg25 : arg25.IsWhole) (arg26 : Memref sig .tc .vmem S256x1024 .f32) (harg26 : arg26.IsWhole) (arg27 : Memref sig .tc .vmem S4x128x256 .f32) (harg27 : arg27.IsWhole) (arg28 : Memref sig .tc .vmem S8x1024 .f32) (harg28 : arg28.IsWhole) (arg29 : Memref sig .tc .vmem S2x4x128x256 .f32) (harg29 : arg29.IsWhole) (arg30 : Memref sig .tc .vmem S256x1024 .bf16) (harg30 : arg30.IsWhole) (arg31 : Memref sig .tc .vmem S4x128x256 .f32) (harg31 : arg31.IsWhole) (arg32 : Memref sig .tc .vmem S256x1024 .f32) (harg32 : arg32.IsWhole) (arg33 : Memref sig .tc .vmem S4x128x128 .f32) (harg33 : arg33.IsWhole) (arg34 : Memref sig .tc .vmem S4x128x256 .f32) (harg34 : arg34.IsWhole) (arg35 : Memref sig .tc .vmem S2x4x8x128 .f32) (harg35 : arg35.IsWhole) (arg36 : Memref sig .tc .vmem S256x1024 .bf16) (harg36 : arg36.IsWhole) (hc0 : ¬cond0_0 i) (hc1 : ¬cond0_1 i) (hc2 : cond0_2 i)
    (x0 : Vec F S256x1024 .f32) (x1 : Vec F S256x1024 .f32) (x2 : Vec F S1x8x1024 .f32) (x3 : Vec F S1x8x1024 .f32) (x4 : Vec F S1x8x1024 .f32) (x5 : Vec F S1x8x1024 .f32) (x6 : Vec F S1x8x1024 .f32) (x7 : Vec F S1x8x1024 .f32) (x8 : Vec F S3088x1024 .bf16) (x9 : Vec F S128x512 .bf16) (x10 : Vec F S1x512 .f32) (x11 : Vec F S1x256 .f32) (x12 : Vec F S1024x1024 .bf16) (x13 : Vec F S1024x4096 .bf16) (x14 : Vec F S4096x1024 .bf16) (x15 : Vec F S1x1x1024 .f32) (x16 : Vec F S1x1x1024 .f32) (x17 : Vec F S1x1x1024 .f32) (x18 : Vec F S1x1x1024 .f32) (x19 : Vec F S8x512 .f32) (x20 : Vec F S8x512 .f32) (x21 : Vec F S8x512 .f32) (x22 : Vec F S8x1024 .f32) (x23 : Vec F S8x1024 .f32) (x24 : Vec F S2x4x128x256 .f32) (xs0 : Vec F S256x1024 .bf16) (xs1 : Vec F S4x128x256 .f32) : out0_C_25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 hc2 x0 x1 x2 x3 x4 x5 x6 x7 x8 x9 x10 x11 x12 x13 x14 x15 x16 x17 x18 x19 x20 x21 x22 x23 x24 xs0 xs1 =
  Tile.tileY x1 x4 xs0 x12 x15 x16 x5 x6 x7 x13 x14 x17 x18 := by
  unfold out0_C_25; rw [View.read_writes_junk_eq_canon]
  unfold kernelRun0_C; dsimp only; sl_unfold_words; simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread]
  simp only [Tile.readCov_full]
  refine (Tile.canon_full _ _ _).trans ?_
  simp only [Tile.ldA, Tile.ldB, Tile.ldC, Tile.ldD, Tile.ldE, Tile.ldF, Tile.ldG, Tile.ld_head0, Tile.ld_head1, Tile.ld_head2, Tile.ld_head3]
  rfl

theorem so_C (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S3088x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x4096 .bf16) (harg14 : arg14.IsWhole) (arg15 : Memref sig .tc .vmem S4096x1024 .bf16) (harg15 : arg15.IsWhole) (arg16 : Memref sig .tc .vmem S1x1x1024 .f32) (harg16 : arg16.IsWhole) (arg17 : Memref sig .tc .vmem S1x1x1024 .f32) (harg17 : arg17.IsWhole) (arg18 : Memref sig .tc .vmem S1x1x1024 .f32) (harg18 : arg18.IsWhole) (arg19 : Memref sig .tc .vmem S1x1x1024 .f32) (harg19 : arg19.IsWhole) (arg20 : Memref sig .tc .vmem S8x512 .f32) (harg20 : arg20.IsWhole) (arg21 : Memref sig .tc .vmem S8x512 .f32) (harg21 : arg21.IsWhole) (arg22 : Memref sig .tc .vmem S8x512 .f32) (harg22 : arg22.IsWhole) (arg23 : Memref sig .tc .vmem S8x1024 .f32) (harg23 : arg23.IsWhole) (arg24 : Memref sig .tc .vmem S8x1024 .f32) (harg24 : arg24.IsWhole) (arg25 : Memref sig .tc .vmem S2x4x128x256 .f32) (harg25 : arg25.IsWhole) (arg26 : Memref sig .tc .vmem S256x1024 .f32) (harg26 : arg26.IsWhole) (arg27 : Memref sig .tc .vmem S4x128x256 .f32) (harg27 : arg27.IsWhole) (arg28 : Memref sig .tc .vmem S8x1024 .f32) (harg28 : arg28.IsWhole) (arg29 : Memref sig .tc .vmem S2x4x128x256 .f32) (harg29 : arg29.IsWhole) (arg30 : Memref sig .tc .vmem S256x1024 .bf16) (harg30 : arg30.IsWhole) (arg31 : Memref sig .tc .vmem S4x128x256 .f32) (harg31 : arg31.IsWhole) (arg32 : Memref sig .tc .vmem S256x1024 .f32) (harg32 : arg32.IsWhole) (arg33 : Memref sig .tc .vmem S4x128x128 .f32) (harg33 : arg33.IsWhole) (arg34 : Memref sig .tc .vmem S4x128x256 .f32) (harg34 : arg34.IsWhole) (arg35 : Memref sig .tc .vmem S2x4x8x128 .f32) (harg35 : arg35.IsWhole) (arg36 : Memref sig .tc .vmem S256x1024 .bf16) (harg36 : arg36.IsWhole) (hc0 : ¬cond0_0 i) (hc1 : ¬cond0_1 i) (hc2 : cond0_2 i)
    (x0 : Vec F S256x1024 .f32) (x1 : Vec F S256x1024 .f32) (x2 : Vec F S1x8x1024 .f32) (x3 : Vec F S1x8x1024 .f32) (x4 : Vec F S1x8x1024 .f32) (x5 : Vec F S1x8x1024 .f32) (x6 : Vec F S1x8x1024 .f32) (x7 : Vec F S1x8x1024 .f32) (x8 : Vec F S3088x1024 .bf16) (x9 : Vec F S128x512 .bf16) (x10 : Vec F S1x512 .f32) (x11 : Vec F S1x256 .f32) (x12 : Vec F S1024x1024 .bf16) (x13 : Vec F S1024x4096 .bf16) (x14 : Vec F S4096x1024 .bf16) (x15 : Vec F S1x1x1024 .f32) (x16 : Vec F S1x1x1024 .f32) (x17 : Vec F S1x1x1024 .f32) (x18 : Vec F S1x1x1024 .f32) (x19 : Vec F S8x512 .f32) (x20 : Vec F S8x512 .f32) (x21 : Vec F S8x512 .f32) (x22 : Vec F S8x1024 .f32) (x23 : Vec F S8x1024 .f32) (x24 : Vec F S2x4x128x256 .f32) (xs0 : Vec F S256x1024 .bf16) (xs1 : Vec F S4x128x256 .f32) : out0_C_26 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 hc2 x0 x1 x2 x3 x4 x5 x6 x7 x8 x9 x10 x11 x12 x13 x14 x15 x16 x17 x18 x19 x20 x21 x22 x23 x24 xs0 xs1 =
  xs1 := by
  unfold out0_C_26; rw [View.read_writes_junk_eq_canon]
  unfold kernelRun0_C; dsimp only; sl_unfold_words; simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread]
  refine (Tile.canon_full3 _ _ _).trans ?_
  simp only [Tile.ldA, Tile.ldB, Tile.ldC, Tile.ldD, Tile.ldE, Tile.ldF, Tile.ldG, Tile.ld_head0, Tile.ld_head1, Tile.ld_head2, Tile.ld_head3]

end Cert.KernelIdeal.Gen
end
end
-- ==== Proof.G1.lean ====
/- What the input windows' blocks hold, by the arrays the program is given. -/
module

public import proofs.«01_k».proof.Proof.Gen.KernelIdeal.Frame
public import Idealize.ShloMosaic.Lib.Pipeline.ValueKit.Point

@[expose] public section

set_option maxRecDepth 16384

noncomputable section

namespace Cert.KernelIdeal.Value

open Idealize.ShloMosaic Idealize.ShloMosaic.TcCoe Cert.KernelIdeal Cert.KernelIdeal.Gen Idealize.SL.Sem

variable (m : (ℓ : Loc nD τ sig) → Buf (Elt Ideal) ℓ) (c : Dev nD)

/-- An array of the program as launched. -/
abbrev arg (b : Ref sig .tc) : Buf (Elt Ideal) ((c : Thread nD τ).loc b) := m ((c : Thread nD τ).loc b)

theorem i0 : ∀ t : Fin cfg0.N, win0_0.index t (0 : Fin 2) = min t.val 63 ∧ win0_0.index t (1 : Fin 2) = 0 := (by decide +kernel : ∀ t : Fin grid0.N, _)
theorem i1 : ∀ t : Fin cfg0.N, win0_1.index t (0 : Fin 2) = t.val - 1 ∧ win0_1.index t (1 : Fin 2) = 0 := (by decide +kernel : ∀ t : Fin grid0.N, _)
theorem i2 : ∀ t : Fin cfg0.N, win0_2.index t (0 : Fin 3) = 2 ∧ win0_2.index t (1 : Fin 3) = 16 ∧ win0_2.index t (2 : Fin 3) = 0 := (by decide +kernel : ∀ t : Fin grid0.N, _)
theorem i3 : ∀ t : Fin cfg0.N, win0_3.index t (0 : Fin 3) = 2 ∧ win0_3.index t (1 : Fin 3) = 16 ∧ win0_3.index t (2 : Fin 3) = 1 := (by decide +kernel : ∀ t : Fin grid0.N, _)
theorem i4 : ∀ t : Fin cfg0.N, win0_4.index t (0 : Fin 3) = 2 ∧ win0_4.index t (1 : Fin 3) = 16 ∧ win0_4.index t (2 : Fin 3) = 2 := (by decide +kernel : ∀ t : Fin grid0.N, _)
theorem i5 : ∀ t : Fin cfg0.N, win0_5.index t (0 : Fin 3) = 3 ∧ win0_5.index t (1 : Fin 3) = 16 ∧ win0_5.index t (2 : Fin 3) = 0 := (by decide +kernel : ∀ t : Fin grid0.N, _)
theorem i6 : ∀ t : Fin cfg0.N, win0_6.index t (0 : Fin 3) = 3 ∧ win0_6.index t (1 : Fin 3) = 16 ∧ win0_6.index t (2 : Fin 3) = 1 := (by decide +kernel : ∀ t : Fin grid0.N, _)
theorem i7 : ∀ t : Fin cfg0.N, win0_7.index t (0 : Fin 3) = 3 ∧ win0_7.index t (1 : Fin 3) = 16 ∧ win0_7.index t (2 : Fin 3) = 2 := (by decide +kernel : ∀ t : Fin grid0.N, _)
theorem i8 : ∀ t : Fin cfg0.N, win0_8.index t (0 : Fin 2) = 0 ∧ win0_8.index t (1 : Fin 2) = 0 := (by decide +kernel : ∀ t : Fin grid0.N, _)
theorem i9 : ∀ t : Fin cfg0.N, win0_9.index t (0 : Fin 2) = 0 ∧ win0_9.index t (1 : Fin 2) = 0 := (by decide +kernel : ∀ t : Fin grid0.N, _)
theorem i10 : ∀ t : Fin cfg0.N, win0_10.index t (0 : Fin 2) = 0 ∧ win0_10.index t (1 : Fin 2) = 0 := (by decide +kernel : ∀ t : Fin grid0.N, _)
theorem i11 : ∀ t : Fin cfg0.N, win0_11.index t (0 : Fin 2) = 0 ∧ win0_11.index t (1 : Fin 2) = 0 := (by decide +kernel : ∀ t : Fin grid0.N, _)
theorem i12 : ∀ t : Fin cfg0.N, win0_12.index t (0 : Fin 2) = 0 ∧ win0_12.index t (1 : Fin 2) = 0 := (by decide +kernel : ∀ t : Fin grid0.N, _)
theorem i13 : ∀ t : Fin cfg0.N, win0_13.index t (0 : Fin 2) = 0 ∧ win0_13.index t (1 : Fin 2) = 0 := (by decide +kernel : ∀ t : Fin grid0.N, _)
theorem i14 : ∀ t : Fin cfg0.N, win0_14.index t (0 : Fin 2) = 0 ∧ win0_14.index t (1 : Fin 2) = 0 := (by decide +kernel : ∀ t : Fin grid0.N, _)
theorem i15 : ∀ t : Fin cfg0.N, win0_15.index t (0 : Fin 3) = 2 ∧ win0_15.index t (1 : Fin 3) = 0 ∧ win0_15.index t (2 : Fin 3) = 0 := (by decide +kernel : ∀ t : Fin grid0.N, _)
theorem i16 : ∀ t : Fin cfg0.N, win0_16.index t (0 : Fin 3) = 2 ∧ win0_16.index t (1 : Fin 3) = 0 ∧ win0_16.index t (2 : Fin 3) = 0 := (by decide +kernel : ∀ t : Fin grid0.N, _)
theorem i17 : ∀ t : Fin cfg0.N, win0_17.index t (0 : Fin 3) = 3 ∧ win0_17.index t (1 : Fin 3) = 0 ∧ win0_17.index t (2 : Fin 3) = 0 := (by decide +kernel : ∀ t : Fin grid0.N, _)
theorem i18 : ∀ t : Fin cfg0.N, win0_18.index t (0 : Fin 3) = 3 ∧ win0_18.index t (1 : Fin 3) = 0 ∧ win0_18.index t (2 : Fin 3) = 0 := (by decide +kernel : ∀ t : Fin grid0.N, _)

/-! ## The host lines -/

theorem e2 : (V m c main_v2 : FVec Ideal S3088x1024 .bf16) = truncf (F := Ideal) .bf16 (transpose S3088x1024 [1, 0] (shapeCast S1024x3088 (arg m c main_arg2 : FVec Ideal S1x1024x3088 .f32) shapeCasts_S1x1024x3088_S1024x3088) transposes_S1024x3088_S3088x1024_1_0) bitsLt_bf16_f32 := by
  simp only [V, hostOps0, hostOps0_1, hostOps0_2, List.flatten_cons, List.flatten_nil, List.append_nil, List.cons_append, List.nil_append]
  after_results_simp
  rfl

theorem e5 : (V m c main_v5 : FVec Ideal S128x512 .bf16) = truncf (F := Ideal) .bf16 (pad S128x512 ![112, 0] ![0, 0] ![0, 0] (shapeCast S16x512 (arg m c main_arg3 : FVec Ideal S1x16x512 .f32) shapeCasts_S1x16x512_S16x512) (sitofp (F := Ideal) .f32 (constantI S_ 32 0#32)) pads_S16x512_S128x512_11200_000 h_S_) bitsLt_bf16_f32 := by
  simp only [V, hostOps0, hostOps0_1, hostOps0_2, List.flatten_cons, List.flatten_nil, List.append_nil, List.cons_append, List.nil_append]
  after_results_simp
  rfl

theorem e7 : (V m c main_v7 : FVec Ideal S1024x1024 .bf16) = truncf (F := Ideal) .bf16 (shapeCast S1024x1024 (arg m c main_arg6 : FVec Ideal S1x1024x1024 .f32) shapeCasts_S1x1024x1024_S1024x1024) bitsLt_bf16_f32 := by
  simp only [V, hostOps0, hostOps0_1, hostOps0_2, List.flatten_cons, List.flatten_nil, List.append_nil, List.cons_append, List.nil_append]
  after_results_simp
  rfl

theorem e9 : (V m c main_v9 : FVec Ideal S1x512 .f32) = shapeCast S1x512 (shapeCast S512 (arg m c main_arg4 : FVec Ideal S1x512 .f32) shapeCasts_S1x512_S512) shapeCasts_S512_S1x512 := by
  simp only [V, hostOps0, hostOps0_1, hostOps0_2, List.flatten_cons, List.flatten_nil, List.append_nil, List.cons_append, List.nil_append]
  after_results_simp
  rfl

theorem e11 : (V m c main_v11 : FVec Ideal S1x256 .f32) = shapeCast S1x256 (shapeCast S256 (arg m c main_arg5 : FVec Ideal S1x256 .f32) shapeCasts_S1x256_S256) shapeCasts_S256_S1x256 := by
  simp only [V, hostOps0, hostOps0_1, hostOps0_2, List.flatten_cons, List.flatten_nil, List.append_nil, List.cons_append, List.nil_append]
  after_results_simp
  rfl

theorem e12 : (V m c main_v12 : FVec Ideal S4x1x1024 .f32) = shapeCast S4x1x1024 (arg m c main_arg9 : FVec Ideal S2x2x1024 .f32) shapeCasts_S2x2x1024_S4x1x1024 := by
  simp only [V, hostOps0, hostOps0_1, hostOps0_2, List.flatten_cons, List.flatten_nil, List.append_nil, List.cons_append, List.nil_append]
  after_results_simp
  rfl

theorem e13 : (V m c main_v13 : FVec Ideal S4x1x1024 .f32) = shapeCast S4x1x1024 (arg m c main_arg10 : FVec Ideal S2x2x1024 .f32) shapeCasts_S2x2x1024_S4x1x1024 := by
  simp only [V, hostOps0, hostOps0_1, hostOps0_2, List.flatten_cons, List.flatten_nil, List.append_nil, List.cons_append, List.nil_append]
  after_results_simp
  rfl

theorem e16 : (V m c main_v16 : FVec Ideal S1024x4096 .bf16) = truncf (F := Ideal) .bf16 (shapeCast S1024x4096 (extractStridedSlice S1x1024x4096 ![1, 0, 0] (arg m c main_arg7 : FVec Ideal S2x1024x4096 .f32) slices_S2x1024x4096_S1x1024x4096_1_0_0) shapeCasts_S1x1024x4096_S1024x4096) bitsLt_bf16_f32 := by
  simp only [V, hostOps0, hostOps0_1, hostOps0_2, List.flatten_cons, List.flatten_nil, List.append_nil, List.cons_append, List.nil_append]
  after_results_simp
  rfl

theorem e19 : (V m c main_v19 : FVec Ideal S4096x1024 .bf16) = truncf (F := Ideal) .bf16 (shapeCast S4096x1024 (extractStridedSlice S1x4096x1024 ![1, 0, 0] (arg m c main_arg8 : FVec Ideal S2x4096x1024 .f32) slices_S2x4096x1024_S1x4096x1024_1_0_0) shapeCasts_S1x4096x1024_S4096x1024) bitsLt_bf16_f32 := by
  simp only [V, hostOps0, hostOps0_1, hostOps0_2, List.flatten_cons, List.flatten_nil, List.append_nil, List.cons_append, List.nil_append]
  after_results_simp
  rfl

/-! ## The host lines read at an index -/

theorem r2 (x : FVec Ideal S1x1024x3088 .f32) (l : Fin 3088) (a : Fin 1024) : truncf (F := Ideal) .bf16 (transpose S3088x1024 [1, 0] (shapeCast S1024x3088 x shapeCasts_S1x1024x3088_S1024x3088) transposes_S1024x3088_S3088x1024_1_0) bitsLt_bf16_f32 (ix2 l a) = x (ix3 (0 : Fin 1) a l) := by
  pointwise

theorem r5 (x : FVec Ideal S1x16x512 .f32) (a : Fin 128) (l : Fin 512) : truncf (F := Ideal) .bf16 (pad S128x512 ![112, 0] ![0, 0] ![0, 0] (shapeCast S16x512 x shapeCasts_S1x16x512_S16x512) (sitofp (F := Ideal) .f32 (constantI S_ 32 0#32)) pads_S16x512_S128x512_11200_000 h_S_) bitsLt_bf16_f32 (ix2 a l) = (if h : 112 ≤ a.val then x (ix3 (0 : Fin 1) (⟨a.val - 112, by omega⟩ : Fin 16) l) else (0 : EReal)) := by
  pointwise
  have z : (FloatOps.sitofp (F := Ideal) .f32 (0#32 : BitVec 32) : EReal) = 0 := by
    show (((0#32 : BitVec 32).toInt : ℝ) : EReal) = 0
    simp
  by_cases h : 112 ≤ a.val
  · rw [dif_pos h, dif_pos (show 112 ≤ a.val ∧ a.val - 112 < 16 from ⟨h, by omega⟩)]
  · rw [dif_neg h, dif_neg (fun h' => h h'.1)]
    exact z

theorem r7 (x : FVec Ideal S1x1024x1024 .f32) (a l : Fin 1024) : truncf (F := Ideal) .bf16 (shapeCast S1024x1024 x shapeCasts_S1x1024x1024_S1024x1024) bitsLt_bf16_f32 (ix2 a l) = x (ix3 (0 : Fin 1) a l) := by
  pointwise

theorem r9 (x : FVec Ideal S1x512 .f32) (l : Fin 512) : shapeCast S1x512 (shapeCast S512 x shapeCasts_S1x512_S512) shapeCasts_S512_S1x512 (ix2 0 l) = x (ix2 (0 : Fin 1) l) := by
  pointwise

theorem r11 (x : FVec Ideal S1x256 .f32) (l : Fin 256) : shapeCast S1x256 (shapeCast S256 x shapeCasts_S1x256_S256) shapeCasts_S256_S1x256 (ix2 0 l) = x (ix2 (0 : Fin 1) l) := by
  pointwise

theorem r12 (x : FVec Ideal S2x2x1024 .f32) (j : Fin 2) (l : Fin 1024) : shapeCast S4x1x1024 x shapeCasts_S2x2x1024_S4x1x1024 (ix3 (⟨2 + j.val, by omega⟩ : Fin 4) (0 : Fin 1) l) = x (ix3 (1 : Fin 2) j l) := by
  pointwise
  exact congrArg (fun z => x (ix3 z j l)) (Fin.ext (by show (2 + j.val) / 2 = 1; omega))

theorem r16 (x : FVec Ideal S2x1024x4096 .f32) (a : Fin 1024) (l : Fin 4096) : truncf (F := Ideal) .bf16 (shapeCast S1024x4096 (extractStridedSlice S1x1024x4096 ![1, 0, 0] x slices_S2x1024x4096_S1x1024x4096_1_0_0) shapeCasts_S1x1024x4096_S1024x4096) bitsLt_bf16_f32 (ix2 a l) = x (ix3 (1 : Fin 2) a l) := by
  pointwise

theorem r19 (x : FVec Ideal S2x4096x1024 .f32) (a : Fin 4096) (l : Fin 1024) : truncf (F := Ideal) .bf16 (shapeCast S4096x1024 (extractStridedSlice S1x4096x1024 ![1, 0, 0] x slices_S2x4096x1024_S1x4096x1024_1_0_0) shapeCasts_S1x4096x1024_S4096x1024) bitsLt_bf16_f32 (ix2 a l) = x (ix3 (1 : Fin 2) a l) := by
  pointwise

/-! ## The blocks -/

theorem w0 (t : Fin cfg0.N) (r : Fin 256) (l : Fin 1024) : iblk m c 0 t (ix2 r l) = arg m c main_arg0 (ix2 (⟨min t.val 63 * 256 + r.val, by have := t.isLt; have : cfg0.N = 65 := N_0; omega⟩ : Fin 16384) l) := by
  refine Eq.trans (b := V m c main_arg0 ((ix2 (⟨min t.val 63 * 256 + r.val, by have := t.isLt; have : cfg0.N = 65 := N_0; omega⟩ : Fin 16384) l))) ?_ ?_
  · show V m c main_arg0 (((View.whole main_arg0).slice (win0_0.rect t)).emb (ix2 r l)) = _
    refine congrArg (V m c main_arg0) ?_
    blk_ext [i0 t]
  · exact congrFun (V_main_arg0 m c) _

theorem w1 (t : Fin cfg0.N) (r : Fin 256) (l : Fin 1024) : iblk m c 1 t (ix2 r l) = arg m c main_arg0 (ix2 (⟨(t.val - 1) * 256 + r.val, by have := t.isLt; have : cfg0.N = 65 := N_0; omega⟩ : Fin 16384) l) := by
  refine Eq.trans (b := V m c main_arg0 ((ix2 (⟨(t.val - 1) * 256 + r.val, by have := t.isLt; have : cfg0.N = 65 := N_0; omega⟩ : Fin 16384) l))) ?_ ?_
  · show V m c main_arg0 (((View.whole main_arg0).slice (win0_1.rect t)).emb (ix2 r l)) = _
    refine congrArg (V m c main_arg0) ?_
    blk_ext [i1 t]
  · exact congrFun (V_main_arg0 m c) _

theorem w2 (t : Fin cfg0.N) (l : Fin 1024) : iblk m c 2 t (ix3 0 0 l) = arg m c main_arg1 (ix3 (2 : Fin 4) (128 : Fin 136) (⟨l.val, by omega⟩ : Fin 3072)) := by
  refine Eq.trans (b := V m c main_arg1 ((ix3 (2 : Fin 4) (128 : Fin 136) (⟨l.val, by omega⟩ : Fin 3072)))) ?_ ?_
  · show V m c main_arg1 (((View.whole main_arg1).slice (win0_2.rect t)).emb (ix3 0 0 l)) = _
    refine congrArg (V m c main_arg1) ?_
    blk_ext [i2 t]
  · exact congrFun (V_main_arg1 m c) _

theorem w3 (t : Fin cfg0.N) (l : Fin 1024) : iblk m c 3 t (ix3 0 0 l) = arg m c main_arg1 (ix3 (2 : Fin 4) (128 : Fin 136) (⟨1024 + l.val, by omega⟩ : Fin 3072)) := by
  refine Eq.trans (b := V m c main_arg1 ((ix3 (2 : Fin 4) (128 : Fin 136) (⟨1024 + l.val, by omega⟩ : Fin 3072)))) ?_ ?_
  · show V m c main_arg1 (((View.whole main_arg1).slice (win0_3.rect t)).emb (ix3 0 0 l)) = _
    refine congrArg (V m c main_arg1) ?_
    blk_ext [i3 t]
  · exact congrFun (V_main_arg1 m c) _

theorem w4 (t : Fin cfg0.N) (l : Fin 1024) : iblk m c 4 t (ix3 0 0 l) = arg m c main_arg1 (ix3 (2 : Fin 4) (128 : Fin 136) (⟨2048 + l.val, by omega⟩ : Fin 3072)) := by
  refine Eq.trans (b := V m c main_arg1 ((ix3 (2 : Fin 4) (128 : Fin 136) (⟨2048 + l.val, by omega⟩ : Fin 3072)))) ?_ ?_
  · show V m c main_arg1 (((View.whole main_arg1).slice (win0_4.rect t)).emb (ix3 0 0 l)) = _
    refine congrArg (V m c main_arg1) ?_
    blk_ext [i4 t]
  · exact congrFun (V_main_arg1 m c) _

theorem w5 (t : Fin cfg0.N) (l : Fin 1024) : iblk m c 5 t (ix3 0 0 l) = arg m c main_arg1 (ix3 (3 : Fin 4) (128 : Fin 136) (⟨l.val, by omega⟩ : Fin 3072)) := by
  refine Eq.trans (b := V m c main_arg1 ((ix3 (3 : Fin 4) (128 : Fin 136) (⟨l.val, by omega⟩ : Fin 3072)))) ?_ ?_
  · show V m c main_arg1 (((View.whole main_arg1).slice (win0_5.rect t)).emb (ix3 0 0 l)) = _
    refine congrArg (V m c main_arg1) ?_
    blk_ext [i5 t]
  · exact congrFun (V_main_arg1 m c) _

theorem w6 (t : Fin cfg0.N) (l : Fin 1024) : iblk m c 6 t (ix3 0 0 l) = arg m c main_arg1 (ix3 (3 : Fin 4) (128 : Fin 136) (⟨1024 + l.val, by omega⟩ : Fin 3072)) := by
  refine Eq.trans (b := V m c main_arg1 ((ix3 (3 : Fin 4) (128 : Fin 136) (⟨1024 + l.val, by omega⟩ : Fin 3072)))) ?_ ?_
  · show V m c main_arg1 (((View.whole main_arg1).slice (win0_6.rect t)).emb (ix3 0 0 l)) = _
    refine congrArg (V m c main_arg1) ?_
    blk_ext [i6 t]
  · exact congrFun (V_main_arg1 m c) _

theorem w7 (t : Fin cfg0.N) (l : Fin 1024) : iblk m c 7 t (ix3 0 0 l) = arg m c main_arg1 (ix3 (3 : Fin 4) (128 : Fin 136) (⟨2048 + l.val, by omega⟩ : Fin 3072)) := by
  refine Eq.trans (b := V m c main_arg1 ((ix3 (3 : Fin 4) (128 : Fin 136) (⟨2048 + l.val, by omega⟩ : Fin 3072)))) ?_ ?_
  · show V m c main_arg1 (((View.whole main_arg1).slice (win0_7.rect t)).emb (ix3 0 0 l)) = _
    refine congrArg (V m c main_arg1) ?_
    blk_ext [i7 t]
  · exact congrFun (V_main_arg1 m c) _

theorem w8 (t : Fin cfg0.N) (l : Fin 3088) (a : Fin 1024) : iblk m c 8 t (ix2 l a) = arg m c main_arg2 (ix3 (0 : Fin 1) a l) := by
  refine Eq.trans (b := V m c main_v2 (ix2 l a)) ?_ ?_
  · show V m c main_v2 (((View.whole main_v2).slice (win0_8.rect t)).emb (ix2 l a)) = _
    refine congrArg (V m c main_v2) ?_
    blk_ext [i8 t]
  · exact (congrFun (e2 m c) _).trans (r2 _ l a)

theorem w9 (t : Fin cfg0.N) (a : Fin 128) (l : Fin 512) : iblk m c 9 t (ix2 a l) = (if h : 112 ≤ a.val then arg m c main_arg3 (ix3 (0 : Fin 1) (⟨a.val - 112, by omega⟩ : Fin 16) l) else (0 : EReal)) := by
  refine Eq.trans (b := V m c main_v5 (ix2 a l)) ?_ ?_
  · show V m c main_v5 (((View.whole main_v5).slice (win0_9.rect t)).emb (ix2 a l)) = _
    refine congrArg (V m c main_v5) ?_
    blk_ext [i9 t]
  · exact (congrFun (e5 m c) _).trans (r5 _ a l)

theorem w10 (t : Fin cfg0.N) (l : Fin 512) : iblk m c 10 t (ix2 0 l) = arg m c main_arg4 (ix2 (0 : Fin 1) l) := by
  refine Eq.trans (b := V m c main_v9 (ix2 0 l)) ?_ ?_
  · show V m c main_v9 (((View.whole main_v9).slice (win0_10.rect t)).emb (ix2 0 l)) = _
    refine congrArg (V m c main_v9) ?_
    blk_ext [i10 t]
  · exact (congrFun (e9 m c) _).trans (r9 _ l)

theorem w11 (t : Fin cfg0.N) (l : Fin 256) : iblk m c 11 t (ix2 0 l) = arg m c main_arg5 (ix2 (0 : Fin 1) l) := by
  refine Eq.trans (b := V m c main_v11 (ix2 0 l)) ?_ ?_
  · show V m c main_v11 (((View.whole main_v11).slice (win0_11.rect t)).emb (ix2 0 l)) = _
    refine congrArg (V m c main_v11) ?_
    blk_ext [i11 t]
  · exact (congrFun (e11 m c) _).trans (r11 _ l)

theorem w12 (t : Fin cfg0.N) (a l : Fin 1024) : iblk m c 12 t (ix2 a l) = arg m c main_arg6 (ix3 (0 : Fin 1) a l) := by
  refine Eq.trans (b := V m c main_v7 (ix2 a l)) ?_ ?_
  · show V m c main_v7 (((View.whole main_v7).slice (win0_12.rect t)).emb (ix2 a l)) = _
    refine congrArg (V m c main_v7) ?_
    blk_ext [i12 t]
  · exact (congrFun (e7 m c) _).trans (r7 _ a l)

theorem w13 (t : Fin cfg0.N) (a : Fin 1024) (l : Fin 4096) : iblk m c 13 t (ix2 a l) = arg m c main_arg7 (ix3 (1 : Fin 2) a l) := by
  refine Eq.trans (b := V m c main_v16 (ix2 a l)) ?_ ?_
  · show V m c main_v16 (((View.whole main_v16).slice (win0_13.rect t)).emb (ix2 a l)) = _
    refine congrArg (V m c main_v16) ?_
    blk_ext [i13 t]
  · exact (congrFun (e16 m c) _).trans (r16 _ a l)

theorem w14 (t : Fin cfg0.N) (a : Fin 4096) (l : Fin 1024) : iblk m c 14 t (ix2 a l) = arg m c main_arg8 (ix3 (1 : Fin 2) a l) := by
  refine Eq.trans (b := V m c main_v19 (ix2 a l)) ?_ ?_
  · show V m c main_v19 (((View.whole main_v19).slice (win0_14.rect t)).emb (ix2 a l)) = _
    refine congrArg (V m c main_v19) ?_
    blk_ext [i14 t]
  · exact (congrFun (e19 m c) _).trans (r19 _ a l)

theorem w15 (t : Fin cfg0.N) (l : Fin 1024) : iblk m c 15 t (ix3 0 0 l) = arg m c main_arg9 (ix3 (1 : Fin 2) (0 : Fin 2) l) := by
  refine Eq.trans (b := V m c main_v12 (ix3 (2 : Fin 4) (0 : Fin 1) l)) ?_ ?_
  · show V m c main_v12 (((View.whole main_v12).slice (win0_15.rect t)).emb (ix3 0 0 l)) = _
    refine congrArg (V m c main_v12) ?_
    blk_ext [i15 t]
  · exact (congrFun (e12 m c) _).trans (r12 _ 0 l)

theorem w16 (t : Fin cfg0.N) (l : Fin 1024) : iblk m c 16 t (ix3 0 0 l) = arg m c main_arg10 (ix3 (1 : Fin 2) (0 : Fin 2) l) := by
  refine Eq.trans (b := V m c main_v13 (ix3 (2 : Fin 4) (0 : Fin 1) l)) ?_ ?_
  · show V m c main_v13 (((View.whole main_v13).slice (win0_16.rect t)).emb (ix3 0 0 l)) = _
    refine congrArg (V m c main_v13) ?_
    blk_ext [i16 t]
  · exact (congrFun (e13 m c) _).trans (r12 _ 0 l)

theorem w17 (t : Fin cfg0.N) (l : Fin 1024) : iblk m c 17 t (ix3 0 0 l) = arg m c main_arg9 (ix3 (1 : Fin 2) (1 : Fin 2) l) := by
  refine Eq.trans (b := V m c main_v12 (ix3 (3 : Fin 4) (0 : Fin 1) l)) ?_ ?_
  · show V m c main_v12 (((View.whole main_v12).slice (win0_17.rect t)).emb (ix3 0 0 l)) = _
    refine congrArg (V m c main_v12) ?_
    blk_ext [i17 t]
  · exact (congrFun (e12 m c) _).trans (r12 _ 1 l)

theorem w18 (t : Fin cfg0.N) (l : Fin 1024) : iblk m c 18 t (ix3 0 0 l) = arg m c main_arg10 (ix3 (1 : Fin 2) (1 : Fin 2) l) := by
  refine Eq.trans (b := V m c main_v13 (ix3 (3 : Fin 4) (0 : Fin 1) l)) ?_ ?_
  · show V m c main_v13 (((View.whole main_v13).slice (win0_18.rect t)).emb (ix3 0 0 l)) = _
    refine congrArg (V m c main_v13) ?_
    blk_ext [i18 t]
  · exact (congrFun (e13 m c) _).trans (r12 _ 1 l)

end Cert.KernelIdeal.Value

end
end
-- ==== Proof.Spec.lean ====
/- The layer's mathematics on plain functions of extended reals: one chunk of one head, and the sums over a tile of four
   chunks. -/
module

public import Idealize.ShloMosaic.Lib.Pointwise

@[expose] public section

noncomputable section

namespace Cert.Spec

open Idealize.ShloMosaic

/-- The decays' logs summed over the chunk up to a row. -/
def cB (lg : Fin 64 → Fin 128 → EReal) (i : Fin 64) (k : Fin 128) : EReal := ∑ x : Fin 64, if x ≤ i then lg x k else 0

/-- The state after a chunk. -/
def cS (lg K : Fin 64 → Fin 128 → EReal) (V : Fin 64 → Fin 256 → EReal) (S : Fin 128 → Fin 256 → EReal) (k : Fin 128) (w : Fin 256) : EReal :=
  Ideal.exp (cB lg 63 k) * S k w + ∑ x : Fin 64, (K x k * Ideal.exp (cB lg 63 k - cB lg x k)) * V x w

/-- A chunk's attention over its own rows and over the state before it. -/
def cO (lg Q K : Fin 64 → Fin 128 → EReal) (V : Fin 64 → Fin 256 → EReal) (S : Fin 128 → Fin 256 → EReal) (i : Fin 64) (w : Fin 256) : EReal :=
  (∑ x : Fin 64, if x ≤ i then (∑ k : Fin 128, (Q i k * Ideal.exp (cB lg i k)) * (K x k * Ideal.exp (-cB lg x k))) * V x w else 0)
    + ∑ k : Fin 128, (Q i k * Ideal.exp (cB lg i k)) * S k w

/-- A head's row normed, scaled and gated. -/
def gated (o : Fin 256 → EReal) (ng r : Fin 256 → EReal) (w : Fin 256) : EReal :=
  o w * Ideal.rsqrt (Ideal.div (∑ x, o x * o x) (Ideal.ofBits .f32 0x43800000#32) + Ideal.ofBits .f32 0x3727C5AC#32) * ng w
    * (r w * Ideal.logistic (r w))

/-- A row scaled and shifted. -/
def modrow (x sh sc : Fin 1024 → EReal) (l : Fin 1024) : EReal := x l * (1 + sc l) + sh l

/-- A row's residual before its norm. -/
def resrow (x g y : Fin 1024 → EReal) (l : Fin 1024) : EReal := Ideal.ofBits .f32 0x3FB504F3#32 * x l + g l * y l

/-- A row's mean. -/
def mean (z : Fin 1024 → EReal) : EReal := Ideal.div (∑ l, z l) (Ideal.ofBits .f32 0x44800000#32)

/-- A row's layer norm. -/
def lnrow (z w b : Fin 1024 → EReal) (l : Fin 1024) : EReal :=
  (z l - mean z) * Ideal.rsqrt (mean (fun x => (z x - mean z) * (z x - mean z)) + Ideal.ofBits .f32 0x3727C5AC#32) * w l + b l

/-- The log of the decay. -/
def lgat (p : EReal) : EReal :=
  Ideal.div (min p 0 - Ideal.log1p (Ideal.exp (0 - max p (-p)))) (Ideal.ofBits .f32 0x41800000#32)

theorem sum_tile (f : Fin 256 → EReal) :
    ∑ x, f x = ∑ m : Fin 4, ∑ y : Fin 64, f ⟨64 * m.val + y.val, by omega⟩ := by
  rw [← Fintype.sum_prod_type' (f := fun (m : Fin 4) (y : Fin 64) => f ⟨64 * m.val + y.val, by omega⟩)]
  refine (Fintype.sum_equiv (finProdFinEquiv : Fin 4 × Fin 64 ≃ Fin (4 * 64)) _ _ fun p => ?_).symm
  refine congrArg f (Fin.ext ?_)
  show 64 * p.1.val + p.2.val = p.2.val + 64 * p.1.val
  omega

/-- A sum over a tile's rows of what is zero outside one chunk. -/
theorem sum_chunk (f : Fin 256 → EReal) (n : Fin 4) (h : ∀ x : Fin 256, x.val / 64 ≠ n.val → f x = 0) :
    ∑ x, f x = ∑ y : Fin 64, f ⟨64 * n.val + y.val, by omega⟩ := by
  rw [sum_tile, Finset.sum_eq_single n]
  · intro m _ hm
    refine Finset.sum_eq_zero fun y _ => h _ ?_
    have : m.val ≠ n.val := fun e => hm (Fin.ext e)
    show (64 * m.val + y.val) / 64 ≠ n.val
    omega
  · exact fun h => absurd (Finset.mem_univ n) h

end Cert.Spec

end
end
-- ==== Proof.Mask.lean ====
module
public import proofs.«01_k».proof.Proof.Tile
public import proofs.«01_k».proof.Proof.Spec
public import Idealize.ShloMosaic.Lib.Pointwise
@[expose] public section
set_option maxRecDepth 16384
noncomputable section
namespace Cert.KernelIdeal.Tile
open Idealize.ShloMosaic Cert.KernelIdeal.Gen
/-- The chunk of a tile's row, as the words compute it. -/
def fdiv (x : ℕ) : BitVec 32 :=
  Scalar.select
      (IntOp.andi
        (IntOp.cmpi CmpIPredicate.ne
          (IntOp.subi (BitVec.setWidth 32 (IntOp.cmpi CmpIPredicate.sgt (BitVec.ofNat 32 x) 0#32))
            (BitVec.setWidth 32 (IntOp.cmpi CmpIPredicate.slt (BitVec.ofNat 32 x) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 x) 64#32) 0#32))
      (IntOp.subi (IntOp.divsi ArithUnit.vector (BitVec.ofNat 32 x) 64#32) 1#32)
      (IntOp.divsi ArithUnit.vector (BitVec.ofNat 32 x) 64#32)

theorem fdiv_eq : ∀ x : Fin 256, fdiv x.val = BitVec.ofNat 32 (x.val / 64) := by decide +kernel

theorem mask_words (r x : Fin 256) : mask (ix2 r x) =
    IntOp.andi (IntOp.cmpi CmpIPredicate.eq (fdiv r.val) (fdiv x.val)) (IntOp.cmpi CmpIPredicate.sle (BitVec.ofNat 32 x.val) (BitVec.ofNat 32 r.val)) := by
  pointwise [mask, k0_pay129, k0_pay126, k0_pay127, k0_pay128]; rfl

theorem chunkOf_read (r : Fin 128) (x : Fin 256) : chunkOf (ix2 r x) = BitVec.ofNat 32 (x.val / 64) := by
  have h : chunkOf (ix2 r x) = fdiv x.val := by
    pointwise [chunkOf, k0_pay141, k0_pay139, k0_pay140]; rfl
  rw [h, fdiv_eq]

theorem eq_words : ∀ a b : Fin 4, IntOp.cmpi CmpIPredicate.eq (BitVec.ofNat 32 a.val) (BitVec.ofNat 32 b.val) = if a = b then 1#1 else 0#1 := by
  decide +kernel

theorem sle_words (r x : Fin 256) : IntOp.cmpi CmpIPredicate.sle (BitVec.ofNat 32 x.val) (BitVec.ofNat 32 r.val) = if x.val ≤ r.val then 1#1 else 0#1 := by
  have h : (BitVec.ofNat 32 x.val).sle (BitVec.ofNat 32 r.val) = decide (x.val ≤ r.val) := by
    have hi : ∀ y : Fin 256, (BitVec.ofNat 32 y.val).toInt = (y.val : Int) := by decide +kernel
    rw [BitVec.sle_eq_decide, hi, hi]
    simp
  simp only [IntOp.cmpi, h]
  by_cases hx : x.val ≤ r.val <;> simp [hx]

theorem mask_read (n : Fin 4) (i : Fin 64) (x : Fin 256) : mask (ix2 ⟨64 * n.val + i.val, by omega⟩ x)
    = if x.val / 64 = n.val ∧ x.val ≤ 64 * n.val + i.val then 1#1 else 0#1 := by
  rw [mask_words, fdiv_eq, fdiv_eq, sle_words]
  have e1 := eq_words ⟨(64 * n.val + i.val) / 64, by omega⟩ ⟨x.val / 64, by omega⟩
  simp only [] at e1
  rw [e1]
  have hn : (64 * n.val + i.val) / 64 = n.val := by omega
  simp only [hn, Fin.mk.injEq]
  by_cases h1 : x.val / 64 = n.val
  · by_cases h2 : x.val ≤ 64 * n.val + i.val
    · simp only [h1, h2, and_self, if_true]; rfl
    · simp only [h1, h2, and_false, if_true, if_false]; rfl
  · have h3 : ¬ n.val = x.val / 64 := fun e => h1 e.symm
    simp only [h1, h3, false_and, if_false]
    by_cases h2 : x.val ≤ 64 * n.val + i.val <;> simp only [h2, if_true, if_false] <;> rfl

/-- A sum over a row's masked columns is over its chunk up to the row. -/
theorem sum_mask (f : Fin 256 → EReal) (n : Fin 4) (i : Fin 64) :
    ∑ x, Scalar.select (mask (ix2 ⟨64 * n.val + i.val, by omega⟩ x)) (f x) 0
      = ∑ y : Fin 64, if y ≤ i then f ⟨64 * n.val + y.val, by omega⟩ else 0 := by
  rw [Spec.sum_chunk _ n]
  · refine Finset.sum_congr rfl fun y _ => ?_
    rw [mask_read]
    have h1 : (64 * n.val + y.val) / 64 = n.val := by omega
    by_cases h : y ≤ i
    · have h2 : 64 * n.val + y.val ≤ 64 * n.val + i.val := by have : y.val ≤ i.val := h; omega
      simp only [h1, h2, and_self, if_true, h]; rfl
    · have h2 : ¬ 64 * n.val + y.val ≤ 64 * n.val + i.val := by have : ¬ y.val ≤ i.val := h; omega
      simp only [h1, h2, and_false, if_false, h]; rfl
  · intro x hx
    rw [mask_read]; simp only [hx, false_and, if_false]; rfl

end Cert.KernelIdeal.Tile
end
end
-- ==== Proof.KTile.lean ====
module
public import proofs.«01_k».proof.Proof.Mask
@[expose] public section
set_option maxRecDepth 16384
noncomputable section
namespace Cert.KernelIdeal.Tile
open Idealize.ShloMosaic Cert.KernelIdeal.Gen Cert.Spec

theorem sel_mul (c : BitVec 1) (a b : EReal) : Scalar.select c a 0 * b = Scalar.select c (a * b) (0 : EReal) := by
  by_cases h : c = 1#1
  · rw [show ∀ x : EReal, Scalar.select c x 0 = x from fun x => if_pos h, show ∀ x : EReal, Scalar.select c x 0 = x from fun x => if_pos h]
  · rw [show ∀ x : EReal, Scalar.select c x 0 = 0 from fun x => if_neg h, show ∀ x : EReal, Scalar.select c x 0 = 0 from fun x => if_neg h]; exact zero_mul b

/-- Head `hd`'s keys' columns of chunk `n` of a tile, and its values' columns. -/
def ck {φ : FTy} (a : FVec Ideal S256x512 φ) (hd n : Fin 4) (x : Fin 64) (k : Fin 128) : EReal :=
  a (ix2 ⟨64 * n.val + x.val, by omega⟩ ⟨128 * hd.val + k.val, by omega⟩)
def cv {φ : FTy} (a : FVec Ideal S256x1024 φ) (hd n : Fin 4) (x : Fin 64) (w : Fin 256) : EReal :=
  a (ix2 ⟨64 * n.val + x.val, by omega⟩ ⟨256 * hd.val + w.val, by omega⟩)
def sq (s : FVec Ideal S128x256 .f32) (k : Fin 128) (w : Fin 256) : EReal := s (ix2 k w)

theorem sub_self_le (a : EReal) (h : a ≤ 0) : a + (a - a) = a := by
  induction a with
  | bot => rfl
  | top => exact absurd h (by simp)
  | coe r => rw [← EReal.coe_sub, sub_self]; simp

theorem bv_read (lg : FVec Ideal S256x512 .f32) (hlg : ∀ r l, lg (ix2 r l) ≤ (0 : EReal)) (hd n : Fin 4) (i : Fin 64) (k : Fin 128) :
    ck (bv lg) hd n i k = cB (ck lg hd n) i k := by
  have h1 : ∀ (r : Fin 256) (l : Fin 512), bv lg (ix2 r l) = ∑ x, Scalar.select (mask (ix2 r x)) (lg (ix2 x l)) (0 : EReal) := by
    intro r l
    pointwise [bv]
    rw [← Finset.sum_add_distrib]
    refine Finset.sum_congr rfl fun x _ => ?_
    by_cases hm : mask (ix2 r x) = 1#1
    · simp only [hm, Scalar.select]; exact sub_self_le _ (hlg x l)
    · rw [show ∀ a : EReal, Scalar.select (mask (ix2 r x)) a 0 = 0 from fun a => if_neg hm, show ∀ a : EReal, Scalar.select (mask (ix2 r x)) a 0 = 0 from fun a => if_neg hm]; exact add_zero (0 : EReal)
  unfold ck cB
  rw [h1, sum_mask (fun x => lg (ix2 x _)) n i]

theorem endsv_read (b : FVec Ideal S256x512 .f32) (n : Fin 4) (i : Fin 64) (l : Fin 512) :
    endsv b (ix2 ⟨64 * n.val + i.val, by omega⟩ l) = b (ix2 ⟨64 * n.val + 63, by omega⟩ l) := by
  have hi := i.isLt
  fin_cases n <;> pointwise [endsv] <;> (repeat' split) <;> first | (exfalso; omega) | rfl | skip

theorem kdecv_read (k b : FVec Ideal S256x512 .f32) (hd n : Fin 4) (x : Fin 64) (j : Fin 128) :
    ck (kdecv k b) hd n x j = ck k hd n x j * Ideal.exp (ck b hd n 63 j - ck b hd n x j) := by
  unfold ck
  pointwise [kdecv]
  rw [endsv_read]

theorem qdv_read (q b : FVec Ideal S256x512 .f32) (hd n : Fin 4) (x : Fin 64) (j : Fin 128) :
    ck (qdv q b) hd n x j = ck q hd n x j * Ideal.exp (ck b hd n x j) := by
  unfold ck; pointwise [qdv]

theorem kdv_read (k b : FVec Ideal S256x512 .f32) (hd n : Fin 4) (x : Fin 64) (j : Fin 128) :
    ck (kdv k b) hd n x j = ck k hd n x j * Ideal.exp (-ck b hd n x j) := by
  unfold ck; pointwise [kdv]; rw [zero_sub]

section
variable {hd : Fin 4} (H : HeadAt (128 * hd.val) (256 * hd.val))

theorem decT_read (b : FVec Ideal S256x512 .f32) (n : Fin 4) (k : Fin 128) :
    decT H (decv b) (ix2 k ⟨n.val, by omega⟩) = Ideal.exp (ck b hd n 63 k) := by
  unfold ck
  fin_cases n <;> pointwise [decT, decv] <;> rfl

theorem upd_read (kdec : FVec Ideal S256x512 .f32) (v : FVec Ideal S256x1024 .bf16) (n : Fin 4) (k : Fin 128) (w : Fin 256) :
    upd H kdec v (ix2 ⟨128 * n.val + k.val, by omega⟩ w) = ∑ x : Fin 64, ck kdec hd n x k * cv v hd n x w := by
  have h : upd H kdec v (ix2 ⟨128 * n.val + k.val, by omega⟩ w) = ∑ x : Fin 256,
      Scalar.select (IntOp.cmpi CmpIPredicate.eq (BitVec.ofNat 32 (x.val / 64)) (BitVec.ofNat 32 n.val)) (kdec (ix2 x ⟨128 * hd.val + k.val, by omega⟩)) (0 : EReal)
        * v (ix2 x ⟨256 * hd.val + w.val, by omega⟩) := by
    have hk := k.isLt
    have e1 : 128 + k.val - 128 = k.val := by omega
    have e2 : 256 + k.val - 128 - 128 = k.val := by omega
    have e3 : 384 + k.val - 128 - 128 - 128 = k.val := by omega
    fin_cases n <;> pointwise [upd, kTc, kT] <;> refine Finset.sum_congr rfl fun x _ => ?_ <;> simp only [chunkOf_read] <;>
      (repeat' split) <;> first | (exfalso; omega) | (simp only [sel_mul, e1, e2, e3]; done) | (simp only [sel_mul]; rfl) | skip
  rw [h, sum_chunk _ n]
  · refine Finset.sum_congr rfl fun y _ => ?_
    have h1 : (64 * n.val + y.val) / 64 = n.val := by omega
    simp only [h1]
    rw [eq_words n n, if_pos rfl]; rfl
  · intro x hx
    rw [eq_words ⟨x.val / 64, by omega⟩ n, if_neg (fun e => hx (congrArg Fin.val e))]
    show (0 : EReal) * _ = 0
    exact zero_mul _

theorem intra_read (qd kd : FVec Ideal S256x512 .bf16) (v : FVec Ideal S256x1024 .bf16) (n : Fin 4) (i : Fin 64) (w : Fin 256) :
    intra H qd kd v (ix2 ⟨64 * n.val + i.val, by omega⟩ w)
      = ∑ x : Fin 64, if x ≤ i then (∑ k : Fin 128, ck qd hd n i k * ck kd hd n x k) * cv v hd n x w else 0 := by
  pointwise [intra]
  simp only [← sel_mul]
  unfold ck cv
  rw [← sum_mask (fun x : Fin 256 => (∑ k : Fin 128, qd (ix2 ⟨64 * n.val + i.val, by omega⟩ ⟨128 * hd.val + k.val, by omega⟩)
    * kd (ix2 x ⟨128 * hd.val + k.val, by omega⟩)) * v (ix2 x ⟨256 * hd.val + w.val, by omega⟩)) n i]
  refine Finset.sum_congr rfl fun x _ => ?_
  rw [sel_mul]

theorem stepv_read (dt : FVec Ideal S128x128 .f32) (u : FVec Ideal S512x256 .f32) (s : FVec Ideal S128x256 .f32) (k : Fin 128) (w : Fin 256) :
    st1 dt u s (ix2 k w) = dt (ix2 k ⟨(0 : Fin 4).val, by decide⟩) * s (ix2 k w) + u (ix2 ⟨128 * (0 : Fin 4).val + k.val, by omega⟩ w)
      ∧ st2 dt u s (ix2 k w) = dt (ix2 k ⟨(1 : Fin 4).val, by decide⟩) * st1 dt u s (ix2 k w) + u (ix2 ⟨128 * (1 : Fin 4).val + k.val, by omega⟩ w)
      ∧ st3 dt u s (ix2 k w) = dt (ix2 k ⟨(2 : Fin 4).val, by decide⟩) * st2 dt u s (ix2 k w) + u (ix2 ⟨128 * (2 : Fin 4).val + k.val, by omega⟩ w)
      ∧ st4 dt u s (ix2 k w) = dt (ix2 k ⟨(3 : Fin 4).val, by decide⟩) * st3 dt u s (ix2 k w) + u (ix2 ⟨128 * (3 : Fin 4).val + k.val, by omega⟩ w) := by
  refine ⟨?_, ?_, ?_, ?_⟩
  · pointwise [st1, stepv]
  · pointwise [st2, stepv]
  · pointwise [st3, stepv]
  · pointwise [st4, stepv]

/-- The states inside a tile follow the chunks' recursion. -/
theorem states_read (lg k : FVec Ideal S256x512 .f32) (v : FVec Ideal S256x1024 .bf16) (hlg : ∀ r l, lg (ix2 r l) ≤ (0 : EReal))
    (s : FVec Ideal S128x256 .f32) (T : ℕ → Fin 128 → Fin 256 → EReal) (h0 : sq s = T 0)
    (hT : ∀ n : Fin 4, T (n.val + 1) = cS (ck lg hd n) (ck k hd n) (cv v hd n) (T n.val)) :
    sq (st1 (decT H (decv (bv lg))) (upd H (kdecv k (bv lg)) v) s) = T 1
      ∧ sq (st2 (decT H (decv (bv lg))) (upd H (kdecv k (bv lg)) v) s) = T 2
      ∧ sq (st3 (decT H (decv (bv lg))) (upd H (kdecv k (bv lg)) v) s) = T 3
      ∧ sq (st4 (decT H (decv (bv lg))) (upd H (kdecv k (bv lg)) v) s) = T 4 := by
  have key : ∀ (n : Fin 4) (S : FVec Ideal S128x256 .f32) (S' : FVec Ideal S128x256 .f32), sq S = T n.val →
      (∀ a w, S' (ix2 a w) = decT H (decv (bv lg)) (ix2 a ⟨n.val, by omega⟩) * S (ix2 a w)
        + upd H (kdecv k (bv lg)) v (ix2 ⟨128 * n.val + a.val, by omega⟩ w)) → sq S' = T (n.val + 1) := by
    intro n S S' hS hS'
    rw [hT n, ← hS]
    funext a w
    show S' (ix2 a w) = _
    rw [hS', decT_read, upd_read]
    simp only [kdecv_read, bv_read lg hlg]
    rfl
  have hs := fun a w => stepv_read (decT H (decv (bv lg))) (upd H (kdecv k (bv lg)) v) s a w
  have a1 := key 0 _ _ h0 fun a w => (hs a w).1
  have a2 := key 1 _ _ a1 fun a w => (hs a w).2.1
  have a3 := key 2 _ _ a2 fun a w => (hs a w).2.2.1
  exact ⟨a1, a2, a3, key 3 _ _ a3 fun a w => (hs a w).2.2.2⟩

theorem inter_read (qd : FVec Ideal S256x512 .bf16) (s : FVec Ideal S128x256 .f32) (n : Fin 4)
    (h : S256x512.Slices ![64 * n.val, 128 * hd.val] S64x128) (i : Fin 64) (w : Fin 256) :
    inter qd s (64 * n.val) (128 * hd.val) h (ix2 i w) = ∑ k : Fin 128, ck qd hd n i k * sq s k w := by
  pointwise [inter]
  rfl

/-- A head's output follows the chunks' attention. -/
theorem out_read (lg q k : FVec Ideal S256x512 .f32) (v : FVec Ideal S256x1024 .bf16) (hlg : ∀ r l, lg (ix2 r l) ≤ (0 : EReal))
    (s : FVec Ideal S128x256 .f32) (T : ℕ → Fin 128 → Fin 256 → EReal) (h0 : sq s = T 0)
    (hT : ∀ n : Fin 4, T (n.val + 1) = cS (ck lg hd n) (ck k hd n) (cv v hd n) (T n.val)) (n : Fin 4) (i : Fin 64) (w : Fin 256) :
    outv H (qdv q (bv lg)) (kdv k (bv lg)) v (decT H (decv (bv lg))) (upd H (kdecv k (bv lg)) v) s (ix2 ⟨64 * n.val + i.val, by omega⟩ w)
      = cO (ck lg hd n) (ck q hd n) (ck k hd n) (cv v hd n) (T n.val) i w := by
  obtain ⟨a1, a2, a3, -⟩ := states_read H lg k v hlg s T h0 hT
  have e : outv H (qdv q (bv lg)) (kdv k (bv lg)) v (decT H (decv (bv lg))) (upd H (kdecv k (bv lg)) v) s (ix2 ⟨64 * n.val + i.val, by omega⟩ w)
      = intra H (qdv q (bv lg)) (kdv k (bv lg)) v (ix2 ⟨64 * n.val + i.val, by omega⟩ w)
        + ∑ x : Fin 128, ck (qdv q (bv lg)) hd n i x * T n.val x w := by
    have hi := i.isLt
    generalize qdv q (bv lg) = qd
    generalize decT H (decv (bv lg)) = dt at *
    generalize upd H (kdecv k (bv lg)) v = u at *
    generalize kdv k (bv lg) = kd
    have r0 := inter_read qd s (hd := hd) 0 H.k0 i w
    have r1 := inter_read qd (st1 dt u s) (hd := hd) 1 H.k1 i w
    have r2 := inter_read qd (st2 dt u s) (hd := hd) 2 H.k2 i w
    have r3 := inter_read qd (st3 dt u s) (hd := hd) 3 H.k3 i w
    rw [h0] at r0; rw [a1] at r1; rw [a2] at r2; rw [a3] at r3
    have at_eq : ∀ (f : FVec Ideal S64x256 .f32) (a b : Fin 64), a.val = b.val → f (ix2 a w) = f (ix2 b w) :=
      fun f a b h => congrArg (fun a => f (ix2 a w)) (Fin.ext h)
    fin_cases n <;> pointwise [outv] <;> (repeat' split) <;> first | (exfalso; omega) | skip
    · exact congrArg₂ (· + ·) rfl ((at_eq _ _ _ (by simp)).trans r0)
    · exact congrArg₂ (· + ·) rfl ((at_eq _ _ _ (by simp)).trans r1)
    · exact congrArg₂ (· + ·) rfl ((at_eq _ _ _ (by simp; omega)).trans r2)
    · exact congrArg₂ (· + ·) rfl ((at_eq _ _ _ (by simp; omega)).trans r3)
  rw [e, intra_read]
  simp only [qdv_read, kdv_read, bv_read lg hlg]
  rfl

theorem gatedv_read (o : FVec Ideal S256x256 .f32) (r : FVec Ideal S256x1024 .bf16) (ng : Vec Ideal S1x256 .f32) (n : Fin 4) (i : Fin 64) (w : Fin 256) :
    gatedv H o r ng (ix2 ⟨64 * n.val + i.val, by omega⟩ w)
      = gated (fun w => o (ix2 ⟨64 * n.val + i.val, by omega⟩ w)) (fun w => ng (ix2 0 w)) (cv r hd n i) w := by
  pointwise [gatedv]
  rfl

end

end Cert.KernelIdeal.Tile
end
end
-- ==== Proof.Logs.lean ====
/- The log of a decay is never positive, and the two forms of it are one. -/
module

public import proofs.«01_k».proof.Proof.Spec

@[expose] public section

noncomputable section

namespace Cert.Spec

open Idealize.ShloMosaic

theorem sixteen : Ideal.ofBits .f32 0x41800000#32 = ((16 : ℝ) : EReal) := by
  simp [Ideal.ofBits, Ideal.ieee]; rw [← EReal.coe_mul]; norm_num

theorem exp_nonneg (a : EReal) : 0 ≤ Ideal.exp a := by
  induction a with
  | bot => exact le_refl _
  | top => exact le_top
  | coe r => exact EReal.coe_nonneg.mpr (Real.exp_pos r).le

theorem log1p_nonneg (x : EReal) (h : 0 ≤ x) : 0 ≤ Ideal.log1p x := by
  induction x with
  | bot => exact absurd h (by simp)
  | top =>
    have e : (1 : EReal) + ⊤ = ⊤ := EReal.add_top_of_ne_bot (by decide)
    unfold Ideal.log1p; rw [e]; exact le_top
  | coe r =>
    have hr : 0 ≤ r := EReal.coe_nonneg.mp h
    have e : (1 : EReal) + (r : EReal) = ((1 + r : ℝ) : EReal) := by rw [EReal.coe_add]; rfl
    unfold Ideal.log1p; rw [e]
    show 0 ≤ (if 1 + r ≤ 0 then (⊥ : EReal) else (Real.log (1 + r) : EReal))
    rw [if_neg (by linarith)]
    exact EReal.coe_nonneg.mpr (Real.log_nonneg (by linarith))

theorem lgat_le (p : EReal) : lgat p ≤ 0 := by
  unfold lgat
  have hL := log1p_nonneg _ (exp_nonneg (0 - max p (-p)))
  generalize Ideal.log1p (Ideal.exp (0 - max p (-p))) = L at *
  have hx : min p 0 - L ≤ 0 := by
    rw [sub_eq_add_neg]
    calc min p 0 + -L ≤ 0 + 0 := add_le_add (min_le_right _ _) (by simpa using EReal.neg_le_neg_iff.mpr hL)
      _ = 0 := add_zero _
  generalize min p 0 - L = x at *
  rw [sixteen]
  unfold Ideal.div
  rw [if_neg (by norm_num), ← EReal.coe_inv]
  induction x with
  | bot => rw [EReal.bot_mul_coe_of_pos (by norm_num)]; exact bot_le
  | top => exact absurd hx (by simp)
  | coe r =>
    rw [← EReal.coe_mul]
    have : r ≤ 0 := EReal.coe_nonpos.mp hx
    exact EReal.coe_nonpos.mpr (mul_nonpos_of_nonpos_of_nonneg this (by norm_num))

theorem neg_max_zero (p : EReal) : -(max (-p) 0) = min p 0 := by
  rcases le_total p 0 with h | h
  · rw [max_eq_left (by simpa using EReal.neg_le_neg_iff.mpr h), neg_neg, min_eq_left h]
  · rw [max_eq_right (by simpa using EReal.neg_le_neg_iff.mpr h), neg_zero, min_eq_right h]

theorem lgat_ref (p : EReal) :
    Ideal.div (-(max (-p) 0 + Ideal.log1p (Ideal.exp (-(max (-p) (-(-p))))))) (Ideal.ofBits .f32 0x41800000#32) = lgat p := by
  unfold lgat
  rw [neg_neg, max_comm (-p) p, zero_sub]
  have hL := log1p_nonneg _ (exp_nonneg (-(max p (-p))))
  generalize Ideal.log1p (Ideal.exp (-(max p (-p)))) = L at *
  rw [EReal.neg_add (Or.inl (ne_of_gt (lt_of_lt_of_le (by decide) (le_max_right _ _)))) (Or.inr (ne_of_gt (lt_of_lt_of_le (by decide) hL))), neg_max_zero]

end Cert.Spec

end
end
-- ==== Proof.Layer.lean ====
/- The layer on plain functions: its rows, its chunks' recursion, its results. -/
module

public import proofs.«01_k».proof.Proof.Spec

@[expose] public section

noncomputable section

namespace Cert.Spec

open Idealize.ShloMosaic

/-- What the layer reads. -/
structure Layer where
  X : Fin 16384 → Fin 1024 → EReal
  sh : Fin 1024 → EReal
  sc : Fin 1024 → EReal
  g : Fin 1024 → EReal
  sh2 : Fin 1024 → EReal
  sc2 : Fin 1024 → EReal
  g2 : Fin 1024 → EReal
  W : Fin 1024 → Fin 3088 → EReal
  WU : Fin 16 → Fin 512 → EReal
  BG : Fin 512 → EReal
  NG : Fin 256 → EReal
  WO : Fin 1024 → Fin 1024 → EReal
  W1 : Fin 1024 → Fin 4096 → EReal
  W2 : Fin 4096 → Fin 1024 → EReal
  n1 : Fin 1024 → EReal
  b1 : Fin 1024 → EReal
  n2 : Fin 1024 → EReal
  b2 : Fin 1024 → EReal

namespace Layer
variable (L : Layer)

/-- The projections of a row. -/
def prj (R : Fin 16384) (l : Fin 3088) : EReal := ∑ x, modrow (L.X R) L.sh L.sc x * L.W x l
/-- The gate's argument. -/
def pre (R : Fin 16384) (l : Fin 512) : EReal := (∑ x : Fin 16, L.prj R ⟨3072 + x.val, by omega⟩ * L.WU x l) + L.BG l

/-- Row `i` of chunk `c`. -/
def row (c : ℕ) (i : Fin 64) : Fin 16384 := ⟨c % 256 * 64 + i.val, by omega⟩
def lgC (h : Fin 4) (c : ℕ) (i : Fin 64) (k : Fin 128) : EReal := lgat (L.pre (row c i) ⟨h.val * 128 + k.val, by omega⟩)
def qC (h : Fin 4) (c : ℕ) (i : Fin 64) (k : Fin 128) : EReal :=
  L.prj (row c i) ⟨h.val * 128 + k.val, by omega⟩ * Ideal.ofBits .f32 0x3DB504F3#32
def kC (h : Fin 4) (c : ℕ) (i : Fin 64) (k : Fin 128) : EReal := L.prj (row c i) ⟨512 + (h.val * 128 + k.val), by omega⟩
def vC (h : Fin 4) (c : ℕ) (i : Fin 64) (w : Fin 256) : EReal := L.prj (row c i) ⟨1024 + (h.val * 256 + w.val), by omega⟩
def rC (h : Fin 4) (c : ℕ) (i : Fin 64) (w : Fin 256) : EReal := L.prj (row c i) ⟨2048 + (h.val * 256 + w.val), by omega⟩

/-- The state before chunk `c`. -/
def S (h : Fin 4) : ℕ → Fin 128 → Fin 256 → EReal
  | 0 => fun _ _ => 0
  | c + 1 => cS (L.lgC h c) (L.kC h c) (L.vC h c) (S h c)

/-- The gated attention. -/
def oC (h : Fin 4) (c : ℕ) (i : Fin 64) (w : Fin 256) : EReal :=
  gated (fun w => cO (L.lgC h c) (L.qC h c) (L.kC h c) (L.vC h c) (L.S h c) i w) L.NG (L.rC h c i) w
def o (R : Fin 16384) (l : Fin 1024) : EReal :=
  L.oC ⟨l.val / 256, by omega⟩ (R.val / 64) ⟨R.val % 64, by omega⟩ ⟨l.val % 256, by omega⟩

def x1 (R : Fin 16384) : Fin 1024 → EReal :=
  lnrow (resrow (L.X R) L.g (fun l => ∑ x, L.o R x * L.WO x l)) L.n1 L.b1
def hid (R : Fin 16384) (j : Fin 4096) : EReal := ∑ x, modrow (L.x1 R) L.sh2 L.sc2 x * L.W1 x j
def mlp (R : Fin 16384) (l : Fin 1024) : EReal := ∑ j, max (L.hid R j) 0 * max (L.hid R j) 0 * L.W2 j l
/-- The layer's result. -/
def y (R : Fin 16384) : Fin 1024 → EReal := lnrow (resrow (L.x1 R) L.g2 (L.mlp R)) L.n2 L.b2

end Layer

/-- The layer of the program's arrays. -/
def layer (x : (⟨2, ![16384, 1024]⟩ : Shape).Idx → EReal) (mod : (⟨3, ![4, 136, 3072]⟩ : Shape).Idx → EReal)
    (w : (⟨3, ![1, 1024, 3088]⟩ : Shape).Idx → EReal) (wu : (⟨3, ![1, 16, 512]⟩ : Shape).Idx → EReal)
    (bg : (⟨2, ![1, 512]⟩ : Shape).Idx → EReal) (ng : (⟨2, ![1, 256]⟩ : Shape).Idx → EReal)
    (wo : (⟨3, ![1, 1024, 1024]⟩ : Shape).Idx → EReal) (w1 : (⟨3, ![2, 1024, 4096]⟩ : Shape).Idx → EReal)
    (w2 : (⟨3, ![2, 4096, 1024]⟩ : Shape).Idx → EReal) (lg lb : (⟨3, ![2, 2, 1024]⟩ : Shape).Idx → EReal) : Layer where
  X R l := x (ix2 R l)
  sh l := mod (ix3 (2 : Fin 4) (128 : Fin 136) (⟨l.val, by omega⟩ : Fin 3072))
  sc l := mod (ix3 (2 : Fin 4) (128 : Fin 136) (⟨1024 + l.val, by omega⟩ : Fin 3072))
  g l := mod (ix3 (2 : Fin 4) (128 : Fin 136) (⟨2048 + l.val, by omega⟩ : Fin 3072))
  sh2 l := mod (ix3 (3 : Fin 4) (128 : Fin 136) (⟨l.val, by omega⟩ : Fin 3072))
  sc2 l := mod (ix3 (3 : Fin 4) (128 : Fin 136) (⟨1024 + l.val, by omega⟩ : Fin 3072))
  g2 l := mod (ix3 (3 : Fin 4) (128 : Fin 136) (⟨2048 + l.val, by omega⟩ : Fin 3072))
  W a l := w (ix3 (0 : Fin 1) a l)
  WU a l := wu (ix3 (0 : Fin 1) a l)
  BG l := bg (ix2 (0 : Fin 1) l)
  NG l := ng (ix2 (0 : Fin 1) l)
  WO a l := wo (ix3 (0 : Fin 1) a l)
  W1 a l := w1 (ix3 (1 : Fin 2) a l)
  W2 a l := w2 (ix3 (1 : Fin 2) a l)
  n1 l := lg (ix3 (1 : Fin 2) (0 : Fin 2) l)
  b1 l := lb (ix3 (1 : Fin 2) (0 : Fin 2) l)
  n2 l := lg (ix3 (1 : Fin 2) (1 : Fin 2) l)
  b2 l := lb (ix3 (1 : Fin 2) (1 : Fin 2) l)

end Cert.Spec

end
end
-- ==== Proof.KTop.lean ====
/- A tile of the kernel, read as the layer's chunks and rows. -/
module

public import proofs.«01_k».proof.Proof.KTile
public import proofs.«01_k».proof.Proof.Logs
public import proofs.«01_k».proof.Proof.Layer
public import Idealize.ShloMosaic.Lib.FinSumWindow

@[expose] public section

set_option maxRecDepth 16384

noncomputable section

namespace Cert.KernelIdeal.Tile

open Idealize.ShloMosaic Cert.KernelIdeal.Gen Cert.Spec

/-! ## Loads of parts of an array -/

theorem ldw {e : EltTy} (w : Vec Ideal S3088x1024 e) (o n : ℕ) (inb) (l : Fin n) (a : Fin 1024) (h : o + l.val < 3088) :
    View.ld w (Rect.unit (s := S3088x1024) ![o, 0] ![n, 1024] inb) (ix2 l a) = w (ix2 ⟨o + l.val, h⟩ a) := by
  refine congrArg w (funext fun b => ?_)
  match b with
  | ⟨0, _⟩ => exact Fin.ext (by simp [Rect.unit])
  | ⟨1, _⟩ => exact Fin.ext (by simp [Rect.unit])

theorem row8_read (x : Vec Ideal S1x8x1024 .f32) (l : Fin 1024) : row8 x (ix3 0 0 l) = x (ix3 0 0 l) := by
  unfold row8
  refine congrArg x (funext fun b => ?_)
  match b with
  | ⟨0, _⟩ => exact Fin.ext (by simp [Rect.unit])
  | ⟨1, _⟩ => exact Fin.ext (by simp [Rect.unit])
  | ⟨2, _⟩ => exact Fin.ext (by simp [Rect.unit])

theorem ldc {e : EltTy} (w : Vec Ideal S1024x4096 e) (o : ℕ) (inb) (a l : Fin 1024) (h : o + l.val < 4096) :
    View.ld w (Rect.unit (s := S1024x4096) ![0, o] ![1024, 1024] inb) (ix2 a l) = w (ix2 a ⟨o + l.val, h⟩) := by
  refine congrArg w (funext fun b => ?_)
  match b with
  | ⟨0, _⟩ => exact Fin.ext (by simp [Rect.unit])
  | ⟨1, _⟩ => exact Fin.ext (by simp [Rect.unit])

theorem ldr {e : EltTy} (w : Vec Ideal S4096x1024 e) (o : ℕ) (inb) (l a : Fin 1024) (h : o + l.val < 4096) :
    View.ld w (Rect.unit (s := S4096x1024) ![o, 0] ![1024, 1024] inb) (ix2 l a) = w (ix2 ⟨o + l.val, h⟩ a) := by
  refine congrArg w (funext fun b => ?_)
  match b with
  | ⟨0, _⟩ => exact Fin.ext (by simp [Rect.unit])
  | ⟨1, _⟩ => exact Fin.ext (by simp [Rect.unit])

theorem proj5_apply (h : Vec Ideal S256x1024 .bf16) (w : Vec Ideal S512x1024 .bf16) (r : Fin 256) (l : Fin 512) :
    proj5 h w (ix2 r l) = ∑ a : Fin 1024, h (ix2 r a) * w (ix2 l a) := by
  pointwise [proj5]

theorem proj10_apply (h : Vec Ideal S256x1024 .bf16) (w : Vec Ideal S1024x1024 .bf16) (r : Fin 256) (l : Fin 1024) :
    proj10 h w (ix2 r l) = ∑ a : Fin 1024, h (ix2 r a) * w (ix2 l a) := by
  pointwise [proj10]

theorem qv_apply (h : Vec Ideal S256x1024 .bf16) (w : Vec Ideal S512x1024 .bf16) (r : Fin 256) (l : Fin 512) :
    qv h w (ix2 r l) = (∑ a : Fin 1024, h (ix2 r a) * w (ix2 l a)) * Ideal.ofBits .f32 0x3DB504F3#32 := by
  pointwise [qv, proj5]

theorem prev_apply (h : Vec Ideal S256x1024 .bf16) (w : Vec Ideal S128x1024 .bf16) (wu : Vec Ideal S128x512 .bf16) (bg : Vec Ideal S1x512 .f32) (r : Fin 256)
    (l : Fin 512) : prev h w wu bg (ix2 r l) = (∑ b : Fin 128, (∑ a : Fin 1024, h (ix2 r a) * w (ix2 b a)) * wu (ix2 b l)) + bg (ix2 0 l) := by
  pointwise [prev]

theorem lgv_apply (p : Vec Ideal S256x512 .f32) (r : Fin 256) (l : Fin 512) : lgv (F := Idealize.ShloMosaic.Ideal) p (ix2 r l) = lgat (p (ix2 r l)) := by
  pointwise [lgv]
  rfl

theorem st0_apply (s : Vec Ideal S1x128x256 .f32) : sq (st0 s) = fun k w => s (ix3 0 k w) := by
  funext k w
  unfold sq
  pointwise [st0]

/-! ## The tile's recurrence -/

/-- A tile's row as a row of the layer. -/
def rowT (T : ℕ) (r : Fin 256) : Fin 16384 := ⟨T % 64 * 256 + r.val, by omega⟩

/-- What a tile reads of the layer. -/
structure Reads (L : Layer) (T : ℕ) (x : Vec Ideal S256x1024 .f32) (sh sc : Vec Ideal S1x8x1024 .f32) (w : Vec Ideal S3088x1024 .bf16)
    (wu : Vec Ideal S128x512 .bf16) (bg : Vec Ideal S1x512 .f32) : Prop where
  x : ∀ r l, x (ix2 r l) = L.X (rowT T r) l
  sh : ∀ l, sh (ix3 0 0 l) = L.sh l
  sc : ∀ l, sc (ix3 0 0 l) = L.sc l
  w : ∀ l a, w (ix2 l a) = L.W a l
  wu0 : ∀ (a : Fin 128) l, a.val < 112 → wu (ix2 a l) = (0 : EReal)
  wu : ∀ (a : Fin 16) l, wu (ix2 ⟨112 + a.val, by omega⟩ l) = L.WU a l
  bg : ∀ l, bg (ix2 0 l) = L.BG l

section
variable {L : Layer} {T : ℕ} {x : Vec Ideal S256x1024 .f32} {sh sc : Vec Ideal S1x8x1024 .f32} {w : Vec Ideal S3088x1024 .bf16}
  {wu : Vec Ideal S128x512 .bf16} {bg : Vec Ideal S1x512 .f32} (H : Reads L T x sh sc w wu bg)
include H

theorem hin_read (r : Fin 256) (l : Fin 1024) : hin x (row8 sh) (row8 sc) (ix2 r l) = modrow (L.X (rowT T r)) L.sh L.sc l := by
  pointwise [hin]
  rw [row8_read, row8_read, H.x, H.sh, H.sc]
  rfl

theorem prj_ld (o n : ℕ) (inb) (r : Fin 256) (l : Fin n) (h : o + l.val < 3088) :
    (∑ a : Fin 1024, (hin x (row8 sh) (row8 sc) (ix2 r a) * View.ld w (Rect.unit (s := S3088x1024) ![o, 0] ![n, 1024] inb) (ix2 l a) : EReal))
      = L.prj (rowT T r) ⟨o + l.val, h⟩ := by
  refine Finset.sum_congr rfl fun a _ => ?_
  rw [hin_read H]
  exact congrArg (fun z : EReal => _ * z) ((ldw w o n inb l a h).trans (H.w _ _))

omit H in
theorem rowT_chunk (n : Fin 4) (i : Fin 64) (h : 64 * n.val + i.val < 256) : rowT T ⟨64 * n.val + i.val, h⟩ = Layer.row (4 * T + n.val) i :=
  Fin.ext (by show T % 64 * 256 + (64 * n.val + i.val) = (4 * T + n.val) % 256 * 64 + i.val; omega)

theorem q_read (inb) (hd n : Fin 4) (i : Fin 64) (k : Fin 128) :
    ck (qv (hin x (row8 sh) (row8 sc)) (View.ld w (Rect.unit (s := S3088x1024) ![0, 0] ![512, 1024] inb))) hd n i k = L.qC hd (4 * T + n.val) i k := by
  unfold ck
  refine ((qv_apply _ _ _ _).trans (congrArg (· * _) (prj_ld H 0 512 inb _ _ (by show 0 + (128 * hd.val + k.val) < 3088; omega)))).trans ?_
  rw [rowT_chunk]
  exact congrArg (fun z => L.prj _ z * _) (Fin.ext (by show 0 + (128 * hd.val + k.val) = hd.val * 128 + k.val; omega))

theorem k_read (inb) (hd n : Fin 4) (i : Fin 64) (k : Fin 128) :
    ck (proj5 (hin x (row8 sh) (row8 sc)) (View.ld w (Rect.unit (s := S3088x1024) ![512, 0] ![512, 1024] inb))) hd n i k = L.kC hd (4 * T + n.val) i k := by
  unfold ck
  refine ((proj5_apply _ _ _ _).trans (prj_ld H 512 512 inb _ _ (by show 512 + (128 * hd.val + k.val) < 3088; omega))).trans ?_
  rw [rowT_chunk]
  exact congrArg (fun z => L.prj _ z) (Fin.ext (by show 512 + (128 * hd.val + k.val) = 512 + (hd.val * 128 + k.val); omega))

theorem v_read (inb) (hd n : Fin 4) (i : Fin 64) (k : Fin 256) :
    cv (proj10 (hin x (row8 sh) (row8 sc)) (View.ld w (Rect.unit (s := S3088x1024) ![1024, 0] ![1024, 1024] inb))) hd n i k = L.vC hd (4 * T + n.val) i k := by
  unfold cv
  refine ((proj10_apply _ _ _ _).trans (prj_ld H 1024 1024 inb _ _ (by show 1024 + (256 * hd.val + k.val) < 3088; omega))).trans ?_
  rw [rowT_chunk]
  exact congrArg (fun z => L.prj _ z) (Fin.ext (by show 1024 + (256 * hd.val + k.val) = 1024 + (hd.val * 256 + k.val); omega))

theorem r_read (inb) (hd n : Fin 4) (i : Fin 64) (k : Fin 256) :
    cv (proj10 (hin x (row8 sh) (row8 sc)) (View.ld w (Rect.unit (s := S3088x1024) ![2048, 0] ![1024, 1024] inb))) hd n i k = L.rC hd (4 * T + n.val) i k := by
  unfold cv
  refine ((proj10_apply _ _ _ _).trans (prj_ld H 2048 1024 inb _ _ (by show 2048 + (256 * hd.val + k.val) < 3088; omega))).trans ?_
  rw [rowT_chunk]
  exact congrArg (fun z => L.prj _ z) (Fin.ext (by show 2048 + (256 * hd.val + k.val) = 2048 + (hd.val * 256 + k.val); omega))

theorem pre_read (inb) (r : Fin 256) (l : Fin 512) :
    prev (hin x (row8 sh) (row8 sc)) (View.ld w (Rect.unit (s := S3088x1024) ![2960, 0] ![128, 1024] inb)) wu bg (ix2 r l) = L.pre (rowT T r) l := by
  refine (prev_apply _ _ _ _ _ _).trans ?_
  rw [H.bg, Finset.sum_congr rfl fun b _ => congrArg (fun z : EReal => z * wu (ix2 b l)) (prj_ld H 2960 128 inb r b (by omega))]
  refine congrArg (· + L.BG l) ?_
  rw [FinSumWindow.sum_window (N := 128) (W := 16) 112 (by decide)]
  · refine Finset.sum_congr rfl fun a _ => ?_
    rw [H.wu]
    exact congrArg (fun z => L.prj _ z * _) (Fin.ext (by show 2960 + (112 + a.val) = 3072 + a.val; omega))
  · intro a ha
    rw [H.wu0 a l (by omega), mul_zero]

theorem lg_read (inb) (r : Fin 256) (l : Fin 512) :
    lgv (prev (hin x (row8 sh) (row8 sc)) (View.ld w (Rect.unit (s := S3088x1024) ![2960, 0] ![128, 1024] inb)) wu bg) (ix2 r l) = lgat (L.pre (rowT T r) l) := by
  rw [lgv_apply, pre_read H]

theorem lgC_read (inb) (hd n : Fin 4) (i : Fin 64) (k : Fin 128) :
    ck (lgv (prev (hin x (row8 sh) (row8 sc)) (View.ld w (Rect.unit (s := S3088x1024) ![2960, 0] ![128, 1024] inb)) wu bg)) hd n i k = L.lgC hd (4 * T + n.val) i k := by
  unfold ck
  rw [lg_read H, rowT_chunk]
  exact congrArg (fun z => lgat (L.pre _ z)) (Fin.ext (by show 128 * hd.val + k.val = hd.val * 128 + k.val; omega))

variable {hd : Fin 4} (HA : HeadAt (128 * hd.val) (256 * hd.val)) (s : Vec Ideal S1x128x256 .f32)
  (hs : ∀ k w, s (ix3 0 k w) = L.S hd (4 * T) k w)
include hs

theorem rec_read (ib ik iv) (n : Fin 4) : L.S hd (4 * T + (n.val + 1))
    = cS (ck (lgv (prev (hin x (row8 sh) (row8 sc)) (View.ld w (Rect.unit (s := S3088x1024) ![2960, 0] ![128, 1024] ib)) wu bg)) hd n)
      (ck (proj5 (hin x (row8 sh) (row8 sc)) (View.ld w (Rect.unit (s := S3088x1024) ![512, 0] ![512, 1024] ik))) hd n)
      (cv (proj10 (hin x (row8 sh) (row8 sc)) (View.ld w (Rect.unit (s := S3088x1024) ![1024, 0] ![1024, 1024] iv))) hd n) (L.S hd (4 * T + n.val)) := by
  have e1 := funext fun i => funext fun k => lgC_read H ib hd n i k
  have e2 := funext fun i => funext fun k => k_read H ik hd n i k
  have e3 := funext fun i => funext fun k => v_read H iv hd n i k
  rw [e1, e2, e3]
  rfl

theorem tileState_read (ib ik iv) (k : Fin 128) (v : Fin 256) :
    tileState HA x (row8 sh) (row8 sc) (View.ld w (Rect.unit (s := S3088x1024) ![512, 0] ![512, 1024] ik))
      (View.ld w (Rect.unit (s := S3088x1024) ![1024, 0] ![1024, 1024] iv)) (View.ld w (Rect.unit (s := S3088x1024) ![2960, 0] ![128, 1024] ib)) wu bg s (ix3 0 k v)
      = L.S hd (4 * T + 4) k v := by
  pointwise [tileState]
  have h := (states_read HA _ _ _ (fun r l => (lg_read H ib r l).trans_le (lgat_le _)) (st0 s) (fun n => L.S hd (4 * T + n))
    ((st0_apply s).trans (funext fun k => funext fun w => hs k w)) (rec_read H s hs ib ik iv)).2.2.2
  exact congrFun (congrFun h k) v

theorem tileOut_read (ib iq ik iv ir) (ng : Vec Ideal S1x256 .f32) (hng : ∀ l, ng (ix2 0 l) = L.NG l) (n : Fin 4) (i : Fin 64) (v : Fin 256) :
    tileOut HA x (row8 sh) (row8 sc) (View.ld w (Rect.unit (s := S3088x1024) ![0, 0] ![512, 1024] iq)) (View.ld w (Rect.unit (s := S3088x1024) ![512, 0] ![512, 1024] ik))
      (View.ld w (Rect.unit (s := S3088x1024) ![1024, 0] ![1024, 1024] iv)) (View.ld w (Rect.unit (s := S3088x1024) ![2048, 0] ![1024, 1024] ir))
      (View.ld w (Rect.unit (s := S3088x1024) ![2960, 0] ![128, 1024] ib)) wu bg ng s (ix2 ⟨64 * n.val + i.val, by omega⟩ v)
      = L.oC hd (4 * T + n.val) i v := by
  unfold tileOut
  rw [gatedv_read]
  have h := fun w' => out_read HA _ (qv (hin x (row8 sh) (row8 sc)) (View.ld w (Rect.unit (s := S3088x1024) ![0, 0] ![512, 1024] iq))) _ _
    (fun r l => (lg_read H ib r l).trans_le (lgat_le _)) (st0 s) (fun n => L.S hd (4 * T + n))
    ((st0_apply s).trans (funext fun k => funext fun w => hs k w)) (rec_read H s hs ib ik iv) n i w'
  have e1 := funext fun i => funext fun k => lgC_read H ib hd n i k
  have e2 := funext fun i => funext fun k => k_read H ik hd n i k
  have e3 := funext fun i => funext fun k => v_read H iv hd n i k
  have e4 := funext fun i => funext fun k => q_read H iq hd n i k
  have e5 := funext fun k => r_read H ir hd n i k
  rw [e1, e2, e3, e4] at h
  unfold Layer.oC tB
  rw [funext h, e5, funext hng]

end

end Cert.KernelIdeal.Tile

end
end
-- ==== Proof.KTail.lean ====
/- A tile's state, its gated attention and the layer's result on it, read on whole arrays. -/
module

public import proofs.«01_k».proof.Proof.KTop

@[expose] public section

set_option maxRecDepth 16384

noncomputable section

namespace Cert.KernelIdeal.Tile

open Idealize.ShloMosaic Cert.KernelIdeal.Gen Cert.Spec

section
variable {L : Layer} {T : ℕ} {x : Vec Ideal S256x1024 .f32} {sh sc : Vec Ideal S1x8x1024 .f32} {w : Vec Ideal S3088x1024 .bf16}
  {wu : Vec Ideal S128x512 .bf16} {bg : Vec Ideal S1x512 .f32} (H : Reads L T x sh sc w wu bg)
  (s : Vec Ideal S4x128x256 .f32) (hs : ∀ h k v, s (ix3 h k v) = L.S h (4 * T) k v)
include H hs

theorem tileS_read (h : Fin 4) (k : Fin 128) (v : Fin 256) : tileS x sh sc w wu bg s (ix3 h k v) = L.S h (4 * T + 4) k v :=
  match h with
  | ⟨0, _⟩ => tileState_read H (hd := 0) head0 (headOf s 0) (fun k w => hs 0 k w) _ _ _ k v
  | ⟨1, _⟩ => tileState_read H (hd := 1) head1 (headOf s 1) (fun k w => hs 1 k w) _ _ _ k v
  | ⟨2, _⟩ => tileState_read H (hd := 2) head2 (headOf s 2) (fun k w => hs 2 k w) _ _ _ k v
  | ⟨3, _⟩ => tileState_read H (hd := 3) head3 (headOf s 3) (fun k w => hs 3 k w) _ _ _ k v

theorem tileO_aux (ng : Vec Ideal S1x256 .f32) (hng : ∀ l, ng (ix2 0 l) = L.NG l) (h n : Fin 4) (i : Fin 64) (v : Fin 256) :
    (![tileOut head0 x (row8 sh) (row8 sc) (View.ld w (Rect.unit ![0, 0] ![512, 1024] inb_S3088x1024_S512x1024_0_0)) (View.ld w (Rect.unit ![512, 0] ![512, 1024] inb_S3088x1024_S512x1024_512_0)) (View.ld w (Rect.unit ![1024, 0] ![1024, 1024] inb_S3088x1024_S1024x1024_1024_0)) (View.ld w (Rect.unit ![2048, 0] ![1024, 1024] inb_S3088x1024_S1024x1024_2048_0)) (View.ld w (Rect.unit ![2960, 0] ![128, 1024] inb_S3088x1024_S128x1024_2960_0)) wu bg ng (headOf s 0),
      tileOut head1 x (row8 sh) (row8 sc) (View.ld w (Rect.unit ![0, 0] ![512, 1024] inb_S3088x1024_S512x1024_0_0)) (View.ld w (Rect.unit ![512, 0] ![512, 1024] inb_S3088x1024_S512x1024_512_0)) (View.ld w (Rect.unit ![1024, 0] ![1024, 1024] inb_S3088x1024_S1024x1024_1024_0)) (View.ld w (Rect.unit ![2048, 0] ![1024, 1024] inb_S3088x1024_S1024x1024_2048_0)) (View.ld w (Rect.unit ![2960, 0] ![128, 1024] inb_S3088x1024_S128x1024_2960_0)) wu bg ng (headOf s 1),
      tileOut head2 x (row8 sh) (row8 sc) (View.ld w (Rect.unit ![0, 0] ![512, 1024] inb_S3088x1024_S512x1024_0_0)) (View.ld w (Rect.unit ![512, 0] ![512, 1024] inb_S3088x1024_S512x1024_512_0)) (View.ld w (Rect.unit ![1024, 0] ![1024, 1024] inb_S3088x1024_S1024x1024_1024_0)) (View.ld w (Rect.unit ![2048, 0] ![1024, 1024] inb_S3088x1024_S1024x1024_2048_0)) (View.ld w (Rect.unit ![2960, 0] ![128, 1024] inb_S3088x1024_S128x1024_2960_0)) wu bg ng (headOf s 2),
      tileOut head3 x (row8 sh) (row8 sc) (View.ld w (Rect.unit ![0, 0] ![512, 1024] inb_S3088x1024_S512x1024_0_0)) (View.ld w (Rect.unit ![512, 0] ![512, 1024] inb_S3088x1024_S512x1024_512_0)) (View.ld w (Rect.unit ![1024, 0] ![1024, 1024] inb_S3088x1024_S1024x1024_1024_0)) (View.ld w (Rect.unit ![2048, 0] ![1024, 1024] inb_S3088x1024_S1024x1024_2048_0)) (View.ld w (Rect.unit ![2960, 0] ![128, 1024] inb_S3088x1024_S128x1024_2960_0)) wu bg ng (headOf s 3)] h)
      (ix2 ⟨64 * n.val + i.val, by omega⟩ v) = L.oC h (4 * T + n.val) i v :=
  match h with
  | ⟨0, _⟩ => tileOut_read H (hd := 0) head0 (headOf s 0) (fun k w => hs 0 k w) _ _ _ _ _ ng hng n i v
  | ⟨1, _⟩ => tileOut_read H (hd := 1) head1 (headOf s 1) (fun k w => hs 1 k w) _ _ _ _ _ ng hng n i v
  | ⟨2, _⟩ => tileOut_read H (hd := 2) head2 (headOf s 2) (fun k w => hs 2 k w) _ _ _ _ _ ng hng n i v
  | ⟨3, _⟩ => tileOut_read H (hd := 3) head3 (headOf s 3) (fun k w => hs 3 k w) _ _ _ _ _ ng hng n i v

theorem tileO_read (hT : T < 64) (ng : Vec Ideal S1x256 .f32) (hng : ∀ l, ng (ix2 0 l) = L.NG l) (r : Fin 256) (l : Fin 1024) :
    tileO x sh sc w wu bg ng s (ix2 r l) = L.o (rowT T r) l := by
  have e : ix2 r ⟨l.val % 256, by omega⟩ = ix2 (⟨64 * (r.val / 64) + r.val % 64, by omega⟩ : Fin 256) (⟨l.val % 256, by omega⟩ : Fin 256) :=
    congrArg (fun z => ix2 z (⟨l.val % 256, by omega⟩ : Fin 256)) (Fin.ext (by show r.val = 64 * (r.val / 64) + r.val % 64; omega))
  have h := tileO_aux H s hs ng hng ⟨l.val / 256, by omega⟩ ⟨r.val / 64, by omega⟩ ⟨r.val % 64, by omega⟩ ⟨l.val % 256, by omega⟩
  have e2 : (rowT T r).val / 64 = 4 * T + r.val / 64 := by show (T % 64 * 256 + r.val) / 64 = _; omega
  have e3 : (⟨(rowT T r).val % 64, by omega⟩ : Fin 64) = ⟨r.val % 64, by omega⟩ := Fin.ext (by show (T % 64 * 256 + r.val) % 64 = r.val % 64; omega)
  unfold Layer.o
  rw [e2, e3, ← h]
  unfold tileO cols4
  exact congrArg _ e

end

/-! ## The tail -/

theorem mul10_read (h : FVec Ideal S256x1024 .bf16) (w : Vec Ideal S1024x1024 .bf16) (r : Fin 256) (l : Fin 1024) :
    mul10 h w (ix2 r l) = ∑ a : Fin 1024, h (ix2 r a) * w (ix2 a l) := by
  pointwise [mul10]

theorem resln_read (x : FVec Ideal S256x1024 .f32) (g : Vec Ideal S1x1x1024 .f32) (y : FVec Ideal S256x1024 .f32) (w b : Vec Ideal S1x1x1024 .f32)
    (r : Fin 256) (l : Fin 1024) : resln x g y w b (ix2 r l)
      = lnrow (resrow (fun l => x (ix2 r l)) (fun l => g (ix3 0 0 l)) (fun l => y (ix2 r l))) (fun l => w (ix3 0 0 l)) (fun l => b (ix3 0 0 l)) l := by
  pointwise [resln]
  rfl

theorem cast10_eq {φ : FTy} (x : FVec Ideal S256x1024 φ) (r : Fin 256) (l : Fin 1024) : cast10 x (ix2 r l) = x (ix2 r l) := by
  pointwise [cast10]

theorem mlpIn_read (x : FVec Ideal S256x1024 .f32) (sh sc : Vec Ideal S1x1x1024 .f32) (r : Fin 256) (l : Fin 1024) :
    mlpIn x sh sc (ix2 r l) = modrow (fun l => x (ix2 r l)) (fun l => sh (ix3 0 0 l)) (fun l => sc (ix3 0 0 l)) l := by
  unfold mlpIn
  rw [cast10_eq]
  pointwise [hin]
  rfl

theorem mlpPart_read (h : FVec Ideal S256x1024 .bf16) (w1 w2 : Vec Ideal S1024x1024 .bf16) (r : Fin 256) (l : Fin 1024) :
    mlpPart h w1 w2 (ix2 r l) = ∑ j : Fin 1024, max (∑ a : Fin 1024, h (ix2 r a) * w1 (ix2 a j) : EReal) 0 * max (∑ a : Fin 1024, h (ix2 r a) * w1 (ix2 a j) : EReal) 0 * w2 (ix2 j l) := by
  unfold mlpPart
  rw [mul10_read]
  refine Finset.sum_congr rfl fun j _ => congrArg (fun z : EReal => z * w2 (ix2 j l)) ?_
  rw [← mul10_read]
  generalize mul10 h w1 = m
  pointwise []

theorem sum_parts (f : Fin 4096 → EReal) : ∑ j, f j
    = (∑ j : Fin 1024, f ⟨0 + j.val, by omega⟩) + (∑ j : Fin 1024, f ⟨1024 + j.val, by omega⟩) + (∑ j : Fin 1024, f ⟨2048 + j.val, by omega⟩)
      + ∑ j : Fin 1024, f ⟨3072 + j.val, by omega⟩ := by
  have e : ∑ j, f j = ∑ m : Fin 4, ∑ y : Fin 1024, f ⟨1024 * m.val + y.val, by omega⟩ := by
    rw [← Fintype.sum_prod_type' (f := fun (m : Fin 4) (y : Fin 1024) => f ⟨1024 * m.val + y.val, by omega⟩)]
    refine (Fintype.sum_equiv (finProdFinEquiv : Fin 4 × Fin 1024 ≃ Fin (4 * 1024)) _ _ fun p => ?_).symm
    refine congrArg f (Fin.ext ?_)
    show 1024 * p.1.val + p.2.val = p.2.val + 1024 * p.1.val
    omega
  rw [e, Fin.sum_univ_four]
  rfl

theorem accv_read (h : FVec Ideal S256x1024 .bf16) (w1 : Vec Ideal S1024x4096 .bf16) (w2 : Vec Ideal S4096x1024 .bf16) (r : Fin 256) (l : Fin 1024) :
    accv h (View.ld w1 (Rect.unit ![0, 0] ![1024, 1024] inb_S1024x4096_S1024x1024_0_0)) (View.ld w1 (Rect.unit ![0, 1024] ![1024, 1024] inb_S1024x4096_S1024x1024_0_1024)) (View.ld w1 (Rect.unit ![0, 2048] ![1024, 1024] inb_S1024x4096_S1024x1024_0_2048)) (View.ld w1 (Rect.unit ![0, 3072] ![1024, 1024] inb_S1024x4096_S1024x1024_0_3072))
      (View.ld w2 (Rect.unit ![0, 0] ![1024, 1024] inb_S4096x1024_S1024x1024_0_0)) (View.ld w2 (Rect.unit ![1024, 0] ![1024, 1024] inb_S4096x1024_S1024x1024_1024_0)) (View.ld w2 (Rect.unit ![2048, 0] ![1024, 1024] inb_S4096x1024_S1024x1024_2048_0)) (View.ld w2 (Rect.unit ![3072, 0] ![1024, 1024] inb_S4096x1024_S1024x1024_3072_0)) (ix2 r l)
      = ∑ j : Fin 4096, max (∑ a : Fin 1024, h (ix2 r a) * w1 (ix2 a j) : EReal) 0 * max (∑ a : Fin 1024, h (ix2 r a) * w1 (ix2 a j) : EReal) 0 * w2 (ix2 j l) := by
  have part : ∀ (o : ℕ) (i1 i2) (hb : ∀ j : Fin 1024, o + j.val < 4096),
      mlpPart h (View.ld w1 (Rect.unit (s := S1024x4096) ![0, o] ![1024, 1024] i1)) (View.ld w2 (Rect.unit (s := S4096x1024) ![o, 0] ![1024, 1024] i2)) (ix2 r l)
        = ∑ j : Fin 1024, max (∑ a : Fin 1024, h (ix2 r a) * w1 (ix2 a ⟨o + j.val, hb j⟩) : EReal) 0
          * max (∑ a : Fin 1024, h (ix2 r a) * w1 (ix2 a ⟨o + j.val, hb j⟩) : EReal) 0 * w2 (ix2 ⟨o + j.val, hb j⟩ l) := fun o i1 i2 hb => by
    refine (mlpPart_read _ _ _ _ _).trans (Finset.sum_congr rfl fun j _ => ?_)
    have e1 : (∑ a : Fin 1024, (h (ix2 r a) * View.ld w1 (Rect.unit (s := S1024x4096) ![0, o] ![1024, 1024] i1) (ix2 a j) : EReal))
        = ∑ a : Fin 1024, h (ix2 r a) * w1 (ix2 a ⟨o + j.val, hb j⟩) :=
      Finset.sum_congr rfl fun a _ => congrArg (fun z : EReal => h (ix2 r a) * z) (ldc w1 o i1 a j (hb j))
    have e2 := ldr w2 o i2 j l (hb j)
    exact congrArg₂ (fun y z : EReal => max y 0 * max y 0 * z) e1 e2
  rw [sum_parts]
  unfold accv
  rw [cast10_eq]
  refine congrArg₂ (fun y z : EReal => y + z) ?_ (part 3072 _ _ (fun j => by omega))
  rw [cast10_eq]
  refine congrArg₂ (fun y z : EReal => y + z) ?_ (part 2048 _ _ (fun j => by omega))
  rw [cast10_eq]
  refine congrArg₂ (fun y z : EReal => y + z) ?_ (part 1024 _ _ (fun j => by omega))
  rw [cast10_eq]
  exact part 0 _ _ (fun j => by omega)

/-- What a tile's tail reads of the layer. -/
structure TailReads (L : Layer) (T : ℕ) (x : Vec Ideal S256x1024 .f32) (g : Vec Ideal S1x8x1024 .f32) (o : Vec Ideal S256x1024 .bf16) (wo : Vec Ideal S1024x1024 .bf16)
    (w b : Vec Ideal S1x1x1024 .f32) (sh sc g2 : Vec Ideal S1x8x1024 .f32) (w1 : Vec Ideal S1024x4096 .bf16) (w2 : Vec Ideal S4096x1024 .bf16)
    (w' b' : Vec Ideal S1x1x1024 .f32) : Prop where
  x : ∀ r l, x (ix2 r l) = L.X (rowT T r) l
  g : ∀ l, g (ix3 0 0 l) = L.g l
  o : ∀ r l, o (ix2 r l) = L.o (rowT T r) l
  wo : ∀ a l, wo (ix2 a l) = L.WO a l
  w : ∀ l, w (ix3 0 0 l) = L.n1 l
  b : ∀ l, b (ix3 0 0 l) = L.b1 l
  sh : ∀ l, sh (ix3 0 0 l) = L.sh2 l
  sc : ∀ l, sc (ix3 0 0 l) = L.sc2 l
  g2 : ∀ l, g2 (ix3 0 0 l) = L.g2 l
  w1 : ∀ a l, w1 (ix2 a l) = L.W1 a l
  w2 : ∀ a l, w2 (ix2 a l) = L.W2 a l
  w' : ∀ l, w' (ix3 0 0 l) = L.n2 l
  b' : ∀ l, b' (ix3 0 0 l) = L.b2 l

theorem tileY_read {L : Layer} {T : ℕ} {x : Vec Ideal S256x1024 .f32} {g : Vec Ideal S1x8x1024 .f32} {o : Vec Ideal S256x1024 .bf16} {wo : Vec Ideal S1024x1024 .bf16}
    {w b : Vec Ideal S1x1x1024 .f32} {sh sc g2 : Vec Ideal S1x8x1024 .f32} {w1 : Vec Ideal S1024x4096 .bf16} {w2 : Vec Ideal S4096x1024 .bf16}
    {w' b' : Vec Ideal S1x1x1024 .f32} (H : TailReads L T x g o wo w b sh sc g2 w1 w2 w' b') (r : Fin 256) (l : Fin 1024) :
    tileY x g o wo w b sh sc g2 w1 w2 w' b' (ix2 r l) = L.y (rowT T r) l := by
  have hx1 : (fun l => x1v x (row8 g) o wo w b (ix2 r l)) = L.x1 (rowT T r) := by
    funext l
    unfold x1v Layer.x1
    rw [resln_read, funext (H.x r), funext H.w, funext H.b]
    have e1 : (fun l => row8 g (ix3 0 0 l)) = L.g := funext fun l => (row8_read g l).trans (H.g l)
    have e2 : (fun l => mul10 o wo (ix2 r l)) = fun l => ∑ x, L.o (rowT T r) x * L.WO x l :=
      funext fun l => (mul10_read o wo r l).trans (Finset.sum_congr rfl fun a _ => by rw [H.o, H.wo])
    rw [e1, e2]
  unfold tileY tailv
  rw [resln_read, funext H.w', funext H.b', hx1]
  have e1 : (fun l => row8 g2 (ix3 0 0 l)) = L.g2 := funext fun l => (row8_read g2 l).trans (H.g2 l)
  rw [e1]
  unfold Layer.y
  refine congrArg (fun z => lnrow (resrow (L.x1 (rowT T r)) L.g2 z) L.n2 L.b2 l) (funext fun l => ?_)
  rw [accv_read]
  unfold Layer.mlp
  have hh : ∀ j, (∑ a : Fin 1024, (mlpIn (x1v x (row8 g) o wo w b) (row8 sh) (row8 sc) (ix2 r a) * w1 (ix2 a j) : EReal)) = L.hid (rowT T r) j := fun j => by
    unfold Layer.hid
    refine Finset.sum_congr rfl fun a _ => ?_
    have e2 : (fun l => row8 sh (ix3 0 0 l)) = L.sh2 := funext fun l => (row8_read sh l).trans (H.sh l)
    have e3 : (fun l => row8 sc (ix3 0 0 l)) = L.sc2 := funext fun l => (row8_read sc l).trans (H.sc l)
    rw [mlpIn_read, hx1, H.w1, e2, e3]
  exact Finset.sum_congr rfl fun j _ => by rw [hh, H.w2]

end Cert.KernelIdeal.Tile

end
end
-- ==== Proof.Carry.lean ====
/- The grid, point by point: what is carried, and what the two output windows get. -/
module

public import proofs.«01_k».proof.Proof.Reads
public import proofs.«01_k».proof.Proof.G1
public import proofs.«01_k».proof.Proof.KTail
public import proofs.«01_k».proof.Proof.Sweep

@[expose] public section

set_option maxRecDepth 16384

noncomputable section

namespace Cert.KernelIdeal.Value

open Idealize.ShloMosaic Idealize.ShloMosaic.TcCoe Cert.KernelIdeal Cert.KernelIdeal.Gen Idealize.SL.Sem Cert.KernelIdeal.Tile Cert.Spec

section
variable {F : FTy → Type} [FloatOps F] (m : (ℓ : Loc nD τ sig) → Buf (Elt F) ℓ) (c : Dev nD)

theorem stateA (t : Fin cfg0.N) (h0 : t.val % 65 = 0) (h1 : ¬(1 ≤ t.val % 65 ∧ t.val % 65 ≤ 63)) (h2 : ¬t.val % 65 = 64) : (outsAt0 m c t.val t.isLt).2.2.2 = tileS (iblk m c 0 t) (iblk m c 2 t) (iblk m c 3 t) (iblk m c 8 t) (iblk m c 9 t) (iblk m c 10 t) (broadcast S4x128x256 (Scalar.ofBits (F := F) .f32 0x00000000#32)) := by
  rw [outsAt0_A m c t h0 h1 h2]
  dsimp only
  rw [st_A]

theorem gatedA (t : Fin cfg0.N) (h0 : t.val % 65 = 0) (h1 : ¬(1 ≤ t.val % 65 ∧ t.val % 65 ≤ 63)) (h2 : ¬t.val % 65 = 64) : (outsAt0 m c t.val t.isLt).2.2.1 = tileO (iblk m c 0 t) (iblk m c 2 t) (iblk m c 3 t) (iblk m c 8 t) (iblk m c 9 t) (iblk m c 10 t) (iblk m c 11 t) (broadcast S4x128x256 (Scalar.ofBits (F := F) .f32 0x00000000#32)) := by
  rw [outsAt0_A m c t h0 h1 h2]
  dsimp only
  rw [os_A]

theorem stateB (t : Fin cfg0.N) (h0 : ¬t.val % 65 = 0) (h1 : (1 ≤ t.val % 65 ∧ t.val % 65 ≤ 63)) (h2 : ¬t.val % 65 = 64) : (outsAt0 m c t.val t.isLt).2.2.2 = tileS (iblk m c 0 t) (iblk m c 2 t) (iblk m c 3 t) (iblk m c 8 t) (iblk m c 9 t) (iblk m c 10 t) (outsAt0 m c (t.val - 1) (Nat.lt_of_le_of_lt (Nat.sub_le _ _) t.isLt)).2.2.2 := by
  rw [outsAt0_B m c t h0 h1 h2]
  dsimp only
  rw [st_B]

theorem gatedB (t : Fin cfg0.N) (h0 : ¬t.val % 65 = 0) (h1 : (1 ≤ t.val % 65 ∧ t.val % 65 ≤ 63)) (h2 : ¬t.val % 65 = 64) : (outsAt0 m c t.val t.isLt).2.2.1 = tileO (iblk m c 0 t) (iblk m c 2 t) (iblk m c 3 t) (iblk m c 8 t) (iblk m c 9 t) (iblk m c 10 t) (iblk m c 11 t) (outsAt0 m c (t.val - 1) (Nat.lt_of_le_of_lt (Nat.sub_le _ _) t.isLt)).2.2.2 := by
  rw [outsAt0_B m c t h0 h1 h2]
  dsimp only
  rw [os_B]

theorem resB (t : Fin cfg0.N) (h0 : ¬t.val % 65 = 0) (h1 : (1 ≤ t.val % 65 ∧ t.val % 65 ≤ 63)) (h2 : ¬t.val % 65 = 64) : (outsAt0 m c t.val t.isLt).1 = tileY (iblk m c 1 t) (iblk m c 4 t) (outsAt0 m c (t.val - 1) (Nat.lt_of_le_of_lt (Nat.sub_le _ _) t.isLt)).2.2.1 (iblk m c 12 t) (iblk m c 15 t) (iblk m c 16 t) (iblk m c 5 t) (iblk m c 6 t) (iblk m c 7 t) (iblk m c 13 t) (iblk m c 14 t) (iblk m c 17 t) (iblk m c 18 t) := by
  rw [outsAt0_B m c t h0 h1 h2]
  dsimp only
  rw [y_B]

theorem resC (t : Fin cfg0.N) (h0 : ¬t.val % 65 = 0) (h1 : ¬(1 ≤ t.val % 65 ∧ t.val % 65 ≤ 63)) (h2 : t.val % 65 = 64) : (outsAt0 m c t.val t.isLt).1 = tileY (iblk m c 1 t) (iblk m c 4 t) (outsAt0 m c (t.val - 1) (Nat.lt_of_le_of_lt (Nat.sub_le _ _) t.isLt)).2.2.1 (iblk m c 12 t) (iblk m c 15 t) (iblk m c 16 t) (iblk m c 5 t) (iblk m c 6 t) (iblk m c 7 t) (iblk m c 13 t) (iblk m c 14 t) (iblk m c 17 t) (iblk m c 18 t) := by
  rw [outsAt0_C m c t h0 h1 h2]
  dsimp only
  rw [y_C]

theorem lastC (t : Fin cfg0.N) (h0 : ¬t.val % 65 = 0) (h1 : ¬(1 ≤ t.val % 65 ∧ t.val % 65 ≤ 63)) (h2 : t.val % 65 = 64) : (outsAt0 m c t.val t.isLt).2.1 = (outsAt0 m c (t.val - 1) (Nat.lt_of_le_of_lt (Nat.sub_le _ _) t.isLt)).2.2.2 := by
  rw [outsAt0_C m c t h0 h1 h2]
  dsimp only
  rw [so_C]

end

variable (m : (ℓ : Loc nD τ sig) → Buf (Elt Ideal) ℓ) (c : Dev nD)

/-- The layer of the arrays as launched. -/
def lay : Layer := layer (arg m c main_arg0) (arg m c main_arg1) (arg m c main_arg2) (arg m c main_arg3) (arg m c main_arg4) (arg m c main_arg5)
  (arg m c main_arg6) (arg m c main_arg7) (arg m c main_arg8) (arg m c main_arg9) (arg m c main_arg10)

theorem reads (t : Fin cfg0.N) (ht : t.val < 64) : Reads (lay m c) t.val (iblk m c 0 t) (iblk m c 2 t) (iblk m c 3 t) (iblk m c 8 t) (iblk m c 9 t) (iblk m c 10 t) where
  x r l := (w0 m c t r l).trans (congrArg (fun z => arg m c main_arg0 (ix2 z l)) (Fin.ext (by show min t.val 63 * 256 + r.val = t.val % 64 * 256 + r.val; omega)))
  sh l := w2 m c t l
  sc l := w3 m c t l
  w l a := w8 m c t l a
  wu0 a l h := (w9 m c t a l).trans (dif_neg (by omega))
  wu a l := (w9 m c t _ l).trans ((dif_pos (show 112 ≤ 112 + a.val by omega)).trans
    (congrArg (fun z => arg m c main_arg3 (ix3 (0 : Fin 1) z l)) (Fin.ext (by show 112 + a.val - 112 = a.val; omega))))
  bg l := w10 m c t l

theorem tailReads (t : Fin cfg0.N) (ht : 1 ≤ t.val) (o : Vec Ideal S256x1024 .bf16) (ho : ∀ r l, o (ix2 r l) = (lay m c).o (rowT (t.val - 1) r) l) :
    TailReads (lay m c) (t.val - 1) (iblk m c 1 t) (iblk m c 4 t) o (iblk m c 12 t) (iblk m c 15 t) (iblk m c 16 t) (iblk m c 5 t) (iblk m c 6 t) (iblk m c 7 t) (iblk m c 13 t) (iblk m c 14 t) (iblk m c 17 t) (iblk m c 18 t) where
  x r l := (w1 m c t r l).trans (congrArg (fun z => arg m c main_arg0 (ix2 z l)) (Fin.ext (by
    show (t.val - 1) * 256 + r.val = (t.val - 1) % 64 * 256 + r.val
    have := t.isLt
    have : cfg0.N = 65 := N_0
    omega)))
  g l := w4 m c t l
  o := ho
  wo a l := w12 m c t a l
  w l := w15 m c t l
  b l := w16 m c t l
  sh l := w5 m c t l
  sc l := w6 m c t l
  g2 l := w7 m c t l
  w1 a l := w13 m c t a l
  w2 a l := w14 m c t a l
  w' l := w17 m c t l
  b' l := w18 m c t l

theorem hng (t : Fin cfg0.N) (l : Fin 256) : iblk m c 11 t (ix2 0 l) = (lay m c).NG l := w11 m c t l

/-- The state and the gated attention after a point before the last. -/
theorem carried : ∀ (n : ℕ) (hn : n < cfg0.N), n < 64 →
    (∀ h k v, (outsAt0 m c n hn).2.2.2 (ix3 h k v) = (lay m c).S h (4 * n + 4) k v) ∧ ∀ r l, (outsAt0 m c n hn).2.2.1 (ix2 r l) = (lay m c).o (rowT n r) l
  | 0, hn, h64 => by
    have hs : ∀ (h : Fin 4) (k : Fin 128) (v : Fin 256), (broadcast S4x128x256 (Scalar.ofBits (F := Ideal) .f32 0x00000000#32) : Vec Ideal S4x128x256 .f32) (ix3 h k v) = (lay m c).S h (4 * 0) k v := fun h k v => by
      pointwise
      rfl
    have e1 := stateA m c ⟨0, hn⟩ rfl (show ¬(1 ≤ 0 % 65 ∧ 0 % 65 ≤ 63) by decide) (show ¬0 % 65 = 64 by decide)
    have e2 := gatedA m c ⟨0, hn⟩ rfl (show ¬(1 ≤ 0 % 65 ∧ 0 % 65 ≤ 63) by decide) (show ¬0 % 65 = 64 by decide)
    refine ⟨fun h k v => (congrFun e1 _).trans ?_, fun r l => (congrFun e2 _).trans ?_⟩
    · exact tileS_read (reads m c ⟨0, hn⟩ h64) _ hs h k v
    · exact tileO_read (reads m c ⟨0, hn⟩ h64) _ hs h64 _ (hng m c ⟨0, hn⟩) r l
  | n + 1, hn, h64 => by
    have hs := (carried n (Nat.lt_of_succ_lt hn) (Nat.lt_of_succ_lt h64)).1
    have c0 : ¬(n + 1) % 65 = 0 := by omega
    have c1 : 1 ≤ (n + 1) % 65 ∧ (n + 1) % 65 ≤ 63 := by omega
    have c2 : ¬(n + 1) % 65 = 64 := by omega
    have e1 := stateB m c ⟨n + 1, hn⟩ c0 c1 c2
    have e2 := gatedB m c ⟨n + 1, hn⟩ c0 c1 c2
    refine ⟨fun h k v => (congrFun e1 _).trans ?_, fun r l => (congrFun e2 _).trans ?_⟩
    · exact tileS_read (reads m c ⟨n + 1, hn⟩ h64) _ hs h k v
    · exact tileO_read (reads m c ⟨n + 1, hn⟩ h64) _ hs h64 _ (hng m c ⟨n + 1, hn⟩) r l

/-- What the first output window gets at a point after the first. -/
theorem result (t : Fin cfg0.N) (ht : 1 ≤ t.val) (r : Fin 256) (l : Fin 1024) :
    (outsAt0 m c t.val t.isLt).1 (ix2 r l) = (lay m c).y (rowT (t.val - 1) r) l := by
  have hN : cfg0.N = 65 := N_0
  have hlt := t.isLt
  have ho := (carried m c (t.val - 1) (Nat.lt_of_le_of_lt (Nat.sub_le _ _) t.isLt) (by omega)).2
  have H := tailReads m c t ht _ ho
  by_cases h : t.val = 64
  · exact (congrFun (resC m c t (by omega) (by omega) (by omega)) _).trans (tileY_read H r l)
  · exact (congrFun (resB m c t (by omega) (by omega) (by omega)) _).trans (tileY_read H r l)

/-- What the second output window gets at the last point. -/
theorem last (t : Fin cfg0.N) (ht : t.val = 64) (h : Fin 4) (k : Fin 128) (v : Fin 256) :
    (outsAt0 m c t.val t.isLt).2.1 (ix3 h k v) = (lay m c).S h 256 k v := by
  have hs := (carried m c (t.val - 1) (Nat.lt_of_le_of_lt (Nat.sub_le _ _) t.isLt) (by omega)).1 h k v
  refine (congrFun (lastC m c t (by omega) (by omega) (by omega)) _).trans (hs.trans ?_)
  exact congrArg (fun n => (lay m c).S h n k v) (by omega)

end Cert.KernelIdeal.Value

end
end
-- ==== Proof.Ends.lean ====
/- What the two output arrays hold at the end. -/
module

public import proofs.«01_k».proof.Proof.Carry

@[expose] public section

set_option maxRecDepth 16384

noncomputable section

namespace Cert.KernelIdeal.Value

open Idealize.ShloMosaic Idealize.ShloMosaic.TcCoe Cert.KernelIdeal Cert.KernelIdeal.Gen Idealize.SL.Sem Cert.KernelIdeal.Tile Cert.Spec
open Idealize.ShloMosaic.Pipeline (Dat)

variable (m : (ℓ : Loc nD τ sig) → Buf (Elt Ideal) ℓ) (c : Dev nD)

theorem i25 : ∀ t : Fin cfg0.N, win0_25.index t (0 : Fin 2) = t.val - 1 ∧ win0_25.index t (1 : Fin 2) = 0 := (by decide +kernel : ∀ t : Fin grid0.N, _)
theorem f25 : ∀ t : Fin cfg0.N, win0_25.flush t = true → 1 ≤ t.val := (by decide +kernel : ∀ t : Fin grid0.N, _)

/-- The layer's result as an array. -/
def Y (L : Layer) : FVec Ideal S16384x1024 .f32 := fun i => L.y (i 0) (i 1)
/-- The layer's last state as an array. -/
def ST (L : Layer) : FVec Ideal S4x128x256 .f32 := fun i => L.S (i 0) 256 (i 1) (i 2)

theorem end25 : (dats m 0 c).arrAt 25 cfg0.N = Y (lay m c) := by
  refine (dats m 0 c).arrAt_eq_of_covers 25 _ (by decide +kernel) fun t hf y => ?_
  blk_simp
  rw [after0_25]
  have ht := f25 t hf
  obtain ⟨r, l, rfl⟩ : ∃ (r : Fin 256) (l : Fin 1024), y = ix2 r l := ⟨y 0, y 1, eq_ix2 y⟩
  refine (result m c t ht r l).trans ?_
  have e : (((View.whole main_v21_0).slice (win0_25.rect t)).emb (ix2 r l) : S16384x1024.Idx) = ix2 (rowT (t.val - 1) r) l := by
    have hN : cfg0.N = 65 := N_0
    have hlt := t.isLt
    have hr : (rowT (t.val - 1) r).val = (t.val - 1) * 256 + r.val := by show (t.val - 1) % 64 * 256 + r.val = _; omega
    blk_ext [i25 t, hr]
  exact (congrArg (Y (lay m c)) e).symm

theorem i26 : ∀ t : Fin cfg0.N, win0_26.index t (0 : Fin 3) = 0 ∧ win0_26.index t (1 : Fin 3) = 0 ∧ win0_26.index t (2 : Fin 3) = 0 := (by decide +kernel : ∀ t : Fin grid0.N, _)
theorem f26 : ∀ t : Fin cfg0.N, win0_26.flush t = true → t.val = 64 := (by decide +kernel : ∀ t : Fin grid0.N, _)

theorem end26 : (dats m 0 c).arrAt 26 cfg0.N = ST (lay m c) := by
  refine (dats m 0 c).arrAt_eq_of_covers 26 _ (by decide +kernel) fun t hf y => ?_
  blk_simp
  rw [after0_26]
  have ht := f26 t hf
  obtain ⟨h, k, v, rfl⟩ : ∃ (h : Fin 4) (k : Fin 128) (v : Fin 256), y = ix3 h k v := ⟨y 0, y 1, y 2, eq_ix3 y⟩
  refine (last m c t ht h k v).trans ?_
  have e : (((View.whole main_v21_1).slice (win0_26.rect t)).emb (ix3 h k v) : S4x128x256.Idx) = ix3 h k v := by
    blk_ext [i26 t]
  exact (congrArg (ST (lay m c)) e).symm

end Cert.KernelIdeal.Value

end
end
-- ==== Proof.RefRun.lean ====
/- The reference's run stated over the step of its loop: one lemma for each value of a trip, the entry, and the results as the
   fields of the step iterated. -/
module

public import proofs.«01_k».proof.Proof.Gen.ReferenceIdeal.Run
public import proofs.«01_k».proof.Proof.Gen.ReferenceIdeal.Step

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v49_7) = s.main_v49_7
  f_8 : V0 (Proc.devRef .tc main_v49_8) = s.main_v49_8
  f_0 : V0 (Proc.devRef .tc main_v49_0) = s.main_v49_0
  f_1 : V0 (Proc.devRef .tc main_v49_1) = s.main_v49_1
  f_2 : V0 (Proc.devRef .tc main_v49_2) = s.main_v49_2
  f_3 : V0 (Proc.devRef .tc main_v49_3) = s.main_v49_3
  f_4 : V0 (Proc.devRef .tc main_v49_4) = s.main_v49_4
  f_5 : V0 (Proc.devRef .tc main_v49_5) = s.main_v49_5
  n_6 : V0 (Proc.devRef .tc main_v49_6) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call0_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call0_c_1 : DevRef τ sig).ty.Contents (Elt F)) = Cert.ReferenceIdeal.Step.b2 j s := by
  unfold Cert.ReferenceIdeal.Step.b2
  rfl
set_option maxRecDepth 8192 in
theorem al_3 (h : Holds V0 s j) : (Host.dynamicSlice S1x64x4x128 (V0 (Proc.devRef .tc main_v49_0)) (fun k => (((![V0 (Proc.devRef .tc main_v49_6), constantI S_ 32 0#32, constantI S_ 32 0#32, constantI S_ 32 0#32] : Fin 4 → (⟨S_, .i32⟩ : BufTy).Contents (Elt F))) k (Shape.Idx.first h_S_)).toInt) sliceFits_S256x64x4x128_S1x64x4x128 : (Proc.devRef .tc main_while0b_call0_v0 : DevRef τ sig).ty.Contents (Elt F)) = Cert.ReferenceIdeal.Step.b3 j s := by
  unfold Cert.ReferenceIdeal.Step.b3
  rw [← al_0 h, ← al_1 h, ← al_2 h, h.f_0, h.n_6]
  try rfl
set_option maxRecDepth 8192 in
theorem al_4 (h : Holds V0 s j) : (shapeCast S64x4x128 (Host.dynamicSlice S1x64x4x128 (V0 (Proc.devRef .tc main_v49_0)) (fun k => (((![V0 (Proc.devRef .tc main_v49_6), constantI S_ 32 0#32, constantI S_ 32 0#32, constantI S_ 32 0#32] : Fin 4 → (⟨S_, .i32⟩ : BufTy).Contents (Elt F))) k (Shape.Idx.first h_S_)).toInt) sliceFits_S256x64x4x128_S1x64x4x128) shapeCasts_S1x64x4x128_S64x4x128 : (Proc.devRef .tc main_while0b_v141 : DevRef τ sig).ty.Contents (Elt F)) = Cert.ReferenceIdeal.Step.b4 j s := by
  unfold Cert.ReferenceIdeal.Step.b4
  rw [← al_3 h]
  try rfl
set_option maxRecDepth 8192 in
theorem al_5 (h : Holds V0 s j) : (constantI S_ 32 0#32 : (Proc.devRef .tc main_while0b_call1_c : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call1_c_0 : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call1_c_1 : DevRef τ sig).ty.Contents (Elt F)) = Cert.ReferenceIdeal.Step.b7 j s := by
  unfold Cert.ReferenceIdeal.Step.b7
  rfl
set_option maxRecDepth 8192 in
theorem al_8 (h : Holds V0 s j) : (Host.dynamicSlice S1x64x4x128 (V0 (Proc.devRef .tc main_v49_1)) (fun k => (((![V0 (Proc.devRef .tc main_v49_6), constantI S_ 32 0#32, constantI S_ 32 0#32, constantI S_ 32 0#32] : Fin 4 → (⟨S_, .i32⟩ : BufTy).Contents (Elt F))) k (Shape.Idx.first h_S_)).toInt) sliceFits_S256x64x4x128_S1x64x4x128 : (Proc.devRef .tc main_while0b_call1_v0 : DevRef τ sig).ty.Contents (Elt F)) = Cert.ReferenceIdeal.Step.b8 j s := by
  unfold Cert.ReferenceIdeal.Step.b8
  rw [← al_5 h, ← al_6 h, ← al_7 h, h.f_1, h.n_6]
  try rfl
set_option maxRecDepth 8192 in
theorem al_9 (h : Holds V0 s j) : (res_main_while0b_v142 V0 : (Proc.devRef .tc main_while0b_v142 : DevRef τ sig).ty.Contents (Elt F)) = Cert.ReferenceIdeal.Step.b9 j s := by
  unfold res_main_while0b_v142 Cert.ReferenceIdeal.Step.b9
  rw [← al_8 h]
  try rfl
set_option maxRecDepth 8192 in
theorem al_10 (h : Holds V0 s j) : (constantI S_ 32 0#32 : (Proc.devRef .tc main_while0b_call2_c : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call2_c_0 : DevRef τ sig).ty.Contents (Elt F)) = Cert.ReferenceIdeal.Step.b11 j s := by
  unfold Cert.ReferenceIdeal.Step.b11
  rfl
set_option maxRecDepth 8192 in
theorem al_12 (h : Holds V0 s j) : (constantI S_ 32 0#32 : (Proc.devRef .tc main_while0b_call2_c_1 : DevRef τ sig).ty.Contents (Elt F)) = Cert.ReferenceIdeal.Step.b12 j s := by
  unfold Cert.ReferenceIdeal.Step.b12
  rfl
set_option maxRecDepth 8192 in
theorem al_13 (h : Holds V0 s j) : (Host.dynamicSlice S1x64x4x256 (V0 (Proc.devRef .tc main_v49_2)) (fun k => (((![V0 (Proc.devRef .tc main_v49_6), constantI S_ 32 0#32, constantI S_ 32 0#32, constantI S_ 32 0#32] : Fin 4 → (⟨S_, .i32⟩ : BufTy).Contents (Elt F))) k (Shape.Idx.first h_S_)).toInt) sliceFits_S256x64x4x256_S1x64x4x256 : (Proc.devRef .tc main_while0b_call2_v0 : DevRef τ sig).ty.Contents (Elt F)) = Cert.ReferenceIdeal.Step.b13 j s := by
  unfold Cert.ReferenceIdeal.Step.b13
  rw [← al_10 h, ← al_11 h, ← al_12 h, h.f_2, h.n_6]
  try rfl
set_option maxRecDepth 8192 in
theorem al_14 (h : Holds V0 s j) : (res_main_while0b_v143 V0 : (Proc.devRef .tc main_while0b_v143 : DevRef τ sig).ty.Contents (Elt F)) = Cert.ReferenceIdeal.Step.b14 j s := by
  unfold res_main_while0b_v143 Cert.ReferenceIdeal.Step.b14
  rw [← al_13 h]
  try rfl
set_option maxRecDepth 8192 in
theorem al_15 (h : Holds V0 s j) : (constantI S_ 32 0#32 : (Proc.devRef .tc main_while0b_call3_c : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call3_c_0 : DevRef τ sig).ty.Contents (Elt F)) = Cert.ReferenceIdeal.Step.b16 j s := by
  unfold Cert.ReferenceIdeal.Step.b16
  rfl
set_option maxRecDepth 8192 in
theorem al_17 (h : Holds V0 s j) : (constantI S_ 32 0#32 : (Proc.devRef .tc main_while0b_call3_c_1 : DevRef τ sig).ty.Contents (Elt F)) = Cert.ReferenceIdeal.Step.b17 j s := by
  unfold Cert.ReferenceIdeal.Step.b17
  rfl
set_option maxRecDepth 8192 in
theorem al_18 (h : Holds V0 s j) : (Host.dynamicSlice S1x64x4x128 (V0 (Proc.devRef .tc main_v49_3)) (fun k => (((![V0 (Proc.devRef .tc main_v49_6), constantI S_ 32 0#32, constantI S_ 32 0#32, constantI S_ 32 0#32] : Fin 4 → (⟨S_, .i32⟩ : BufTy).Contents (Elt F))) k (Shape.Idx.first h_S_)).toInt) sliceFits_S256x64x4x128_S1x64x4x128 : (Proc.devRef .tc main_while0b_call3_v0 : DevRef τ sig).ty.Contents (Elt F)) = Cert.ReferenceIdeal.Step.b18 j s := by
  unfold Cert.ReferenceIdeal.Step.b18
  rw [← al_15 h, ← al_16 h, ← al_17 h, h.f_3, h.n_6]
  try rfl
set_option maxRecDepth 8192 in
theorem al_19 (h : Holds V0 s j) : (shapeCast S64x4x128 (Host.dynamicSlice S1x64x4x128 (V0 (Proc.devRef .tc main_v49_3)) (fun k => (((![V0 (Proc.devRef .tc main_v49_6), constantI S_ 32 0#32, constantI S_ 32 0#32, constantI S_ 32 0#32] : Fin 4 → (⟨S_, .i32⟩ : BufTy).Contents (Elt F))) k (Shape.Idx.first h_S_)).toInt) sliceFits_S256x64x4x128_S1x64x4x128) shapeCasts_S1x64x4x128_S64x4x128 : (Proc.devRef .tc main_while0b_v144 : DevRef τ sig).ty.Contents (Elt F)) = Cert.ReferenceIdeal.Step.b19 j s := by
  unfold Cert.ReferenceIdeal.Step.b19
  rw [← al_18 h]
  try rfl
set_option maxRecDepth 8192 in
theorem al_20 (h : Holds V0 s j) : (constantI S_ 32 0#32 : (Proc.devRef .tc main_while0b_call4_c : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call4_c_0 : DevRef τ sig).ty.Contents (Elt F)) = Cert.ReferenceIdeal.Step.b21 j s := by
  unfold Cert.ReferenceIdeal.Step.b21
  rfl
set_option maxRecDepth 8192 in
theorem al_22 (h : Holds V0 s j) : (Host.dynamicSlice S1x64x1024 (V0 (Proc.devRef .tc main_v49_4)) (fun k => (((![V0 (Proc.devRef .tc main_v49_6), constantI S_ 32 0#32, constantI S_ 32 0#32] : Fin 3 → (⟨S_, .i32⟩ : BufTy).Contents (Elt F))) k (Shape.Idx.first h_S_)).toInt) sliceFits_S256x64x1024_S1x64x1024 : (Proc.devRef .tc main_while0b_call4_v0 : DevRef τ sig).ty.Contents (Elt F)) = Cert.ReferenceIdeal.Step.b22 j s := by
  unfold Cert.ReferenceIdeal.Step.b22
  rw [← al_20 h, ← al_21 h, h.f_4, h.n_6]
  try rfl
set_option maxRecDepth 8192 in
theorem al_23 (h : Holds V0 s j) : (res_main_while0b_v145 V0 : (Proc.devRef .tc main_while0b_v145 : DevRef τ sig).ty.Contents (Elt F)) = Cert.ReferenceIdeal.Step.b23 j s := by
  unfold res_main_while0b_v145 Cert.ReferenceIdeal.Step.b23
  rw [← al_22 h]
  try rfl
set_option maxRecDepth 8192 in
theorem al_24 (h : Holds V0 s j) : (shapeCast S256 (V0 (Proc.devRef .tc main_v49_5)) shapeCasts_S1x256_S256 : (Proc.devRef .tc main_while0b_v146 : DevRef τ sig).ty.Contents (Elt F)) = Cert.ReferenceIdeal.Step.b24 j s := by
  unfold Cert.ReferenceIdeal.Step.b24
  rw [h.f_5]
  try rfl
set_option maxRecDepth 8192 in
theorem al_25 (h : Holds V0 s j) : (constant S_ .f32 0x00000000#32 : (Proc.devRef .tc main_while0b_call5_call0_cst : DevRef τ sig).ty.Contents (Elt F)) = Cert.ReferenceIdeal.Step.b25 j s := by
  unfold Cert.ReferenceIdeal.Step.b25
  rfl
set_option maxRecDepth 8192 in
theorem al_26 (h : Holds V0 s j) : (broadcastInDim S_ ![] bcast_S_S_ (constant S_ .f32 0x00000000#32) : (Proc.devRef .tc main_while0b_call5_call0_v0 : DevRef τ sig).ty.Contents (Elt F)) = Cert.ReferenceIdeal.Step.b26 j s := by
  unfold Cert.ReferenceIdeal.Step.b26
  rw [← al_25 h]
  try rfl
set_option maxRecDepth 8192 in
theorem al_27 (h : Holds V0 s j) : (res_main_while0b_v147 V0 : (Proc.devRef .tc main_while0b_v147 : DevRef τ sig).ty.Contents (Elt F)) = Cert.ReferenceIdeal.Step.b27 j s := by
  unfold res_main_while0b_v147 Cert.ReferenceIdeal.Step.b27
  rw [← al_19 h, ← al_26 h]
  try rfl
set_option maxRecDepth 8192 in
theorem al_28 (h : Holds V0 s j) : (Host.exp (res_main_while0b_v147 V0) : (Proc.devRef .tc main_while0b_v148 : DevRef τ sig).ty.Contents (Elt F)) = Cert.ReferenceIdeal.Step.b28 j s := by
  unfold Cert.ReferenceIdeal.Step.b28
  rw [← al_27 h]
  try rfl
set_option maxRecDepth 8192 in
theorem al_29 (h : Holds V0 s j) : (res_main_while0b_v149 V0 : (Proc.devRef .tc main_while0b_v149 : DevRef τ sig).ty.Contents (Elt F)) = Cert.ReferenceIdeal.Step.b29 j s := by
  unfold res_main_while0b_v149 Cert.ReferenceIdeal.Step.b29
  rw [← al_4 h, ← al_28 h]
  try rfl
set_option maxRecDepth 8192 in
theorem al_30 (h : Holds V0 s j) : (Host.negf (res_main_while0b_v147 V0) : (Proc.devRef .tc main_while0b_v150 : DevRef τ sig).ty.Contents (Elt F)) = Cert.ReferenceIdeal.Step.b30 j s := by
  unfold Cert.ReferenceIdeal.Step.b30
  rw [← al_27 h]
  try rfl
set_option maxRecDepth 8192 in
theorem al_31 (h : Holds V0 s j) : (Host.exp (Host.negf (res_main_while0b_v147 V0)) : (Proc.devRef .tc main_while0b_v151 : DevRef τ sig).ty.Contents (Elt F)) = Cert.ReferenceIdeal.Step.b31 j s := by
  unfold Cert.ReferenceIdeal.Step.b31
  rw [← al_30 h]
  try rfl
set_option maxRecDepth 8192 in
theorem al_32 (h : Holds V0 s j) : (mulf (res_main_while0b_v142 V0) (Host.exp (Host.negf (res_main_while0b_v147 V0))) : (Proc.devRef .tc main_while0b_v152 : DevRef τ sig).ty.Contents (Elt F)) = Cert.ReferenceIdeal.Step.b32 j s := by
  unfold Cert.ReferenceIdeal.Step.b32
  rw [← al_9 h, ← al_31 h]
  try rfl
set_option maxRecDepth 8192 in
theorem al_33 (h : Holds V0 s j) : (constantI S_ 1 1#1 : (Proc.devRef .tc main_while0b_c_26 : DevRef τ sig).ty.Contents (Elt F)) = Cert.ReferenceIdeal.Step.b33 j s := by
  unfold Cert.ReferenceIdeal.Step.b33
  rfl
set_option maxRecDepth 8192 in
theorem al_34 (h : Holds V0 s j) : (broadcastInDim S64x64 ![] bcast_S_S64x64 (constantI S_ 1 1#1) : (Proc.devRef .tc main_while0b_v153 : DevRef τ sig).ty.Contents (Elt F)) = Cert.ReferenceIdeal.Step.b34 j s := by
  unfold Cert.ReferenceIdeal.Step.b34
  rw [← al_33 h]
  try rfl
set_option maxRecDepth 8192 in
theorem al_35 (h : Holds V0 s j) : (iotaInDim S64x64 32 0 : (Proc.devRef .tc main_while0b_call6_v0 : DevRef τ sig).ty.Contents (Elt F)) = Cert.ReferenceIdeal.Step.b35 j s := by
  unfold Cert.ReferenceIdeal.Step.b35
  rfl
set_option maxRecDepth 8192 in
theorem al_36 (h : Holds V0 s j) : (constantI S_ 32 0#32 : (Proc.devRef .tc main_while0b_call6_c : DevRef τ sig).ty.Contents (Elt F)) = Cert.ReferenceIdeal.Step.b36 j s := by
  unfold Cert.ReferenceIdeal.Step.b36
  rfl
set_option maxRecDepth 8192 in
theorem al_37 (h : Holds V0 s j) : (broadcastInDim S64x64 ![] bcast_S_S64x64 (constantI S_ 32 0#32) : (Proc.devRef .tc main_while0b_call6_v1 : DevRef τ sig).ty.Contents (Elt F)) = Cert.ReferenceIdeal.Step.b37 j s := by
  unfold Cert.ReferenceIdeal.Step.b37
  rw [← al_36 h]
  try rfl
set_option maxRecDepth 8192 in
theorem al_38 (h : Holds V0 s j) : (addi (iotaInDim S64x64 32 0) (broadcastInDim S64x64 ![] bcast_S_S64x64 (constantI S_ 32 0#32)) : (Proc.devRef .tc main_while0b_call6_v2 : DevRef τ sig).ty.Contents (Elt F)) = Cert.ReferenceIdeal.Step.b38 j s := by
  unfold Cert.ReferenceIdeal.Step.b38
  rw [← al_35 h, ← al_37 h]
  try rfl
set_option maxRecDepth 8192 in
theorem al_39 (h : Holds V0 s j) : (iotaInDim S64x64 32 1 : (Proc.devRef .tc main_while0b_call6_v3 : DevRef τ sig).ty.Contents (Elt F)) = Cert.ReferenceIdeal.Step.b39 j s := by
  unfold Cert.ReferenceIdeal.Step.b39
  rfl
set_option maxRecDepth 8192 in
theorem al_40 (h : Holds V0 s j) : (cmpi .sge (addi (iotaInDim S64x64 32 0) (broadcastInDim S64x64 ![] bcast_S_S64x64 (constantI S_ 32 0#32))) (iotaInDim S64x64 32 1) : (Proc.devRef .tc main_while0b_call6_v4 : DevRef τ sig).ty.Contents (Elt F)) = Cert.ReferenceIdeal.Step.b40 j s := by
  unfold Cert.ReferenceIdeal.Step.b40
  rw [← al_38 h, ← al_39 h]
  try rfl
set_option maxRecDepth 8192 in
theorem al_41 (h : Holds V0 s j) : (constantI S_ 1 0#1 : (Proc.devRef .tc main_while0b_call6_c_0 : DevRef τ sig).ty.Contents (Elt F)) = Cert.ReferenceIdeal.Step.b41 j s := by
  unfold Cert.ReferenceIdeal.Step.b41
  rfl
set_option maxRecDepth 8192 in
theorem al_42 (h : Holds V0 s j) : (broadcastInDim S64x64 ![] bcast_S_S64x64 (constantI S_ 1 0#1) : (Proc.devRef .tc main_while0b_call6_v5 : DevRef τ sig).ty.Contents (Elt F)) = Cert.ReferenceIdeal.Step.b42 j s := by
  unfold Cert.ReferenceIdeal.Step.b42
  rw [← al_41 h]
  try rfl
set_option maxRecDepth 8192 in
theorem al_43 (h : Holds V0 s j) : (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)) : (Proc.devRef .tc main_while0b_v154 : DevRef τ sig).ty.Contents (Elt F)) = Cert.ReferenceIdeal.Step.b43 j s := by
  unfold Cert.ReferenceIdeal.Step.b43
  rw [← al_40 h, ← al_34 h, ← al_42 h]
  try rfl
set_option maxRecDepth 8192 in
theorem al_44 (h : Holds V0 s j) : (Host.dotGeneral dot_S64x4x128_S64x4x128_S4x64x64_2_2_0_0_1_1 none (res_main_while0b_v149 V0) (mulf (res_main_while0b_v142 V0) (Host.exp (Host.negf (res_main_while0b_v147 V0)))) : (Proc.devRef .tc main_while0b_v155 : DevRef τ sig).ty.Contents (Elt F)) = Cert.ReferenceIdeal.Step.b44 j s := by
  unfold Cert.ReferenceIdeal.Step.b44
  rw [← al_29 h, ← al_32 h]
  try rfl
set_option maxRecDepth 8192 in
theorem al_45 (h : Holds V0 s j) : (constant S_ .f32 0x00000000#32 : (Proc.devRef .tc main_while0b_cst_27 : DevRef τ sig).ty.Contents (Elt F)) = Cert.ReferenceIdeal.Step.b45 j s := by
  unfold Cert.ReferenceIdeal.Step.b45
  rfl
set_option maxRecDepth 8192 in
theorem al_46 (h : Holds V0 s j) : (id (constant S_ .f32 0x00000000#32) : (Proc.devRef .tc main_while0b_call7_v0 : DevRef τ sig).ty.Contents (Elt F)) = Cert.ReferenceIdeal.Step.b46 j s := by
  unfold Cert.ReferenceIdeal.Step.b46
  rw [← al_45 h]
  try rfl
set_option maxRecDepth 8192 in
theorem al_47 (h : Holds V0 s j) : (broadcastInDim S4x64x64 ![1, 2] bcast_S64x64_S4x64x64_1_2 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1))) : (Proc.devRef .tc main_while0b_call7_v1 : DevRef τ sig).ty.Contents (Elt F)) = Cert.ReferenceIdeal.Step.b47 j s := by
  unfold Cert.ReferenceIdeal.Step.b47
  rw [← al_43 h]
  try rfl
set_option maxRecDepth 8192 in
theorem al_48 (h : Holds V0 s j) : (broadcastInDim S4x64x64 ![] bcast_S_S4x64x64 (id (constant S_ .f32 0x00000000#32)) : (Proc.devRef .tc main_while0b_call7_v2 : DevRef τ sig).ty.Contents (Elt F)) = Cert.ReferenceIdeal.Step.b48 j s := by
  unfold Cert.ReferenceIdeal.Step.b48
  rw [← al_46 h]
  try rfl
set_option maxRecDepth 8192 in
theorem al_49 (h : Holds V0 s j) : (select (broadcastInDim S4x64x64 ![1, 2] bcast_S64x64_S4x64x64_1_2 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (Host.dotGeneral dot_S64x4x128_S64x4x128_S4x64x64_2_2_0_0_1_1 none (res_main_while0b_v149 V0) (mulf (res_main_while0b_v142 V0) (Host.exp (Host.negf (res_main_while0b_v147 V0))))) (broadcastInDim S4x64x64 ![] bcast_S_S4x64x64 (id (constant S_ .f32 0x00000000#32))) : (Proc.devRef .tc main_while0b_v156 : DevRef τ sig).ty.Contents (Elt F)) = Cert.ReferenceIdeal.Step.b49 j s := by
  unfold Cert.ReferenceIdeal.Step.b49
  rw [← al_47 h, ← al_44 h, ← al_48 h]
  try rfl
set_option maxRecDepth 8192 in
theorem al_50 (h : Holds V0 s j) : (Host.dotGeneral dot_S64x4x256_S4x64x64_S4x256x64_0_2_2_1_1_0 none (res_main_while0b_v143 V0) (select (broadcastInDim S4x64x64 ![1, 2] bcast_S64x64_S4x64x64_1_2 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (Host.dotGeneral dot_S64x4x128_S64x4x128_S4x64x64_2_2_0_0_1_1 none (res_main_while0b_v149 V0) (mulf (res_main_while0b_v142 V0) (Host.exp (Host.negf (res_main_while0b_v147 V0))))) (broadcastInDim S4x64x64 ![] bcast_S_S4x64x64 (id (constant S_ .f32 0x00000000#32)))) : (Proc.devRef .tc main_while0b_v157 : DevRef τ sig).ty.Contents (Elt F)) = Cert.ReferenceIdeal.Step.b50 j s := by
  unfold Cert.ReferenceIdeal.Step.b50
  rw [← al_14 h, ← al_49 h]
  try rfl
set_option maxRecDepth 8192 in
theorem al_51 (h : Holds V0 s j) : (transpose S64x4x256 [2, 0, 1] (Host.dotGeneral dot_S64x4x256_S4x64x64_S4x256x64_0_2_2_1_1_0 none (res_main_while0b_v143 V0) (select (broadcastInDim S4x64x64 ![1, 2] bcast_S64x64_S4x64x64_1_2 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (Host.dotGeneral dot_S64x4x128_S64x4x128_S4x64x64_2_2_0_0_1_1 none (res_main_while0b_v149 V0) (mulf (res_main_while0b_v142 V0) (Host.exp (Host.negf (res_main_while0b_v147 V0))))) (broadcastInDim S4x64x64 ![] bcast_S_S4x64x64 (id (constant S_ .f32 0x00000000#32))))) transposes_S4x256x64_S64x4x256_2_0_1 : (Proc.devRef .tc main_while0b_v158 : DevRef τ sig).ty.Contents (Elt F)) = Cert.ReferenceIdeal.Step.b51 j s := by
  unfold Cert.ReferenceIdeal.Step.b51
  rw [← al_50 h]
  try rfl
set_option maxRecDepth 8192 in
theorem al_52 (h : Holds V0 s j) : (extractStridedSlice S1x4x128 ![63, 0, 0] (res_main_while0b_v147 V0) slices_S64x4x128_S1x4x128_63_0_0 : (Proc.devRef .tc main_while0b_v159 : DevRef τ sig).ty.Contents (Elt F)) = Cert.ReferenceIdeal.Step.b52 j s := by
  unfold Cert.ReferenceIdeal.Step.b52
  rw [← al_27 h]
  try rfl
set_option maxRecDepth 8192 in
theorem al_53 (h : Holds V0 s j) : (res_main_while0b_v160 V0 : (Proc.devRef .tc main_while0b_v160 : DevRef τ sig).ty.Contents (Elt F)) = Cert.ReferenceIdeal.Step.b53 j s := by
  unfold res_main_while0b_v160 Cert.ReferenceIdeal.Step.b53
  rw [← al_52 h]
  try rfl
set_option maxRecDepth 8192 in
theorem al_54 (h : Holds V0 s j) : (broadcastInDim S1x4x128 ![1, 2] bcast_S4x128_S1x4x128_1_2 (res_main_while0b_v160 V0) : (Proc.devRef .tc main_while0b_v161 : DevRef τ sig).ty.Contents (Elt F)) = Cert.ReferenceIdeal.Step.b54 j s := by
  unfold Cert.ReferenceIdeal.Step.b54
  rw [← al_53 h]
  try rfl
set_option maxRecDepth 8192 in
theorem al_55 (h : Holds V0 s j) : (broadcastInDim S64x4x128 ![0, 1, 2] bcast_S1x4x128_S64x4x128_0_1_2 (broadcastInDim S1x4x128 ![1, 2] bcast_S4x128_S1x4x128_1_2 (res_main_while0b_v160 V0)) : (Proc.devRef .tc main_while0b_v162 : DevRef τ sig).ty.Contents (Elt F)) = Cert.ReferenceIdeal.Step.b55 j s := by
  unfold Cert.ReferenceIdeal.Step.b55
  rw [← al_54 h]
  try rfl
set_option maxRecDepth 8192 in
theorem al_56 (h : Holds V0 s j) : (subf (broadcastInDim S64x4x128 ![0, 1, 2] bcast_S1x4x128_S64x4x128_0_1_2 (broadcastInDim S1x4x128 ![1, 2] bcast_S4x128_S1x4x128_1_2 (res_main_while0b_v160 V0))) (res_main_while0b_v147 V0) : (Proc.devRef .tc main_while0b_v163 : DevRef τ sig).ty.Contents (Elt F)) = Cert.ReferenceIdeal.Step.b56 j s := by
  unfold Cert.ReferenceIdeal.Step.b56
  rw [← al_55 h, ← al_27 h]
  try rfl
set_option maxRecDepth 8192 in
theorem al_57 (h : Holds V0 s j) : (Host.exp (subf (broadcastInDim S64x4x128 ![0, 1, 2] bcast_S1x4x128_S64x4x128_0_1_2 (broadcastInDim S1x4x128 ![1, 2] bcast_S4x128_S1x4x128_1_2 (res_main_while0b_v160 V0))) (res_main_while0b_v147 V0)) : (Proc.devRef .tc main_while0b_v164 : DevRef τ sig).ty.Contents (Elt F)) = Cert.ReferenceIdeal.Step.b57 j s := by
  unfold Cert.ReferenceIdeal.Step.b57
  rw [← al_56 h]
  try rfl
set_option maxRecDepth 8192 in
theorem al_58 (h : Holds V0 s j) : (mulf (res_main_while0b_v142 V0) (Host.exp (subf (broadcastInDim S64x4x128 ![0, 1, 2] bcast_S1x4x128_S64x4x128_0_1_2 (broadcastInDim S1x4x128 ![1, 2] bcast_S4x128_S1x4x128_1_2 (res_main_while0b_v160 V0))) (res_main_while0b_v147 V0))) : (Proc.devRef .tc main_while0b_v165 : DevRef τ sig).ty.Contents (Elt F)) = Cert.ReferenceIdeal.Step.b58 j s := by
  unfold Cert.ReferenceIdeal.Step.b58
  rw [← al_9 h, ← al_57 h]
  try rfl
set_option maxRecDepth 8192 in
theorem al_59 (h : Holds V0 s j) : (Host.dotGeneral dot_S4x128x256_S64x4x128_S4x256x64_1_2_2_0_0_1 none (V0 (Proc.devRef .tc main_v49_7)) (res_main_while0b_v149 V0) : (Proc.devRef .tc main_while0b_v166 : DevRef τ sig).ty.Contents (Elt F)) = Cert.ReferenceIdeal.Step.b59 j s := by
  unfold Cert.ReferenceIdeal.Step.b59
  rw [← al_29 h, h.f_7]
  try rfl
set_option maxRecDepth 8192 in
theorem al_60 (h : Holds V0 s j) : (transpose S64x4x256 [2, 0, 1] (Host.dotGeneral dot_S4x128x256_S64x4x128_S4x256x64_1_2_2_0_0_1 none (V0 (Proc.devRef .tc main_v49_7)) (res_main_while0b_v149 V0)) transposes_S4x256x64_S64x4x256_2_0_1 : (Proc.devRef .tc main_while0b_v167 : DevRef τ sig).ty.Contents (Elt F)) = Cert.ReferenceIdeal.Step.b60 j s := by
  unfold Cert.ReferenceIdeal.Step.b60
  rw [← al_59 h]
  try rfl
set_option maxRecDepth 8192 in
theorem al_61 (h : Holds V0 s j) : (res_main_while0b_v168 V0 : (Proc.devRef .tc main_while0b_v168 : DevRef τ sig).ty.Contents (Elt F)) = Cert.ReferenceIdeal.Step.b61 j s := by
  unfold res_main_while0b_v168 Cert.ReferenceIdeal.Step.b61
  rw [← al_51 h, ← al_60 h]
  try rfl
set_option maxRecDepth 8192 in
theorem al_62 (h : Holds V0 s j) : (Host.exp (res_main_while0b_v160 V0) : (Proc.devRef .tc main_while0b_v169 : DevRef τ sig).ty.Contents (Elt F)) = Cert.ReferenceIdeal.Step.b62 j s := by
  unfold Cert.ReferenceIdeal.Step.b62
  rw [← al_53 h]
  try rfl
set_option maxRecDepth 8192 in
theorem al_63 (h : Holds V0 s j) : (broadcastInDim S4x128x1 ![0, 1] bcast_S4x128_S4x128x1_0_1 (Host.exp (res_main_while0b_v160 V0)) : (Proc.devRef .tc main_while0b_v170 : DevRef τ sig).ty.Contents (Elt F)) = Cert.ReferenceIdeal.Step.b63 j s := by
  unfold Cert.ReferenceIdeal.Step.b63
  rw [← al_62 h]
  try rfl
set_option maxRecDepth 8192 in
theorem al_64 (h : Holds V0 s j) : (broadcastInDim S4x128x256 ![0, 1, 2] bcast_S4x128x1_S4x128x256_0_1_2 (broadcastInDim S4x128x1 ![0, 1] bcast_S4x128_S4x128x1_0_1 (Host.exp (res_main_while0b_v160 V0))) : (Proc.devRef .tc main_while0b_v171 : DevRef τ sig).ty.Contents (Elt F)) = Cert.ReferenceIdeal.Step.b64 j s := by
  unfold Cert.ReferenceIdeal.Step.b64
  rw [← al_63 h]
  try rfl
set_option maxRecDepth 8192 in
theorem al_65 (h : Holds V0 s j) : (mulf (broadcastInDim S4x128x256 ![0, 1, 2] bcast_S4x128x1_S4x128x256_0_1_2 (broadcastInDim S4x128x1 ![0, 1] bcast_S4x128_S4x128x1_0_1 (Host.exp (res_main_while0b_v160 V0)))) (V0 (Proc.devRef .tc main_v49_7)) : (Proc.devRef .tc main_while0b_v172 : DevRef τ sig).ty.Contents (Elt F)) = Cert.ReferenceIdeal.Step.b65 j s := by
  unfold Cert.ReferenceIdeal.Step.b65
  rw [← al_64 h, h.f_7]
  try rfl
set_option maxRecDepth 8192 in
theorem al_66 (h : Holds V0 s j) : (Host.dotGeneral dot_S64x4x128_S64x4x256_S4x128x256_0_0_2_2_1_1 none (mulf (res_main_while0b_v142 V0) (Host.exp (subf (broadcastInDim S64x4x128 ![0, 1, 2] bcast_S1x4x128_S64x4x128_0_1_2 (broadcastInDim S1x4x128 ![1, 2] bcast_S4x128_S1x4x128_1_2 (res_main_while0b_v160 V0))) (res_main_while0b_v147 V0)))) (res_main_while0b_v143 V0) : (Proc.devRef .tc main_while0b_v173 : DevRef τ sig).ty.Contents (Elt F)) = Cert.ReferenceIdeal.Step.b66 j s := by
  unfold Cert.ReferenceIdeal.Step.b66
  rw [← al_58 h, ← al_14 h]
  try rfl
set_option maxRecDepth 8192 in
theorem al_67 (h : Holds V0 s j) : (addf (mulf (broadcastInDim S4x128x256 ![0, 1, 2] bcast_S4x128x1_S4x128x256_0_1_2 (broadcastInDim S4x128x1 ![0, 1] bcast_S4x128_S4x128x1_0_1 (Host.exp (res_main_while0b_v160 V0)))) (V0 (Proc.devRef .tc main_v49_7))) (Host.dotGeneral dot_S64x4x128_S64x4x256_S4x128x256_0_0_2_2_1_1 none (mulf (res_main_while0b_v142 V0) (Host.exp (subf (broadcastInDim S64x4x128 ![0, 1, 2] bcast_S1x4x128_S64x4x128_0_1_2 (broadcastInDim S1x4x128 ![1, 2] bcast_S4x128_S1x4x128_1_2 (res_main_while0b_v160 V0))) (res_main_while0b_v147 V0)))) (res_main_while0b_v143 V0)) : (Proc.devRef .tc main_while0b_v174 : DevRef τ sig).ty.Contents (Elt F)) = Cert.ReferenceIdeal.Step.b67 j s := by
  unfold Cert.ReferenceIdeal.Step.b67
  rw [← al_65 h, ← al_66 h]
  try rfl
set_option maxRecDepth 8192 in
theorem al_68 (h : Holds V0 s j) : (mulf (res_main_while0b_v168 V0) (res_main_while0b_v168 V0) : (Proc.devRef .tc main_while0b_v175 : DevRef τ sig).ty.Contents (Elt F)) = Cert.ReferenceIdeal.Step.b68 j s := by
  unfold Cert.ReferenceIdeal.Step.b68
  rw [← al_61 h]
  try rfl
set_option maxRecDepth 8192 in
theorem al_69 (h : Holds V0 s j) : (constant S_ .f32 0x00000000#32 : (Proc.devRef .tc main_while0b_cst_28 : DevRef τ sig).ty.Contents (Elt F)) = Cert.ReferenceIdeal.Step.b69 j s := by
  unfold Cert.ReferenceIdeal.Step.b69
  rfl
set_option maxRecDepth 8192 in
theorem al_70 (h : Holds V0 s j) : (Host.reduceAdd (mulf (res_main_while0b_v168 V0) (res_main_while0b_v168 V0)) (constant S_ .f32 0x00000000#32) reducesTo_S64x4x256_S64x4_d2 h_S_ : (Proc.devRef .tc main_while0b_v176 : DevRef τ sig).ty.Contents (Elt F)) = Cert.ReferenceIdeal.Step.b70 j s := by
  unfold Cert.ReferenceIdeal.Step.b70
  rw [← al_68 h, ← al_69 h]
  try rfl
set_option maxRecDepth 8192 in
theorem al_71 (h : Holds V0 s j) : (broadcastInDim S64x4x1 ![0, 1] bcast_S64x4_S64x4x1_0_1 (Host.reduceAdd (mulf (res_main_while0b_v168 V0) (res_main_while0b_v168 V0)) (constant S_ .f32 0x00000000#32) reducesTo_S64x4x256_S64x4_d2 h_S_) : (Proc.devRef .tc main_while0b_v177 : DevRef τ sig).ty.Contents (Elt F)) = Cert.ReferenceIdeal.Step.b71 j s := by
  unfold Cert.ReferenceIdeal.Step.b71
  rw [← al_70 h]
  try rfl
set_option maxRecDepth 8192 in
theorem al_72 (h : Holds V0 s j) : (constant S_ .f32 0x43800000#32 : (Proc.devRef .tc main_while0b_cst_29 : DevRef τ sig).ty.Contents (Elt F)) = Cert.ReferenceIdeal.Step.b72 j s := by
  unfold Cert.ReferenceIdeal.Step.b72
  rfl
set_option maxRecDepth 8192 in
theorem al_73 (h : Holds V0 s j) : (broadcastInDim S64x4x1 ![] bcast_S_S64x4x1 (constant S_ .f32 0x43800000#32) : (Proc.devRef .tc main_while0b_v178 : DevRef τ sig).ty.Contents (Elt F)) = Cert.ReferenceIdeal.Step.b73 j s := by
  unfold Cert.ReferenceIdeal.Step.b73
  rw [← al_72 h]
  try rfl
set_option maxRecDepth 8192 in
theorem al_74 (h : Holds V0 s j) : (Host.divf (broadcastInDim S64x4x1 ![0, 1] bcast_S64x4_S64x4x1_0_1 (Host.reduceAdd (mulf (res_main_while0b_v168 V0) (res_main_while0b_v168 V0)) (constant S_ .f32 0x00000000#32) reducesTo_S64x4x256_S64x4_d2 h_S_)) (broadcastInDim S64x4x1 ![] bcast_S_S64x4x1 (constant S_ .f32 0x43800000#32)) : (Proc.devRef .tc main_while0b_v179 : DevRef τ sig).ty.Contents (Elt F)) = Cert.ReferenceIdeal.Step.b74 j s := by
  unfold Cert.ReferenceIdeal.Step.b74
  rw [← al_71 h, ← al_73 h]
  try rfl
set_option maxRecDepth 8192 in
theorem al_75 (h : Holds V0 s j) : (constant S_ .f32 0x3727C5AC#32 : (Proc.devRef .tc main_while0b_cst_30 : DevRef τ sig).ty.Contents (Elt F)) = Cert.ReferenceIdeal.Step.b75 j s := by
  unfold Cert.ReferenceIdeal.Step.b75
  rfl
set_option maxRecDepth 8192 in
theorem al_76 (h : Holds V0 s j) : (broadcastInDim S64x4x1 ![] bcast_S_S64x4x1 (constant S_ .f32 0x3727C5AC#32) : (Proc.devRef .tc main_while0b_v180 : DevRef τ sig).ty.Contents (Elt F)) = Cert.ReferenceIdeal.Step.b76 j s := by
  unfold Cert.ReferenceIdeal.Step.b76
  rw [← al_75 h]
  try rfl
set_option maxRecDepth 8192 in
theorem al_77 (h : Holds V0 s j) : (addf (Host.divf (broadcastInDim S64x4x1 ![0, 1] bcast_S64x4_S64x4x1_0_1 (Host.reduceAdd (mulf (res_main_while0b_v168 V0) (res_main_while0b_v168 V0)) (constant S_ .f32 0x00000000#32) reducesTo_S64x4x256_S64x4_d2 h_S_)) (broadcastInDim S64x4x1 ![] bcast_S_S64x4x1 (constant S_ .f32 0x43800000#32))) (broadcastInDim S64x4x1 ![] bcast_S_S64x4x1 (constant S_ .f32 0x3727C5AC#32)) : (Proc.devRef .tc main_while0b_v181 : DevRef τ sig).ty.Contents (Elt F)) = Cert.ReferenceIdeal.Step.b77 j s := by
  unfold Cert.ReferenceIdeal.Step.b77
  rw [← al_74 h, ← al_76 h]
  try rfl
set_option maxRecDepth 8192 in
theorem al_78 (h : Holds V0 s j) : (Host.rsqrt (addf (Host.divf (broadcastInDim S64x4x1 ![0, 1] bcast_S64x4_S64x4x1_0_1 (Host.reduceAdd (mulf (res_main_while0b_v168 V0) (res_main_while0b_v168 V0)) (constant S_ .f32 0x00000000#32) reducesTo_S64x4x256_S64x4_d2 h_S_)) (broadcastInDim S64x4x1 ![] bcast_S_S64x4x1 (constant S_ .f32 0x43800000#32))) (broadcastInDim S64x4x1 ![] bcast_S_S64x4x1 (constant S_ .f32 0x3727C5AC#32))) : (Proc.devRef .tc main_while0b_v182 : DevRef τ sig).ty.Contents (Elt F)) = Cert.ReferenceIdeal.Step.b78 j s := by
  unfold Cert.ReferenceIdeal.Step.b78
  rw [← al_77 h]
  try rfl
set_option maxRecDepth 8192 in
theorem al_79 (h : Holds V0 s j) : (broadcastInDim S64x4x256 ![0, 1, 2] bcast_S64x4x1_S64x4x256_0_1_2 (Host.rsqrt (addf (Host.divf (broadcastInDim S64x4x1 ![0, 1] bcast_S64x4_S64x4x1_0_1 (Host.reduceAdd (mulf (res_main_while0b_v168 V0) (res_main_while0b_v168 V0)) (constant S_ .f32 0x00000000#32) reducesTo_S64x4x256_S64x4_d2 h_S_)) (broadcastInDim S64x4x1 ![] bcast_S_S64x4x1 (constant S_ .f32 0x43800000#32))) (broadcastInDim S64x4x1 ![] bcast_S_S64x4x1 (constant S_ .f32 0x3727C5AC#32)))) : (Proc.devRef .tc main_while0b_v183 : DevRef τ sig).ty.Contents (Elt F)) = Cert.ReferenceIdeal.Step.b79 j s := by
  unfold Cert.ReferenceIdeal.Step.b79
  rw [← al_78 h]
  try rfl
set_option maxRecDepth 8192 in
theorem al_80 (h : Holds V0 s j) : (mulf (res_main_while0b_v168 V0) (broadcastInDim S64x4x256 ![0, 1, 2] bcast_S64x4x1_S64x4x256_0_1_2 (Host.rsqrt (addf (Host.divf (broadcastInDim S64x4x1 ![0, 1] bcast_S64x4_S64x4x1_0_1 (Host.reduceAdd (mulf (res_main_while0b_v168 V0) (res_main_while0b_v168 V0)) (constant S_ .f32 0x00000000#32) reducesTo_S64x4x256_S64x4_d2 h_S_)) (broadcastInDim S64x4x1 ![] bcast_S_S64x4x1 (constant S_ .f32 0x43800000#32))) (broadcastInDim S64x4x1 ![] bcast_S_S64x4x1 (constant S_ .f32 0x3727C5AC#32))))) : (Proc.devRef .tc main_while0b_v184 : DevRef τ sig).ty.Contents (Elt F)) = Cert.ReferenceIdeal.Step.b80 j s := by
  unfold Cert.ReferenceIdeal.Step.b80
  rw [← al_61 h, ← al_79 h]
  try rfl
set_option maxRecDepth 8192 in
theorem al_81 (h : Holds V0 s j) : (broadcastInDim S1x1x256 ![2] bcast_S256_S1x1x256_2 (shapeCast S256 (V0 (Proc.devRef .tc main_v49_5)) shapeCasts_S1x256_S256) : (Proc.devRef .tc main_while0b_v185 : DevRef τ sig).ty.Contents (Elt F)) = Cert.ReferenceIdeal.Step.b81 j s := by
  unfold Cert.ReferenceIdeal.Step.b81
  rw [← al_24 h]
  try rfl
set_option maxRecDepth 8192 in
theorem al_82 (h : Holds V0 s j) : (broadcastInDim S64x4x256 ![0, 1, 2] bcast_S1x1x256_S64x4x256_0_1_2 (broadcastInDim S1x1x256 ![2] bcast_S256_S1x1x256_2 (shapeCast S256 (V0 (Proc.devRef .tc main_v49_5)) shapeCasts_S1x256_S256)) : (Proc.devRef .tc main_while0b_v186 : DevRef τ sig).ty.Contents (Elt F)) = Cert.ReferenceIdeal.Step.b82 j s := by
  unfold Cert.ReferenceIdeal.Step.b82
  rw [← al_81 h]
  try rfl
set_option maxRecDepth 8192 in
theorem al_83 (h : Holds V0 s j) : (mulf (mulf (res_main_while0b_v168 V0) (broadcastInDim S64x4x256 ![0, 1, 2] bcast_S64x4x1_S64x4x256_0_1_2 (Host.rsqrt (addf (Host.divf (broadcastInDim S64x4x1 ![0, 1] bcast_S64x4_S64x4x1_0_1 (Host.reduceAdd (mulf (res_main_while0b_v168 V0) (res_main_while0b_v168 V0)) (constant S_ .f32 0x00000000#32) reducesTo_S64x4x256_S64x4_d2 h_S_)) (broadcastInDim S64x4x1 ![] bcast_S_S64x4x1 (constant S_ .f32 0x43800000#32))) (broadcastInDim S64x4x1 ![] bcast_S_S64x4x1 (constant S_ .f32 0x3727C5AC#32)))))) (broadcastInDim S64x4x256 ![0, 1, 2] bcast_S1x1x256_S64x4x256_0_1_2 (broadcastInDim S1x1x256 ![2] bcast_S256_S1x1x256_2 (shapeCast S256 (V0 (Proc.devRef .tc main_v49_5)) shapeCasts_S1x256_S256))) : (Proc.devRef .tc main_while0b_v187 : DevRef τ sig).ty.Contents (Elt F)) = Cert.ReferenceIdeal.Step.b83 j s := by
  unfold Cert.ReferenceIdeal.Step.b83
  rw [← al_80 h, ← al_82 h]
  try rfl
set_option maxRecDepth 8192 in
theorem al_84 (h : Holds V0 s j) : (shapeCast S64x1024 (mulf (mulf (res_main_while0b_v168 V0) (broadcastInDim S64x4x256 ![0, 1, 2] bcast_S64x4x1_S64x4x256_0_1_2 (Host.rsqrt (addf (Host.divf (broadcastInDim S64x4x1 ![0, 1] bcast_S64x4_S64x4x1_0_1 (Host.reduceAdd (mulf (res_main_while0b_v168 V0) (res_main_while0b_v168 V0)) (constant S_ .f32 0x00000000#32) reducesTo_S64x4x256_S64x4_d2 h_S_)) (broadcastInDim S64x4x1 ![] bcast_S_S64x4x1 (constant S_ .f32 0x43800000#32))) (broadcastInDim S64x4x1 ![] bcast_S_S64x4x1 (constant S_ .f32 0x3727C5AC#32)))))) (broadcastInDim S64x4x256 ![0, 1, 2] bcast_S1x1x256_S64x4x256_0_1_2 (broadcastInDim S1x1x256 ![2] bcast_S256_S1x1x256_2 (shapeCast S256 (V0 (Proc.devRef .tc main_v49_5)) shapeCasts_S1x256_S256)))) shapeCasts_S64x4x256_S64x1024 : (Proc.devRef .tc main_while0b_v188 : DevRef τ sig).ty.Contents (Elt F)) = Cert.ReferenceIdeal.Step.b84 j s := by
  unfold Cert.ReferenceIdeal.Step.b84
  rw [← al_83 h]
  try rfl
set_option maxRecDepth 8192 in
theorem al_85 (h : Holds V0 s j) : (Host.negf (res_main_while0b_v145 V0) : (Proc.devRef .tc main_while0b_call8_v0 : DevRef τ sig).ty.Contents (Elt F)) = Cert.ReferenceIdeal.Step.b85 j s := by
  unfold Cert.ReferenceIdeal.Step.b85
  rw [← al_23 h]
  try rfl
set_option maxRecDepth 8192 in
theorem al_86 (h : Holds V0 s j) : (Host.exp (Host.negf (res_main_while0b_v145 V0)) : (Proc.devRef .tc main_while0b_call8_v1 : DevRef τ sig).ty.Contents (Elt F)) = Cert.ReferenceIdeal.Step.b86 j s := by
  unfold Cert.ReferenceIdeal.Step.b86
  rw [← al_85 h]
  try rfl
set_option maxRecDepth 8192 in
theorem al_87 (h : Holds V0 s j) : (constant S_ .f32 0x3F800000#32 : (Proc.devRef .tc main_while0b_call8_cst : DevRef τ sig).ty.Contents (Elt F)) = Cert.ReferenceIdeal.Step.b87 j s := by
  unfold Cert.ReferenceIdeal.Step.b87
  rfl
set_option maxRecDepth 8192 in
theorem al_88 (h : Holds V0 s j) : (broadcastInDim S64x1024 ![] bcast_S_S64x1024 (constant S_ .f32 0x3F800000#32) : (Proc.devRef .tc main_while0b_call8_v2 : DevRef τ sig).ty.Contents (Elt F)) = Cert.ReferenceIdeal.Step.b88 j s := by
  unfold Cert.ReferenceIdeal.Step.b88
  rw [← al_87 h]
  try rfl
set_option maxRecDepth 8192 in
theorem al_89 (h : Holds V0 s j) : (addf (broadcastInDim S64x1024 ![] bcast_S_S64x1024 (constant S_ .f32 0x3F800000#32)) (Host.exp (Host.negf (res_main_while0b_v145 V0))) : (Proc.devRef .tc main_while0b_call8_v3 : DevRef τ sig).ty.Contents (Elt F)) = Cert.ReferenceIdeal.Step.b89 j s := by
  unfold Cert.ReferenceIdeal.Step.b89
  rw [← al_88 h, ← al_86 h]
  try rfl
set_option maxRecDepth 8192 in
theorem al_90 (h : Holds V0 s j) : (constant S_ .f32 0x3F800000#32 : (Proc.devRef .tc main_while0b_call8_cst_0 : DevRef τ sig).ty.Contents (Elt F)) = Cert.ReferenceIdeal.Step.b90 j s := by
  unfold Cert.ReferenceIdeal.Step.b90
  rfl
set_option maxRecDepth 8192 in
theorem al_91 (h : Holds V0 s j) : (broadcastInDim S64x1024 ![] bcast_S_S64x1024 (constant S_ .f32 0x3F800000#32) : (Proc.devRef .tc main_while0b_call8_v4 : DevRef τ sig).ty.Contents (Elt F)) = Cert.ReferenceIdeal.Step.b91 j s := by
  unfold Cert.ReferenceIdeal.Step.b91
  rw [← al_90 h]
  try rfl
set_option maxRecDepth 8192 in
theorem al_92 (h : Holds V0 s j) : (Host.divf (broadcastInDim S64x1024 ![] bcast_S_S64x1024 (constant S_ .f32 0x3F800000#32)) (addf (broadcastInDim S64x1024 ![] bcast_S_S64x1024 (constant S_ .f32 0x3F800000#32)) (Host.exp (Host.negf (res_main_while0b_v145 V0)))) : (Proc.devRef .tc main_while0b_call8_v5 : DevRef τ sig).ty.Contents (Elt F)) = Cert.ReferenceIdeal.Step.b92 j s := by
  unfold Cert.ReferenceIdeal.Step.b92
  rw [← al_91 h, ← al_89 h]
  try rfl
set_option maxRecDepth 8192 in
theorem al_93 (h : Holds V0 s j) : (mulf (res_main_while0b_v145 V0) (Host.divf (broadcastInDim S64x1024 ![] bcast_S_S64x1024 (constant S_ .f32 0x3F800000#32)) (addf (broadcastInDim S64x1024 ![] bcast_S_S64x1024 (constant S_ .f32 0x3F800000#32)) (Host.exp (Host.negf (res_main_while0b_v145 V0))))) : (Proc.devRef .tc main_while0b_v189 : DevRef τ sig).ty.Contents (Elt F)) = Cert.ReferenceIdeal.Step.b93 j s := by
  unfold Cert.ReferenceIdeal.Step.b93
  rw [← al_23 h, ← al_92 h]
  try rfl
set_option maxRecDepth 8192 in
theorem al_94 (h : Holds V0 s j) : (mulf (shapeCast S64x1024 (mulf (mulf (res_main_while0b_v168 V0) (broadcastInDim S64x4x256 ![0, 1, 2] bcast_S64x4x1_S64x4x256_0_1_2 (Host.rsqrt (addf (Host.divf (broadcastInDim S64x4x1 ![0, 1] bcast_S64x4_S64x4x1_0_1 (Host.reduceAdd (mulf (res_main_while0b_v168 V0) (res_main_while0b_v168 V0)) (constant S_ .f32 0x00000000#32) reducesTo_S64x4x256_S64x4_d2 h_S_)) (broadcastInDim S64x4x1 ![] bcast_S_S64x4x1 (constant S_ .f32 0x43800000#32))) (broadcastInDim S64x4x1 ![] bcast_S_S64x4x1 (constant S_ .f32 0x3727C5AC#32)))))) (broadcastInDim S64x4x256 ![0, 1, 2] bcast_S1x1x256_S64x4x256_0_1_2 (broadcastInDim S1x1x256 ![2] bcast_S256_S1x1x256_2 (shapeCast S256 (V0 (Proc.devRef .tc main_v49_5)) shapeCasts_S1x256_S256)))) shapeCasts_S64x4x256_S64x1024) (mulf (res_main_while0b_v145 V0) (Host.divf (broadcastInDim S64x1024 ![] bcast_S_S64x1024 (constant S_ .f32 0x3F800000#32)) (addf (broadcastInDim S64x1024 ![] bcast_S_S64x1024 (constant S_ .f32 0x3F800000#32)) (Host.exp (Host.negf (res_main_while0b_v145 V0)))))) : (Proc.devRef .tc main_while0b_v190 : DevRef τ sig).ty.Contents (Elt F)) = Cert.ReferenceIdeal.Step.b94 j s := by
  unfold Cert.ReferenceIdeal.Step.b94
  rw [← al_84 h, ← al_93 h]
  try rfl
set_option maxRecDepth 8192 in
theorem al_95 (h : Holds V0 s j) : (broadcastInDim S1x64x1024 ![1, 2] bcast_S64x1024_S1x64x1024_1_2 (mulf (shapeCast S64x1024 (mulf (mulf (res_main_while0b_v168 V0) (broadcastInDim S64x4x256 ![0, 1, 2] bcast_S64x4x1_S64x4x256_0_1_2 (Host.rsqrt (addf (Host.divf (broadcastInDim S64x4x1 ![0, 1] bcast_S64x4_S64x4x1_0_1 (Host.reduceAdd (mulf (res_main_while0b_v168 V0) (res_main_while0b_v168 V0)) (constant S_ .f32 0x00000000#32) reducesTo_S64x4x256_S64x4_d2 h_S_)) (broadcastInDim S64x4x1 ![] bcast_S_S64x4x1 (constant S_ .f32 0x43800000#32))) (broadcastInDim S64x4x1 ![] bcast_S_S64x4x1 (constant S_ .f32 0x3727C5AC#32)))))) (broadcastInDim S64x4x256 ![0, 1, 2] bcast_S1x1x256_S64x4x256_0_1_2 (broadcastInDim S1x1x256 ![2] bcast_S256_S1x1x256_2 (shapeCast S256 (V0 (Proc.devRef .tc main_v49_5)) shapeCasts_S1x256_S256)))) shapeCasts_S64x4x256_S64x1024) (mulf (res_main_while0b_v145 V0) (Host.divf (broadcastInDim S64x1024 ![] bcast_S_S64x1024 (constant S_ .f32 0x3F800000#32)) (addf (broadcastInDim S64x1024 ![] bcast_S_S64x1024 (constant S_ .f32 0x3F800000#32)) (Host.exp (Host.negf (res_main_while0b_v145 V0))))))) : (Proc.devRef .tc main_while0b_call9_v0 : DevRef τ sig).ty.Contents (Elt F)) = Cert.ReferenceIdeal.Step.b95 j s := by
  unfold Cert.ReferenceIdeal.Step.b95
  rw [← al_94 h]
  try rfl
set_option maxRecDepth 8192 in
theorem al_96 (h : Holds V0 s j) : (constantI S_ 32 0#32 : (Proc.devRef .tc main_while0b_call9_c : DevRef τ sig).ty.Contents (Elt F)) = Cert.ReferenceIdeal.Step.b96 j s := by
  unfold Cert.ReferenceIdeal.Step.b96
  rfl
set_option maxRecDepth 8192 in
theorem al_97 (h : Holds V0 s j) : (constantI S_ 32 0#32 : (Proc.devRef .tc main_while0b_call9_c_0 : DevRef τ sig).ty.Contents (Elt F)) = Cert.ReferenceIdeal.Step.b97 j s := by
  unfold Cert.ReferenceIdeal.Step.b97
  rfl
set_option maxRecDepth 8192 in
theorem al_98 (h : Holds V0 s j) : (Host.dynamicUpdateSlice (V0 (Proc.devRef .tc main_v49_8)) (broadcastInDim S1x64x1024 ![1, 2] bcast_S64x1024_S1x64x1024_1_2 (mulf (shapeCast S64x1024 (mulf (mulf (res_main_while0b_v168 V0) (broadcastInDim S64x4x256 ![0, 1, 2] bcast_S64x4x1_S64x4x256_0_1_2 (Host.rsqrt (addf (Host.divf (broadcastInDim S64x4x1 ![0, 1] bcast_S64x4_S64x4x1_0_1 (Host.reduceAdd (mulf (res_main_while0b_v168 V0) (res_main_while0b_v168 V0)) (constant S_ .f32 0x00000000#32) reducesTo_S64x4x256_S64x4_d2 h_S_)) (broadcastInDim S64x4x1 ![] bcast_S_S64x4x1 (constant S_ .f32 0x43800000#32))) (broadcastInDim S64x4x1 ![] bcast_S_S64x4x1 (constant S_ .f32 0x3727C5AC#32)))))) (broadcastInDim S64x4x256 ![0, 1, 2] bcast_S1x1x256_S64x4x256_0_1_2 (broadcastInDim S1x1x256 ![2] bcast_S256_S1x1x256_2 (shapeCast S256 (V0 (Proc.devRef .tc main_v49_5)) shapeCasts_S1x256_S256)))) shapeCasts_S64x4x256_S64x1024) (mulf (res_main_while0b_v145 V0) (Host.divf (broadcastInDim S64x1024 ![] bcast_S_S64x1024 (constant S_ .f32 0x3F800000#32)) (addf (broadcastInDim S64x1024 ![] bcast_S_S64x1024 (constant S_ .f32 0x3F800000#32)) (Host.exp (Host.negf (res_main_while0b_v145 V0)))))))) (fun k => (((![V0 (Proc.devRef .tc main_v49_6), constantI S_ 32 0#32, constantI S_ 32 0#32] : Fin 3 → (⟨S_, .i32⟩ : BufTy).Contents (Elt F))) k (Shape.Idx.first h_S_)).toInt) updateFits_S256x64x1024_S1x64x1024 : (Proc.devRef .tc main_while0b_v191 : DevRef τ sig).ty.Contents (Elt F)) = Cert.ReferenceIdeal.Step.b98 j s := by
  unfold Cert.ReferenceIdeal.Step.b98
  rw [← al_95 h, ← al_96 h, ← al_97 h, h.f_8, h.n_6]
  try rfl

/-! One trip's step of the carried values is `step`, field by field; a counter steps to the next number. -/

theorem step_7 (h : Holds V0 s j) : step_main_v49_7 V0 = (step j s).main_v49_7 := by
  unfold step_main_v49_7 Cert.ReferenceIdeal.Step.step
  show id (addf (mulf (broadcastInDim S4x128x256 ![0, 1, 2] bcast_S4x128x1_S4x128x256_0_1_2 (broadcastInDim S4x128x1 ![0, 1] bcast_S4x128_S4x128x1_0_1 (Host.exp (res_main_while0b_v160 V0)))) (V0 (Proc.devRef .tc main_v49_7))) (Host.dotGeneral dot_S64x4x128_S64x4x256_S4x128x256_0_0_2_2_1_1 none (mulf (res_main_while0b_v142 V0) (Host.exp (subf (broadcastInDim S64x4x128 ![0, 1, 2] bcast_S1x4x128_S64x4x128_0_1_2 (broadcastInDim S1x4x128 ![1, 2] bcast_S4x128_S1x4x128_1_2 (res_main_while0b_v160 V0))) (res_main_while0b_v147 V0)))) (res_main_while0b_v143 V0))) = _
  rw [al_67 h]
  try rfl
theorem step_8 (h : Holds V0 s j) : step_main_v49_8 V0 = (step j s).main_v49_8 := by
  unfold step_main_v49_8 Cert.ReferenceIdeal.Step.step
  show id (Host.dynamicUpdateSlice (V0 (Proc.devRef .tc main_v49_8)) (broadcastInDim S1x64x1024 ![1, 2] bcast_S64x1024_S1x64x1024_1_2 (mulf (shapeCast S64x1024 (mulf (mulf (res_main_while0b_v168 V0) (broadcastInDim S64x4x256 ![0, 1, 2] bcast_S64x4x1_S64x4x256_0_1_2 (Host.rsqrt (addf (Host.divf (broadcastInDim S64x4x1 ![0, 1] bcast_S64x4_S64x4x1_0_1 (Host.reduceAdd (mulf (res_main_while0b_v168 V0) (res_main_while0b_v168 V0)) (constant S_ .f32 0x00000000#32) reducesTo_S64x4x256_S64x4_d2 h_S_)) (broadcastInDim S64x4x1 ![] bcast_S_S64x4x1 (constant S_ .f32 0x43800000#32))) (broadcastInDim S64x4x1 ![] bcast_S_S64x4x1 (constant S_ .f32 0x3727C5AC#32)))))) (broadcastInDim S64x4x256 ![0, 1, 2] bcast_S1x1x256_S64x4x256_0_1_2 (broadcastInDim S1x1x256 ![2] bcast_S256_S1x1x256_2 (shapeCast S256 (V0 (Proc.devRef .tc main_v49_5)) shapeCasts_S1x256_S256)))) shapeCasts_S64x4x256_S64x1024) (mulf (res_main_while0b_v145 V0) (Host.divf (broadcastInDim S64x1024 ![] bcast_S_S64x1024 (constant S_ .f32 0x3F800000#32)) (addf (broadcastInDim S64x1024 ![] bcast_S_S64x1024 (constant S_ .f32 0x3F800000#32)) (Host.exp (Host.negf (res_main_while0b_v145 V0)))))))) (fun k => (((![V0 (Proc.devRef .tc main_v49_6), constantI S_ 32 0#32, constantI S_ 32 0#32] : Fin 3 → (⟨S_, .i32⟩ : BufTy).Contents (Elt F))) k (Shape.Idx.first h_S_)).toInt) updateFits_S256x64x1024_S1x64x1024) = _
  exact al_98 h
theorem step_6 (h : Holds V0 s j) : step_main_v49_6 V0 = constantI S_ 32 (BitVec.ofNat 32 (j + 1)) := by
  unfold step_main_v49_6
  rw [h.n_6]
  funext i
  show BitVec.ofNat 32 j + 1#32 = BitVec.ofNat 32 (j + 1)
  simp only [BitVec.ofNat_add]

set_option maxRecDepth 8192 in
theorem out_main_v140_holds (h : Holds V0 s j) {x_main_arg0 : (⟨S16384x1024, .f32⟩ : BufTy).Contents (Elt F)} (h_main_arg0 : V0 (Proc.devRef .tc main_arg0) = x_main_arg0) {x_main_arg1 : (⟨S4x136x3072, .f32⟩ : BufTy).Contents (Elt F)} (h_main_arg1 : V0 (Proc.devRef .tc main_arg1) = x_main_arg1) {x_main_arg6 : (⟨S1x1024x1024, .f32⟩ : BufTy).Contents (Elt F)} (h_main_arg6 : V0 (Proc.devRef .tc main_arg6) = x_main_arg6) {x_main_arg7 : (⟨S2x1024x4096, .f32⟩ : BufTy).Contents (Elt F)} (h_main_arg7 : V0 (Proc.devRef .tc main_arg7) = x_main_arg7) {x_main_arg8 : (⟨S2x4096x1024, .f32⟩ : BufTy).Contents (Elt F)} (h_main_arg8 : V0 (Proc.devRef .tc main_arg8) = x_main_arg8) {x_main_arg9 : (⟨S2x2x1024, .f32⟩ : BufTy).Contents (Elt F)} (h_main_arg9 : V0 (Proc.devRef .tc main_arg9) = x_main_arg9) {x_main_arg10 : (⟨S2x2x1024, .f32⟩ : BufTy).Contents (Elt F)} (h_main_arg10 : V0 (Proc.devRef .tc main_arg10) = x_main_arg10) : out_main_v140 V0 = Cert.ReferenceIdeal.Step.R_main_v140 s x_main_arg0 x_main_arg1 x_main_arg6 x_main_arg7 x_main_arg8 x_main_arg9 x_main_arg10 := by
  unfold out_main_v140 Cert.ReferenceIdeal.Step.R_main_v140
  rw [h.f_8, h_main_arg0, h_main_arg1, h_main_arg6, h_main_arg7, h_main_arg8, h_main_arg9, h_main_arg10]
  try rfl

/-- One trip keeps the valuation holding: `step` of the state, the same set-up values, the next number. -/
theorem holds_step (h : Holds V0 s j) : Holds (STEP V0) (step j s) (j + 1) where
  f_7 := (STEP_main_v49_7 V0).trans (step_7 h)
  f_8 := (STEP_main_v49_8 V0).trans (step_8 h)
  n_6 := (STEP_main_v49_6 V0).trans (step_6 h)
  f_0 := (STEP_main_v49_0 V0).trans h.f_0
  f_1 := (STEP_main_v49_1 V0).trans h.f_1
  f_2 := (STEP_main_v49_2 V0).trans h.f_2
  f_3 := (STEP_main_v49_3 V0).trans h.f_3
  f_4 := (STEP_main_v49_4 V0).trans h.f_4
  f_5 := (STEP_main_v49_5 V0).trans h.f_5

/-- The state the first trip starts from, of the memory the run starts from. -/
abbrev initState (m : (ℓ : Loc nD τ sig) → Buf (Elt F) ℓ) (c : Dev nD) : State F :=
  init (m ((c.tc : Thread nD τ).loc main_arg5)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 256 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v140) = Cert.ReferenceIdeal.Step.R_main_v140 (it c 256) (m ((c.tc : Thread nD τ).loc main_arg0)) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v49_7) = (it c 256).main_v49_7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c =>
    have hk := holds_iter m c (it c) (h0 c) (hs c) 256
    ⟨(h c).1.trans (out_main_v140_holds hk (iter_main_arg0 m c 256) (iter_main_arg1 m c 256) (iter_main_arg6 m c 256) (iter_main_arg7 m c 256) (iter_main_arg8 m c 256) (iter_main_arg9 m c 256) (iter_main_arg10 m c 256)), (h c).2.1.trans hk.f_7, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2.1, (h c).2.2.2.2.2.2.2.2.2.2.2.2.2.2.2.2.2.2⟩) (Value.run m ρ)

end Cert.ReferenceIdeal.StepRun

end
-- ==== Proof.RWin.lean ====
/- The reference's running sum over a chunk, and its slices of one chunk. -/
module

public import proofs.«01_k».proof.Proof.Gen.ReferenceIdeal.Step
public import Idealize.ShloMosaic.Lib.Pointwise

@[expose] public section

set_option maxRecDepth 16384

noncomputable section

namespace Cert.ReferenceIdeal.Value

open Idealize.ShloMosaic Cert.ReferenceIdeal Cert.ReferenceIdeal.Gen Cert.ReferenceIdeal.Step

theorem foldl_add {α : Type} (g : α → EReal) (l : List α) (v : EReal) : l.foldl (fun r k => r + g k) v = v + (l.map g).sum := by
  induction l generalizing v with
  | nil => simp
  | cons a l ih => rw [List.foldl_cons, ih, List.map_cons, List.sum_cons, add_assoc]

theorem shift_sum (f : Fin 64 → EReal) (i : Fin 64) :
    (∑ x : Fin 64, if h : 63 ≤ i.val + x.val then f ⟨i.val + x.val - 63, by omega⟩ else 0) = ∑ y : Fin 64, if y ≤ i then f y else 0 := by
  rw [← Equiv.sum_comp (Equiv.addRight (i + 1)) (fun y : Fin 64 => if y ≤ i then f y else 0)]
  refine Finset.sum_congr rfl fun x _ => ?_
  have hv : (x + (i + 1)).val = (x.val + i.val + 1) % 64 := by
    rw [Fin.val_add, Fin.val_add]; show (x.val + (i.val + 1) % 64) % 64 = _; omega
  show _ = if x + (i + 1) ≤ i then f (x + (i + 1)) else 0
  by_cases h : 63 ≤ i.val + x.val
  · rw [dif_pos h, if_pos (by rw [Fin.le_def, hv]; omega)]
    exact congrArg f (Fin.ext (by rw [hv]; show i.val + x.val - 63 = _; omega))
  · rw [dif_neg h, if_neg (by rw [Fin.le_def, hv]; omega)]

theorem eq_win (p : (⟨3, ![64, 1, 1]⟩ : Shape).Idx) : p = ix3 (p 0) (0 : Fin 1) (0 : Fin 1) := by
  have h1 : (p 1).val < 1 := (p 1).isLt
  have h2 : (p 2).val < 1 := (p 2).isLt
  funext a
  match a with
  | ⟨0, _⟩ => rfl
  | ⟨1, _⟩ => exact Fin.ext (show (p 1).val = 0 by omega)
  | ⟨2, _⟩ => exact Fin.ext (show (p 2).val = 0 by omega)

theorem sum_win (f : (⟨3, ![64, 1, 1]⟩ : Shape).Idx → EReal) : ∑ p, f p = ∑ a : Fin 64, f (ix3 a 0 0) :=
  Fintype.sum_equiv ⟨fun p => p 0, fun a => ix3 a (0 : Fin 1) (0 : Fin 1), fun p => (eq_win p).symm, fun _ => rfl⟩ _ _
    fun p => congrArg f (eq_win p)

theorem running (x : FVec Ideal S64x4x128 .f32) (init : FVec Ideal S_ .f32) (hinit : init (Shape.Idx.first h_S_) = (0 : EReal)) (i : Fin 64) (h : Fin 4) (k : Fin 128) :
    Host.reduceWindowAdd ![64, 1, 1] ![1, 1, 1] ![63, 0, 0] ![0, 0, 0] x init reduceWindows_S64x4x128_S64x4x128_w64s1p63_0_w1s1p0_0_w1s1p0_0 h_S_ (ix3 i h k)
      = ∑ y : Fin 64, if y ≤ i then x (ix3 y h k) else (0 : EReal) := by
  show Ideal.hostReduceWindowAdd ![64, 1, 1] ![1, 1, 1] ![63, 0, 0] ![0, 0, 0]
    reduceWindows_S64x4x128_S64x4x128_w64s1p63_0_w1s1p0_0_w1s1p0_0 x (init (Shape.Idx.first h_S_)) (ix3 i h k) = _
  rw [hinit]
  unfold Ideal.hostReduceWindowAdd Host.reduceWindow
  dsimp only
  rw [foldl_add (fun n => _), zero_add, ← Fin.sum_univ_def]
  rw [← Equiv.sum_comp (Shape.rowMajor ⟨3, ![64, 1, 1]⟩)]
  simp only [Equiv.symm_apply_apply]
  rw [sum_win]
  rw [← shift_sum (fun y => x (ix3 y h k)) i]
  refine Finset.sum_congr rfl fun y _ => ?_
  have hh := h.isLt
  have hk := k.isLt
  by_cases hy : 63 ≤ i.val + y.val
  · rw [dif_pos hy, dif_pos]
    · refine congrArg x (funext fun a => ?_)
      match a with
      | ⟨0, _⟩ => exact Fin.ext (show i.val * 1 + y.val - 63 = i.val + y.val - 63 by omega)
      | ⟨1, _⟩ => exact Fin.ext (show h.val * 1 + 0 - 0 = h.val by omega)
      | ⟨2, _⟩ => exact Fin.ext (show k.val * 1 + 0 - 0 = k.val by omega)
    · intro a
      match a with
      | ⟨0, _⟩ => exact (show 63 ≤ i.val * 1 + y.val ∧ i.val * 1 + y.val - 63 < 64 by omega)
      | ⟨1, _⟩ => exact (show 0 ≤ h.val * 1 + 0 ∧ h.val * 1 + 0 - 0 < 4 by omega)
      | ⟨2, _⟩ => exact (show 0 ≤ k.val * 1 + 0 ∧ k.val * 1 + 0 - 0 < 128 by omega)
  · rw [dif_neg hy, dif_neg]
    intro hin
    have h0 : 63 ≤ i.val * 1 + y.val := (hin 0).1
    omega

end Cert.ReferenceIdeal.Value

end
end
-- ==== Proof.RStep.lean ====
/- A trip of the reference's loop, read at an index. -/
module

public import proofs.«01_k».proof.Proof.RWin
public import proofs.«01_k».proof.Proof.Logs
public import proofs.«01_k».proof.Proof.Layer

@[expose] public section

set_option maxRecDepth 16384

noncomputable section

namespace Cert.ReferenceIdeal.Value

open Idealize.ShloMosaic Cert.ReferenceIdeal Cert.ReferenceIdeal.Gen Cert.ReferenceIdeal.Step Cert.Spec

theorem toInt_small (j : ℕ) (hj : j < 256) : (BitVec.ofNat 32 j).toInt = (j : Int) := by
  have h : ∀ y : Fin 256, (BitVec.ofNat 32 y.val).toInt = (y.val : Int) := by decide +kernel
  exact h ⟨j, hj⟩

theorem low_words : ∀ i x : Fin 64, (Scalar.select (IntOp.cmpi CmpIPredicate.sge (IntOp.addi (BitVec.ofNat 32 i.val) 0#32) (BitVec.ofNat 32 x.val)) 1#1 0#1 : BitVec 1)
    = if x ≤ i then 1#1 else 0#1 := by decide +kernel

section
variable (j : ℕ) (hj : j < 256) (s : State Ideal)
include hj

theorem b4_read (i : Fin 64) (h : Fin 4) (k : Fin 128) : b4 j s (ix3 i h k) = s.main_v49_0 (ix4 ⟨j, hj⟩ i h k) := by
  pointwise [b4, b3, b2, b1, b0]
  refine congrArg s.main_v49_0 (funext fun a => Fin.ext ?_)
  have e0 := Host.clampedStart_of_le (s := S256x64x4x128) (t := S1x64x4x128) rfl (fun k => BitVec.toInt ((![constantI S_ 32 (BitVec.ofNat 32 j), constantI S_ 32 0#32, constantI S_ 32 0#32, constantI S_ 32 0#32] : Fin 4 → IVec S_ 32) k (Shape.Idx.first h_S_))) 0 j (toInt_small j hj) (show j + 1 ≤ 256 by omega)
  have e1 := Host.clampedStart_of_le (s := S256x64x4x128) (t := S1x64x4x128) rfl (fun k => BitVec.toInt ((![constantI S_ 32 (BitVec.ofNat 32 j), constantI S_ 32 0#32, constantI S_ 32 0#32, constantI S_ 32 0#32] : Fin 4 → IVec S_ 32) k (Shape.Idx.first h_S_))) 1 0 rfl (by decide)
  have e2 := Host.clampedStart_of_le (s := S256x64x4x128) (t := S1x64x4x128) rfl (fun k => BitVec.toInt ((![constantI S_ 32 (BitVec.ofNat 32 j), constantI S_ 32 0#32, constantI S_ 32 0#32, constantI S_ 32 0#32] : Fin 4 → IVec S_ 32) k (Shape.Idx.first h_S_))) 2 0 rfl (by decide)
  have e3 := Host.clampedStart_of_le (s := S256x64x4x128) (t := S1x64x4x128) rfl (fun k => BitVec.toInt ((![constantI S_ 32 (BitVec.ofNat 32 j), constantI S_ 32 0#32, constantI S_ 32 0#32, constantI S_ 32 0#32] : Fin 4 → IVec S_ 32) k (Shape.Idx.first h_S_))) 3 0 rfl (by decide)
  match a with
  | ⟨0, _⟩ => exact e0
  | ⟨1, _⟩ => exact (congrArg (· + i.val) e1).trans (zero_add _)
  | ⟨2, _⟩ => exact (congrArg (· + h.val) e2).trans (zero_add _)
  | ⟨3, _⟩ => exact (congrArg (· + k.val) e3).trans (zero_add _)

theorem b9_read (i : Fin 64) (h : Fin 4) (k : Fin 128) : b9 j s (ix3 i h k) = s.main_v49_1 (ix4 ⟨j, hj⟩ i h k) := by
  pointwise [b9, b8, b7, b6, b5]
  refine congrArg s.main_v49_1 (funext fun a => Fin.ext ?_)
  have e0 := Host.clampedStart_of_le (s := S256x64x4x128) (t := S1x64x4x128) rfl (fun k => BitVec.toInt ((![constantI S_ 32 (BitVec.ofNat 32 j), constantI S_ 32 0#32, constantI S_ 32 0#32, constantI S_ 32 0#32] : Fin 4 → IVec S_ 32) k (Shape.Idx.first h_S_))) 0 j (toInt_small j hj) (show j + 1 ≤ 256 by omega)
  have e1 := Host.clampedStart_of_le (s := S256x64x4x128) (t := S1x64x4x128) rfl (fun k => BitVec.toInt ((![constantI S_ 32 (BitVec.ofNat 32 j), constantI S_ 32 0#32, constantI S_ 32 0#32, constantI S_ 32 0#32] : Fin 4 → IVec S_ 32) k (Shape.Idx.first h_S_))) 1 0 rfl (by decide)
  have e2 := Host.clampedStart_of_le (s := S256x64x4x128) (t := S1x64x4x128) rfl (fun k => BitVec.toInt ((![constantI S_ 32 (BitVec.ofNat 32 j), constantI S_ 32 0#32, constantI S_ 32 0#32, constantI S_ 32 0#32] : Fin 4 → IVec S_ 32) k (Shape.Idx.first h_S_))) 2 0 rfl (by decide)
  have e3 := Host.clampedStart_of_le (s := S256x64x4x128) (t := S1x64x4x128) rfl (fun k => BitVec.toInt ((![constantI S_ 32 (BitVec.ofNat 32 j), constantI S_ 32 0#32, constantI S_ 32 0#32, constantI S_ 32 0#32] : Fin 4 → IVec S_ 32) k (Shape.Idx.first h_S_))) 3 0 rfl (by decide)
  match a with
  | ⟨0, _⟩ => exact e0
  | ⟨1, _⟩ => exact (congrArg (· + i.val) e1).trans (zero_add _)
  | ⟨2, _⟩ => exact (congrArg (· + h.val) e2).trans (zero_add _)
  | ⟨3, _⟩ => exact (congrArg (· + k.val) e3).trans (zero_add _)

theorem b14_read (i : Fin 64) (h : Fin 4) (k : Fin 256) : b14 j s (ix3 i h k) = s.main_v49_2 (ix4 ⟨j, hj⟩ i h k) := by
  pointwise [b14, b13, b12, b11, b10]
  refine congrArg s.main_v49_2 (funext fun a => Fin.ext ?_)
  have e0 := Host.clampedStart_of_le (s := S256x64x4x256) (t := S1x64x4x256) rfl (fun k => BitVec.toInt ((![constantI S_ 32 (BitVec.ofNat 32 j), constantI S_ 32 0#32, constantI S_ 32 0#32, constantI S_ 32 0#32] : Fin 4 → IVec S_ 32) k (Shape.Idx.first h_S_))) 0 j (toInt_small j hj) (show j + 1 ≤ 256 by omega)
  have e1 := Host.clampedStart_of_le (s := S256x64x4x256) (t := S1x64x4x256) rfl (fun k => BitVec.toInt ((![constantI S_ 32 (BitVec.ofNat 32 j), constantI S_ 32 0#32, constantI S_ 32 0#32, constantI S_ 32 0#32] : Fin 4 → IVec S_ 32) k (Shape.Idx.first h_S_))) 1 0 rfl (by decide)
  have e2 := Host.clampedStart_of_le (s := S256x64x4x256) (t := S1x64x4x256) rfl (fun k => BitVec.toInt ((![constantI S_ 32 (BitVec.ofNat 32 j), constantI S_ 32 0#32, constantI S_ 32 0#32, constantI S_ 32 0#32] : Fin 4 → IVec S_ 32) k (Shape.Idx.first h_S_))) 2 0 rfl (by decide)
  have e3 := Host.clampedStart_of_le (s := S256x64x4x256) (t := S1x64x4x256) rfl (fun k => BitVec.toInt ((![constantI S_ 32 (BitVec.ofNat 32 j), constantI S_ 32 0#32, constantI S_ 32 0#32, constantI S_ 32 0#32] : Fin 4 → IVec S_ 32) k (Shape.Idx.first h_S_))) 3 0 rfl (by decide)
  match a with
  | ⟨0, _⟩ => exact e0
  | ⟨1, _⟩ => exact (congrArg (· + i.val) e1).trans (zero_add _)
  | ⟨2, _⟩ => exact (congrArg (· + h.val) e2).trans (zero_add _)
  | ⟨3, _⟩ => exact (congrArg (· + k.val) e3).trans (zero_add _)

theorem b19_read (i : Fin 64) (h : Fin 4) (k : Fin 128) : b19 j s (ix3 i h k) = s.main_v49_3 (ix4 ⟨j, hj⟩ i h k) := by
  pointwise [b19, b18, b17, b16, b15]
  refine congrArg s.main_v49_3 (funext fun a => Fin.ext ?_)
  have e0 := Host.clampedStart_of_le (s := S256x64x4x128) (t := S1x64x4x128) rfl (fun k => BitVec.toInt ((![constantI S_ 32 (BitVec.ofNat 32 j), constantI S_ 32 0#32, constantI S_ 32 0#32, constantI S_ 32 0#32] : Fin 4 → IVec S_ 32) k (Shape.Idx.first h_S_))) 0 j (toInt_small j hj) (show j + 1 ≤ 256 by omega)
  have e1 := Host.clampedStart_of_le (s := S256x64x4x128) (t := S1x64x4x128) rfl (fun k => BitVec.toInt ((![constantI S_ 32 (BitVec.ofNat 32 j), constantI S_ 32 0#32, constantI S_ 32 0#32, constantI S_ 32 0#32] : Fin 4 → IVec S_ 32) k (Shape.Idx.first h_S_))) 1 0 rfl (by decide)
  have e2 := Host.clampedStart_of_le (s := S256x64x4x128) (t := S1x64x4x128) rfl (fun k => BitVec.toInt ((![constantI S_ 32 (BitVec.ofNat 32 j), constantI S_ 32 0#32, constantI S_ 32 0#32, constantI S_ 32 0#32] : Fin 4 → IVec S_ 32) k (Shape.Idx.first h_S_))) 2 0 rfl (by decide)
  have e3 := Host.clampedStart_of_le (s := S256x64x4x128) (t := S1x64x4x128) rfl (fun k => BitVec.toInt ((![constantI S_ 32 (BitVec.ofNat 32 j), constantI S_ 32 0#32, constantI S_ 32 0#32, constantI S_ 32 0#32] : Fin 4 → IVec S_ 32) k (Shape.Idx.first h_S_))) 3 0 rfl (by decide)
  match a with
  | ⟨0, _⟩ => exact e0
  | ⟨1, _⟩ => exact (congrArg (· + i.val) e1).trans (zero_add _)
  | ⟨2, _⟩ => exact (congrArg (· + h.val) e2).trans (zero_add _)
  | ⟨3, _⟩ => exact (congrArg (· + k.val) e3).trans (zero_add _)

theorem start3 :
    Host.clampedStart S256x64x1024 S1x64x1024 rfl (fun k => BitVec.toInt ((![constantI S_ 32 (BitVec.ofNat 32 j), constantI S_ 32 0#32, constantI S_ 32 0#32] : Fin 3 → IVec S_ 32) k (Shape.Idx.first h_S_))) 0 = j
    ∧ Host.clampedStart S256x64x1024 S1x64x1024 rfl (fun k => BitVec.toInt ((![constantI S_ 32 (BitVec.ofNat 32 j), constantI S_ 32 0#32, constantI S_ 32 0#32] : Fin 3 → IVec S_ 32) k (Shape.Idx.first h_S_))) 1 = 0
    ∧ Host.clampedStart S256x64x1024 S1x64x1024 rfl (fun k => BitVec.toInt ((![constantI S_ 32 (BitVec.ofNat 32 j), constantI S_ 32 0#32, constantI S_ 32 0#32] : Fin 3 → IVec S_ 32) k (Shape.Idx.first h_S_))) 2 = 0 :=
  ⟨Host.clampedStart_of_le _ _ 0 j (toInt_small j hj) (show j + 1 ≤ 256 by omega), Host.clampedStart_of_le _ _ 1 0 rfl (by decide),
    Host.clampedStart_of_le _ _ 2 0 rfl (by decide)⟩

theorem b23_read (i : Fin 64) (l : Fin 1024) : b23 j s (ix2 i l) = s.main_v49_4 (ix3 ⟨j, hj⟩ i l) := by
  pointwise [b23, b22, b21, b20]
  refine congrArg s.main_v49_4 (funext fun a => Fin.ext ?_)
  obtain ⟨e0, e1, e2⟩ := start3 j hj
  match a with
  | ⟨0, _⟩ => exact e0
  | ⟨1, _⟩ => exact (congrArg (· + i.val) e1).trans (zero_add _)
  | ⟨2, _⟩ => exact (congrArg (· + l.val) e2).trans (zero_add _)

theorem b98_read (c : Fin 256) (i : Fin 64) (l : Fin 1024) :
    b98 j s (ix3 c i l) = if c.val = j then b94 j s (ix2 i l) else s.main_v49_8 (ix3 c i l) := by
  pointwise [b98, b97, b96, b95]
  obtain ⟨e0, e1, e2⟩ := start3 j hj
  split
  · rename_i hc
    have hc' : c.val = j := by
      have h0 := hc.1.1; have h1 := hc.1.2
      rw [e0] at h0 h1; omega
    rw [if_pos hc']
    refine congrArg (b94 j s) (funext fun a => Fin.ext ?_)
    match a with
    | ⟨0, _⟩ => exact (congrArg (i.val - ·) e1).trans (Nat.sub_zero _)
    | ⟨1, _⟩ => exact (congrArg (l.val - ·) e2).trans (Nat.sub_zero _)
  · rename_i hc
    rw [if_neg]
    intro hcj
    refine hc ⟨⟨?_, ?_⟩, ?_, ?_⟩
    · rw [e0]; omega
    · rw [e0]; omega
    · rw [e1]; omega
    · rw [e2]; omega

/-- What the carried arrays hold, at chunk `j`'s indices. -/
structure Holds (L : Layer) : Prop where
  q : ∀ i h k, s.main_v49_0 (ix4 ⟨j, hj⟩ i h k) = L.qC h j i k
  k : ∀ i h k, s.main_v49_1 (ix4 ⟨j, hj⟩ i h k) = L.kC h j i k
  v : ∀ i h w, s.main_v49_2 (ix4 ⟨j, hj⟩ i h w) = L.vC h j i w
  lg : ∀ i h k, s.main_v49_3 (ix4 ⟨j, hj⟩ i h k) = L.lgC h j i k
  r : ∀ (i : Fin 64) (l : Fin 1024), s.main_v49_4 (ix3 ⟨j, hj⟩ i l) = L.rC ⟨l.val / 256, by omega⟩ j i ⟨l.val % 256, by omega⟩
  ng : ∀ w, s.main_v49_5 (ix2 0 w) = L.NG w
  S : ∀ h k w, s.main_v49_7 (ix3 h k w) = L.S h j k w

variable {j} {hj} {s} {L : Layer} (H : Holds j hj s L)
include H

theorem b27_read (i : Fin 64) (h : Fin 4) (k : Fin 128) : b27 j s (ix3 i h k) = cB (L.lgC h j) i k := by
  unfold b27
  rw [running _ _ (by pointwise [b26, b25]) i h k]
  unfold cB
  refine Finset.sum_congr rfl fun x _ => ?_
  rw [b19_read j hj s x h k, H.lg]

theorem b29_read (i : Fin 64) (h : Fin 4) (k : Fin 128) : b29 j s (ix3 i h k) = L.qC h j i k * Ideal.exp (cB (L.lgC h j) i k) := by
  pointwise [b29, b28]
  rw [b4_read j hj, b27_read H, H.q]

theorem b32_read (i : Fin 64) (h : Fin 4) (k : Fin 128) : b32 j s (ix3 i h k) = L.kC h j i k * Ideal.exp (-cB (L.lgC h j) i k) := by
  pointwise [b32, b31, b30]
  rw [b9_read j hj, b27_read H, H.k]

theorem b58_read (i : Fin 64) (h : Fin 4) (k : Fin 128) :
    b58 j s (ix3 i h k) = L.kC h j i k * Ideal.exp (cB (L.lgC h j) 63 k - cB (L.lgC h j) i k) := by
  pointwise [b58, b57, b56, b55, b54, b53, b52]
  rw [b9_read j hj, H.k]
  have e := b27_read H 63 h k
  have e' := b27_read H i h k
  simp only [e']
  exact congrArg (fun z => L.kC h j i k * Ideal.exp (z - cB (L.lgC h j) i k)) e

theorem b67_read (h : Fin 4) (k : Fin 128) (w : Fin 256) : b67 j s (ix3 h k w) = L.S h (j + 1) k w := by
  pointwise [b67, b66, b65, b64, b63, b62, b53, b52]
  show _ = cS (L.lgC h j) (L.kC h j) (L.vC h j) (L.S h j) k w
  unfold cS
  rw [H.S]
  refine congrArg₂ (· + ·) (congrArg (fun z => Ideal.exp z * L.S h j k w) (b27_read H 63 h k)) (Finset.sum_congr rfl fun x _ => ?_)
  rw [b58_read H, b14_read j hj, H.v]

theorem b49_read (h : Fin 4) (i x : Fin 64) :
    b49 j s (ix3 h i x) = if x ≤ i then ∑ k : Fin 128, (L.qC h j i k * Ideal.exp (cB (L.lgC h j) i k)) * (L.kC h j x k * Ideal.exp (-cB (L.lgC h j) x k)) else 0 := by
  pointwise [b49,b48,b47,b46,b45,b44,b43,b42,b41,b40,b39,b38,b37,b36,b35,b34,b33]
  rw [low_words i x]
  by_cases hx : x ≤ i
  · rw [if_pos hx, if_pos hx]
    have e : (∑ k : Fin 128, b29 j s (ix3 i h k) * b32 j s (ix3 x h k)) = ∑ k : Fin 128, (L.qC h j i k * Ideal.exp (cB (L.lgC h j) i k)) * (L.kC h j x k * Ideal.exp (-cB (L.lgC h j) x k)) :=
      Finset.sum_congr rfl fun k _ => by rw [b29_read H, b32_read H]
    exact e
  · rw [if_neg hx, if_neg hx]
    rfl

theorem b61_read (i : Fin 64) (h : Fin 4) (w : Fin 256) :
    b61 j s (ix3 i h w) = cO (L.lgC h j) (L.qC h j) (L.kC h j) (L.vC h j) (L.S h j) i w := by
  pointwise [b61, b60, b59, b51, b50]
  unfold cO
  refine congrArg₂ (· + ·) (Finset.sum_congr rfl fun x _ => ?_) (Finset.sum_congr rfl fun k _ => ?_)
  · rw [b49_read H, b14_read j hj, H.v]
    by_cases hx : x ≤ i
    · rw [if_pos hx, if_pos hx, mul_comm]
    · rw [if_neg hx, if_neg hx, mul_zero]
  · rw [H.S, b29_read H, mul_comm]

theorem b94_read (i : Fin 64) (l : Fin 1024) : b94 j s (ix2 i l) = L.oC ⟨l.val / 256, by omega⟩ j i ⟨l.val % 256, by omega⟩ := by
  pointwise [b94,b93,b92,b91,b90,b89,b88,b87,b86,b85,b84,b83, b82,b81,b80,b79,b78,b77,b76,b75,b74,b73,b72,b71,b70,b69,b68,b24]
  unfold Layer.oC gated
  simp only [b61_read H, b23_read j hj, H.ng, H.r]
  rfl

end

end Cert.ReferenceIdeal.Value

end
end
-- ==== Proof.RVal.lean ====
/- The reference's results, read at an index. -/
module

public import proofs.«01_k».proof.Proof.RStep

@[expose] public section

set_option maxRecDepth 16384

noncomputable section

namespace Cert.ReferenceIdeal.Value

open Idealize.ShloMosaic Cert.ReferenceIdeal Cert.ReferenceIdeal.Gen Cert.ReferenceIdeal.Step Cert.Spec

/-! ## The tail, as a few vector functions -/

abbrev M := FVec Ideal S16384x1024 .f32

def rowB (v : FVec Ideal S1x1024 .f32) : M := broadcastInDim S16384x1024 ![0, 1] bcast_S1x1024_S16384x1024_0_1 v
def colB (v : FVec Ideal S16384x1 .f32) : M := broadcastInDim S16384x1024 ![0, 1] bcast_S16384x1_S16384x1024_0_1 v
def zR (x : M) (g : FVec Ideal S1x1024 .f32) (y : M) : M :=
  addf (mulf (broadcastInDim S16384x1024 ![] bcast_S_S16384x1024 (constant S_ .f32 0x3FB504F3#32)) x) (mulf (rowB g) y)
def meanR (z : M) : FVec Ideal S16384x1 .f32 :=
  Host.divf (broadcastInDim S16384x1 ![0] bcast_S16384_S16384x1_0 (Host.reduceAdd z (constant S_ .f32 0x00000000#32) reducesTo_S16384x1024_S16384_d1 h_S_))
    (broadcastInDim S16384x1 ![] bcast_S_S16384x1 (constant S_ .f32 0x44800000#32))
def dR (z : M) : M := subf z (colB (meanR z))
def lnR (z : M) (w b : FVec Ideal S1024 .f32) : M :=
  addf (mulf (mulf (dR z) (colB (Host.rsqrt (addf (meanR (mulf (dR z) (dR z))) (broadcastInDim S16384x1 ![] bcast_S_S16384x1 (constant S_ .f32 0x3727C5AC#32))))))
    (rowB (broadcastInDim S1x1024 ![1] bcast_S1024_S1x1024_1 w))) (rowB (broadcastInDim S1x1024 ![1] bcast_S1024_S1x1024_1 b))
def attnR (o : FVec Ideal S256x64x1024 .f32) (wo : FVec Ideal S1x1024x1024 .f32) : M :=
  Host.dotGeneral dot_S16384x1024_S1024x1024_S16384x1024_1_0_0_1_n_n none (shapeCast S16384x1024 o shapeCasts_S256x64x1024_S16384x1024) (shapeCast S1024x1024 wo shapeCasts_S1x1024x1024_S1024x1024)
def x1R (x : M) (mod : FVec Ideal S4x136x3072 .f32) (o : FVec Ideal S256x64x1024 .f32) (wo : FVec Ideal S1x1024x1024 .f32) (lg lb : FVec Ideal S2x2x1024 .f32) : M :=
  lnR (zR x (shapeCast S1x1024 (extractStridedSlice S1x1x1024 ![2, 128, 2048] mod slices_S4x136x3072_S1x1x1024_2_128_2048) shapeCasts_S1x1x1024_S1x1024) (attnR o wo))
    (shapeCast S1024 (extractStridedSlice S1x1x1024 ![1, 0, 0] lg slices_S2x2x1024_S1x1x1024_1_0_0) shapeCasts_S1x1x1024_S1024)
    (shapeCast S1024 (extractStridedSlice S1x1x1024 ![1, 0, 0] lb slices_S2x2x1024_S1x1x1024_1_0_0) shapeCasts_S1x1x1024_S1024)
def h2R (x1 : M) (mod : FVec Ideal S4x136x3072 .f32) : M :=
  addf (mulf x1 (rowB (addf (broadcastInDim S1x1024 ![] bcast_S_S1x1024 (constant S_ .f32 0x3F800000#32)) (shapeCast S1x1024 (extractStridedSlice S1x1x1024 ![3, 128, 1024] mod slices_S4x136x3072_S1x1x1024_3_128_1024) shapeCasts_S1x1x1024_S1x1024))))
    (rowB (shapeCast S1x1024 (extractStridedSlice S1x1x1024 ![3, 128, 0] mod slices_S4x136x3072_S1x1x1024_3_128_0) shapeCasts_S1x1x1024_S1x1024))
def hidR (h : M) (w1 : FVec Ideal S2x1024x4096 .f32) : FVec Ideal S16384x4096 .f32 :=
  maximumf (Host.dotGeneral dot_S16384x1024_S1024x4096_S16384x4096_1_0_0_1_n_n none h (shapeCast S1024x4096 (extractStridedSlice S1x1024x4096 ![1, 0, 0] w1 slices_S2x1024x4096_S1x1024x4096_1_0_0) shapeCasts_S1x1024x4096_S1024x4096))
    (broadcastInDim S16384x4096 ![] bcast_S_S16384x4096 (constant S_ .f32 0x00000000#32))
def mlpR (u : FVec Ideal S16384x4096 .f32) (w2 : FVec Ideal S2x4096x1024 .f32) : M :=
  Host.dotGeneral dot_S16384x4096_S4096x1024_S16384x1024_1_0_0_1_n_n none (mulf u u) (shapeCast S4096x1024 (extractStridedSlice S1x4096x1024 ![1, 0, 0] w2 slices_S2x4096x1024_S1x4096x1024_1_0_0) shapeCasts_S1x4096x1024_S4096x1024)
def yR (x1 : M) (mod : FVec Ideal S4x136x3072 .f32) (w1 : FVec Ideal S2x1024x4096 .f32) (w2 : FVec Ideal S2x4096x1024 .f32) (lg lb : FVec Ideal S2x2x1024 .f32) : M :=
  lnR (zR x1 (shapeCast S1x1024 (extractStridedSlice S1x1x1024 ![3, 128, 2048] mod slices_S4x136x3072_S1x1x1024_3_128_2048) shapeCasts_S1x1x1024_S1x1024) (mlpR (hidR (h2R x1 mod) w1) w2))
    (shapeCast S1024 (extractStridedSlice S1x1x1024 ![1, 1, 0] lg slices_S2x2x1024_S1x1x1024_1_1_0) shapeCasts_S1x1x1024_S1024)
    (shapeCast S1024 (extractStridedSlice S1x1x1024 ![1, 1, 0] lb slices_S2x2x1024_S1x1x1024_1_1_0) shapeCasts_S1x1x1024_S1024)

theorem tail_eq (s : State Ideal) (a0 : M) (a1 : FVec Ideal S4x136x3072 .f32) (a6 : FVec Ideal S1x1024x1024 .f32) (a7 : FVec Ideal S2x1024x4096 .f32) (a8 : FVec Ideal S2x4096x1024 .f32) (a9 a10 : FVec Ideal S2x2x1024 .f32) :
    R_main_v140 s a0 a1 a6 a7 a8 a9 a10 = yR (x1R a0 a1 s.main_v49_8 a6 a9 a10) a1 a7 a8 a9 a10 := by
  unfold R_main_v140 yR x1R
  unfold mlpR hidR h2R attnR
  unfold lnR
  unfold dR
  unfold meanR
  unfold zR rowB colB
  rfl

theorem zR_read (x y : M) (g : FVec Ideal S1x1024 .f32) (R : Fin 16384) (l : Fin 1024) :
    zR x g y (ix2 R l) = resrow (fun l => x (ix2 R l)) (fun l => g (ix2 0 l)) (fun l => y (ix2 R l)) l := by
  pointwise [zR, rowB]
  rfl

theorem meanR_read (z : M) (R : Fin 16384) : meanR z (ix2 R 0) = mean (fun l => z (ix2 R l)) := by
  pointwise [meanR]
  rfl

theorem dR_read (z : M) (R : Fin 16384) (l : Fin 1024) : dR z (ix2 R l) = z (ix2 R l) - mean (fun l => z (ix2 R l)) := by
  pointwise [dR, colB]
  rw [meanR_read]

theorem lnR_read (z : M) (w b : FVec Ideal S1024 .f32) (R : Fin 16384) (l : Fin 1024) :
    lnR z w b (ix2 R l) = lnrow (fun l => z (ix2 R l)) (fun l => w (ix1 l)) (fun l => b (ix1 l)) l := by
  pointwise [lnR, rowB, colB]
  rw [meanR_read, dR_read]
  unfold lnrow
  refine congrArg (fun t => (z (ix2 R l) - mean fun l => z (ix2 R l)) * Ideal.rsqrt (t + Ideal.ofBits .f32 0x3727C5AC#32) * w (ix1 l) + b (ix1 l)) ?_
  refine congrArg mean (funext fun x => ?_)
  pointwise []
  rw [dR_read]

section
variable (a0 : M) (a1 : FVec Ideal S4x136x3072 .f32) (a2 : FVec Ideal S1x1024x3088 .f32) (a3 : FVec Ideal S1x16x512 .f32) (a4 : FVec Ideal S1x512 .f32)
  (a5 : FVec Ideal S1x256 .f32) (a6 : FVec Ideal S1x1024x1024 .f32) (a7 : FVec Ideal S2x1024x4096 .f32) (a8 : FVec Ideal S2x4096x1024 .f32) (a9 a10 : FVec Ideal S2x2x1024 .f32)

theorem attn_read (o : FVec Ideal S256x64x1024 .f32) (ho : ∀ c i l, o (ix3 c i l) = (layer a0 a1 a2 a3 a4 a5 a6 a7 a8 a9 a10).oC ⟨l.val / 256, by omega⟩ c.val i ⟨l.val % 256, by omega⟩)
    (R : Fin 16384) (l : Fin 1024) : attnR o a6 (ix2 R l) = ∑ x, (layer a0 a1 a2 a3 a4 a5 a6 a7 a8 a9 a10).o R x * (layer a0 a1 a2 a3 a4 a5 a6 a7 a8 a9 a10).WO x l := by
  pointwise [attnR]
  refine Finset.sum_congr rfl fun x _ => ?_
  rw [ho]
  rfl

theorem x1_read (o : FVec Ideal S256x64x1024 .f32) (ho : ∀ c i l, o (ix3 c i l) = (layer a0 a1 a2 a3 a4 a5 a6 a7 a8 a9 a10).oC ⟨l.val / 256, by omega⟩ c.val i ⟨l.val % 256, by omega⟩)
    (R : Fin 16384) (l : Fin 1024) : x1R a0 a1 o a6 a9 a10 (ix2 R l) = (layer a0 a1 a2 a3 a4 a5 a6 a7 a8 a9 a10).x1 R l := by
  unfold x1R
  rw [lnR_read]
  simp only [zR_read, attn_read a0 a1 a2 a3 a4 a5 a6 a7 a8 a9 a10 o ho]
  unfold Layer.x1
  congr 1 <;> funext t
  · congr 1; funext t; pointwise []; rfl
  · pointwise []; rfl
  · pointwise []; rfl

theorem y_read (x1 : M) (hx : ∀ R l, x1 (ix2 R l) = (layer a0 a1 a2 a3 a4 a5 a6 a7 a8 a9 a10).x1 R l) (R : Fin 16384) (l : Fin 1024) :
    yR x1 a1 a7 a8 a9 a10 (ix2 R l) = (layer a0 a1 a2 a3 a4 a5 a6 a7 a8 a9 a10).y R l := by
  have hh : ∀ R l, h2R x1 a1 (ix2 R l) = modrow ((layer a0 a1 a2 a3 a4 a5 a6 a7 a8 a9 a10).x1 R) (layer a0 a1 a2 a3 a4 a5 a6 a7 a8 a9 a10).sh2 (layer a0 a1 a2 a3 a4 a5 a6 a7 a8 a9 a10).sc2 l := by
    intro R l
    pointwise [h2R, rowB]
    rw [hx]; rfl
  have hu : ∀ R j, hidR (h2R x1 a1) a7 (ix2 R j) = max ((layer a0 a1 a2 a3 a4 a5 a6 a7 a8 a9 a10).hid R j) 0 := by
    intro R j
    pointwise [hidR]
    simp only [hh]
    rfl
  have hm : ∀ R l, mlpR (hidR (h2R x1 a1) a7) a8 (ix2 R l) = (layer a0 a1 a2 a3 a4 a5 a6 a7 a8 a9 a10).mlp R l := by
    intro R l
    pointwise [mlpR]
    simp only [hu]
    rfl
  unfold yR
  rw [lnR_read]
  simp only [zR_read, hm, hx]
  unfold Layer.y
  congr 1 <;> funext t
  · congr 1; funext t; pointwise []; rfl
  · pointwise []; rfl
  · pointwise []; rfl

/-! ## What the loop starts from -/

theorem prj_read (R : Fin 16384) (l : Fin 3088) : A_main_v11 (F := Ideal) a0 a1 a2 a3 a4 (ix2 R l) = (layer a0 a1 a2 a3 a4 a5 a6 a7 a8 a9 a10).prj R l := by
  pointwise [A_main_v11, A_main_v10, A_main_v9, A_main_v8, A_main_v7, A_main_v6, A_main_v5, A_main_v4, A_main_v3, A_main_v1, A_main_v0, K_main_v2, K_main_cst]
  rfl

theorem pre_read (R : Fin 16384) (l : Fin 512) : A_main_v22 (F := Ideal) a0 a1 a2 a3 a4 (ix2 R l) = (layer a0 a1 a2 a3 a4 a5 a6 a7 a8 a9 a10).pre R l := by
  pointwise [A_main_v22, A_main_v21, A_main_v20, A_main_v19, A_main_v18, A_main_v17, A_main_v16]
  simp only [prj_read a0 a1 a2 a3 a4 a5 a6 a7 a8 a9 a10]
  rfl

theorem rowC (c : Fin 256) (i : Fin 64) (h : c.val * 64 + i.val < 16384) : (⟨c.val * 64 + i.val, h⟩ : Fin 16384) = Layer.row c.val i :=
  Fin.ext (by show c.val * 64 + i.val = c.val % 256 * 64 + i.val; rw [Nat.mod_eq_of_lt c.isLt])

theorem lg_read (c : Fin 256) (i : Fin 64) (h : Fin 4) (k : Fin 128) : A_main_v45 (F := Ideal) a0 a1 a2 a3 a4 (ix4 c i h k) = (layer a0 a1 a2 a3 a4 a5 a6 a7 a8 a9 a10).lgC h c.val i k := by
  pointwise [A_main_v45, A_main_v39, A_main_v37, A_main_v36, A_main_v35, A_main_v34, A_main_v33, A_main_v32, A_main_v31, A_main_v30, A_main_v28, A_main_v27, A_main_v25, A_main_v23, K_main_v24, K_main_v26, K_main_v29, K_main_v38, K_main_cst_0, K_main_cst_1]
  rw [if_neg (fun h => h rfl)]
  rw [rowC]
  exact (lgat_ref _).trans (congrArg lgat (pre_read a0 a1 a2 a3 a4 a5 a6 a7 a8 a9 a10 _ _))

/-! ## The loop -/

theorem start_holds (j : ℕ) (hj : j < 256) (s : State Ideal) (h0 : s.main_v49_0 = A_main_v42 a0 a1 a2 a3 a4) (h1 : s.main_v49_1 = A_main_v43 a0 a1 a2 a3 a4)
    (h2 : s.main_v49_2 = A_main_v44 a0 a1 a2 a3 a4) (h3 : s.main_v49_3 = A_main_v45 a0 a1 a2 a3 a4) (h4 : s.main_v49_4 = A_main_v47 a0 a1 a2 a3 a4)
    (h5 : s.main_v49_5 = a5) (hS : ∀ h k w, s.main_v49_7 (ix3 h k w) = (layer a0 a1 a2 a3 a4 a5 a6 a7 a8 a9 a10).S h j k w) : Holds j hj s (layer a0 a1 a2 a3 a4 a5 a6 a7 a8 a9 a10) where
  q i h k := by
    rw [h0]; pointwise [A_main_v42, A_main_v40, A_main_v12, K_main_v41, K_main_cst_2]
    rw [prj_read a0 a1 a2 a3 a4 a5 a6 a7 a8 a9 a10, rowC ⟨j, hj⟩]; rfl
  k i h k := by
    rw [h1]; pointwise [A_main_v43, A_main_v13]
    rw [prj_read a0 a1 a2 a3 a4 a5 a6 a7 a8 a9 a10, rowC ⟨j, hj⟩]; rfl
  v i h k := by
    rw [h2]; pointwise [A_main_v44, A_main_v14]
    rw [prj_read a0 a1 a2 a3 a4 a5 a6 a7 a8 a9 a10, rowC ⟨j, hj⟩]; rfl
  lg i h k := by rw [h3]; exact lg_read a0 a1 a2 a3 a4 a5 a6 a7 a8 a9 a10 ⟨j, hj⟩ i h k
  r i l := by
    rw [h4]; pointwise [A_main_v47, A_main_v15]
    rw [prj_read a0 a1 a2 a3 a4 a5 a6 a7 a8 a9 a10, rowC ⟨j, hj⟩]
    exact congrArg ((layer a0 a1 a2 a3 a4 a5 a6 a7 a8 a9 a10).prj _) (Fin.ext (by show 2048 + l.val = 2048 + (l.val / 256 * 256 + l.val % 256); omega))
  ng w := by rw [h5]; rfl
  S := hS

/-- The loop's states, from its first. -/
theorem loop_read (it : ℕ → State Ideal) (h0 : it 0 = init a5 a0 a1 a2 a3 a4) (hs : ∀ n, it (n + 1) = step n (it n)) (n : ℕ) (hn : n ≤ 256) :
    ((it n).main_v49_0 = A_main_v42 a0 a1 a2 a3 a4 ∧ (it n).main_v49_1 = A_main_v43 a0 a1 a2 a3 a4
      ∧ (it n).main_v49_2 = A_main_v44 a0 a1 a2 a3 a4 ∧ (it n).main_v49_3 = A_main_v45 a0 a1 a2 a3 a4 ∧ (it n).main_v49_4 = A_main_v47 a0 a1 a2 a3 a4
      ∧ (it n).main_v49_5 = a5) ∧ (∀ h k w, (it n).main_v49_7 (ix3 h k w) = (layer a0 a1 a2 a3 a4 a5 a6 a7 a8 a9 a10).S h n k w)
      ∧ ∀ (c : Fin 256) (i : Fin 64) (l : Fin 1024), c.val < n → (it n).main_v49_8 (ix3 c i l) = (layer a0 a1 a2 a3 a4 a5 a6 a7 a8 a9 a10).oC ⟨l.val / 256, by omega⟩ c.val i ⟨l.val % 256, by omega⟩ := by
  induction n with
  | zero =>
    rw [h0]
    refine ⟨⟨rfl, rfl, rfl, rfl, rfl, rfl⟩, fun h k w => ?_, fun c i l hc => absurd hc (by omega)⟩
    show K_main_v46 (ix3 h k w) = 0
    pointwise [K_main_v46, K_main_cst_3]
  | succ n ih =>
    obtain ⟨⟨e0, e1, e2, e3, e4, e5⟩, eS, eo⟩ := ih (by omega)
    have H := start_holds a0 a1 a2 a3 a4 a5 a6 a7 a8 a9 a10 n (by omega) (it n) e0 e1 e2 e3 e4 e5 eS
    rw [hs n]
    refine ⟨⟨e0, e1, e2, e3, e4, e5⟩, fun h k w => ?_, fun c i l hc => ?_⟩
    · rw [step_main_v49_7]; exact b67_read H h k w
    · rw [step_main_v49_8, b98_read n (by omega)]
      by_cases hcn : c.val = n
      · rw [if_pos hcn, b94_read H, hcn]
      · rw [if_neg hcn]; exact eo c i l (by omega)

/-- The reference's two results. -/
theorem results (it : ℕ → State Ideal) (h0 : it 0 = init a5 a0 a1 a2 a3 a4) (hs : ∀ n, it (n + 1) = step n (it n)) :
    (∀ R l, R_main_v140 (it 256) a0 a1 a6 a7 a8 a9 a10 (ix2 R l) = (layer a0 a1 a2 a3 a4 a5 a6 a7 a8 a9 a10).y R l)
      ∧ ∀ h k w, (it 256).main_v49_7 (ix3 h k w) = (layer a0 a1 a2 a3 a4 a5 a6 a7 a8 a9 a10).S h 256 k w := by
  obtain ⟨-, eS, eo⟩ := loop_read a0 a1 a2 a3 a4 a5 a6 a7 a8 a9 a10 it h0 hs 256 (le_refl _)
  refine ⟨fun R l => ?_, eS⟩
  rw [tail_eq]
  exact y_read a0 a1 a2 a3 a4 a5 a6 a7 a8 a9 a10 _ (fun R l => x1_read a0 a1 a2 a3 a4 a5 a6 a7 a8 a9 a10 _ (fun c i l => eo c i l c.isLt) R l) R l

end

end Cert.ReferenceIdeal.Value

end
end
-- ==== Proof.lean ====
/- The proof of the five claims: the kernel's frame at both programs by one run, the reference's frame, and the equality of the
   kernel's two results with the reference's. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Step
public import proofs.«01_k».proof.Proof.Gen.ReferenceIdeal.Run
public import proofs.«01_k».proof.Proof.Blocks
public import proofs.«01_k».proof.Proof.Same
public import proofs.«01_k».proof.Proof.Ends
public import proofs.«01_k».proof.Proof.RefRun
public import proofs.«01_k».proof.Proof.RVal
public import Idealize.ShloMosaic.Adequacy
public import Idealize.ShloMosaic.Init

@[expose] public section

noncomputable section

namespace Cert.Proof

open Idealize.ShloMosaic Idealize.SL.Sem

set_option maxHeartbeats 0 in
theorem frame_kernel : Cert.quiescent_Kernel := fun m ρ _ => by
  rw [Cert.Same.defs]
  exact (θ_run Cert.KernelIdeal.defs _ _).mono (fun _ h => h) (Cert.KernelIdeal.Gen.frame (F := Bits) m ρ)

theorem frame_ideal : Cert.quiescent_KernelIdeal := fun m ρ _ =>
  (θ_run Cert.KernelIdeal.defs _ _).mono (fun _ h => h) (Cert.KernelIdeal.Gen.frame (F := Ideal) m ρ)

/-- The states of the reference's loop. -/
def states (m : (ℓ : Loc Cert.ReferenceIdeal.nD Cert.ReferenceIdeal.τ Cert.ReferenceIdeal.sig) → Buf (Elt Ideal) ℓ) (c : Dev Cert.ReferenceIdeal.nD) :
    ℕ → Cert.ReferenceIdeal.Step.State Ideal
  | 0 => Cert.ReferenceIdeal.StepRun.initState m c
  | n + 1 => Cert.ReferenceIdeal.Step.step n (states m c n)

/-- The reference has no semaphore: its counters are the empty function. -/
theorem sems {α : Type} (f g : GSem Cert.ReferenceIdeal.nD Cert.ReferenceIdeal.τ Cert.ReferenceIdeal.sig → α) : f = g := by
  funext x
  rcases x with ⟨_, (s | s)⟩ <;> exact absurd s.isLt (Nat.not_lt_zero _)

theorem frame_reference : Cert.quiescent_ReferenceIdeal := fun m ρ _ =>
  (θ_run Cert.ReferenceIdeal.defs _ _).mono (fun _ h => ⟨fun c => (h c).2.2, sems _ _⟩) (Cert.ReferenceIdeal.Value.run (F := Ideal) m ρ)

theorem equal : Cert.algebraic_KernelIdeal_ReferenceIdeal := fun m ρ m' ρ' _ hargs => by
  refine ⟨fun c => Cert.KernelIdeal.Value.Y (Cert.KernelIdeal.Value.lay m c), fun c => Cert.KernelIdeal.Value.ST (Cert.KernelIdeal.Value.lay m c),
    (θ_run Cert.KernelIdeal.defs _ _).mono (fun _ h c => ?_) (Cert.KernelIdeal.Value.run_blocks (F := Ideal) m ρ),
    (θ_run Cert.ReferenceIdeal.defs _ _).mono (fun _ h c => ?_)
      (Cert.ReferenceIdeal.StepRun.run_iter m' ρ' (states m') (fun _ => rfl) (fun _ _ => rfl))⟩
  · obtain ⟨h0, h1, hr⟩ := h c
    exact ⟨h0.trans (Cert.KernelIdeal.Value.end25 m c), h1.trans (Cert.KernelIdeal.Value.end26 m c), hr⟩
  · obtain ⟨h0, h1, hr⟩ := h c
    obtain ⟨e0, e1, e2, e3, e4, e5, e6, e7, e8, e9, e10, -⟩ := hargs c
    have H := Cert.ReferenceIdeal.Value.results (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10)) (states m' c) rfl (fun _ => rfl)
    rw [e0, e1, e2, e3, e4, e5, e6, e7, e8, e9, e10] at H
    rw [e0, e1, e6, e7, e8, e9, e10] at h0
    refine ⟨h0.trans ?_, h1.trans ?_, hr⟩
    · funext i
      obtain ⟨R, l, rfl⟩ : ∃ (R : Fin 16384) (l : Fin 1024), i = ix2 R l := ⟨i 0, i 1, eq_ix2 i⟩
      exact H.1 R l
    · funext i
      obtain ⟨g, k, w, rfl⟩ : ∃ (g : Fin 4) (k : Fin 128) (w : Fin 256), i = ix3 g k w := ⟨i 0, i 1, i 2, eq_ix3 i⟩
      exact H.2 g k w

theorem claim : Cert.Claim :=
  ⟨Cert.Kernel.Gen.facts, Cert.KernelIdeal.Gen.facts, Cert.ReferenceIdeal.Gen.facts, frame_kernel, frame_ideal, frame_reference, trivial, equal⟩

end Cert.Proof

end
